-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x5120 : Shape := ⟨3, ![6, 2048, 5120]⟩
abbrev S6x2048 : Shape := ⟨2, ![6, 2048]⟩
abbrev S5120 : Shape := ⟨1, ![5120]⟩
abbrev S5120x7168 : Shape := ⟨2, ![5120, 7168]⟩
abbrev S7168 : Shape := ⟨1, ![7168]⟩
abbrev S6x2048x7168 : Shape := ⟨3, ![6, 2048, 7168]⟩
abbrev S6x2048x56 : Shape := ⟨3, ![6, 2048, 56]⟩
abbrev S12288x5120 : Shape := ⟨2, ![12288, 5120]⟩
abbrev S12288x7168 : Shape := ⟨2, ![12288, 7168]⟩
abbrev S12288x56 : Shape := ⟨2, ![12288, 56]⟩
abbrev S12288x1 : Shape := ⟨2, ![12288, 1]⟩
abbrev S1x5120 : Shape := ⟨2, ![1, 5120]⟩
abbrev S1x7168 : Shape := ⟨2, ![1, 7168]⟩
abbrev S5120x12288 : Shape := ⟨2, ![5120, 12288]⟩
abbrev S256x7168 : Shape := ⟨2, ![256, 7168]⟩
abbrev S256x56 : Shape := ⟨2, ![256, 56]⟩
abbrev S1280x7168 : Shape := ⟨2, ![1280, 7168]⟩
abbrev S256x5120 : Shape := ⟨2, ![256, 5120]⟩
abbrev S256x1 : Shape := ⟨2, ![256, 1]⟩
abbrev S1280x256 : Shape := ⟨2, ![1280, 256]⟩
abbrev S8x5120 : Shape := ⟨2, ![8, 5120]⟩
abbrev S256x128 : Shape := ⟨2, ![256, 128]⟩
abbrev S1x128 : Shape := ⟨2, ![1, 128]⟩
abbrev S256x1280 : Shape := ⟨2, ![256, 1280]⟩
abbrev S1x1280 : Shape := ⟨2, ![1, 1280]⟩
abbrev S64x1 : Shape := ⟨2, ![64, 1]⟩
abbrev S64x128 : Shape := ⟨2, ![64, 128]⟩
abbrev S8x128 : Shape := ⟨2, ![8, 128]⟩
abbrev S8x8x128 : Shape := ⟨3, ![8, 8, 128]⟩
abbrev S64 : Shape := ⟨1, ![64]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 22
  | .vmem => 30
  | .smem => 0
  | _ => 0

abbrev bufTy : (tb : Table) → Fin (tcTables nBuf tb) → BufTy
  | .hbm, ⟨0, _⟩ => ⟨S6x2048x5120, .fp8e4m3⟩
  | .hbm, ⟨1, _⟩ => ⟨S6x2048, .f32⟩
  | .hbm, ⟨2, _⟩ => ⟨S6x2048, .f32⟩
  | .hbm, ⟨3, _⟩ => ⟨S5120, .f32⟩
  | .hbm, ⟨4, _⟩ => ⟨S5120x7168, .fp8e4m3⟩
  | .hbm, ⟨5, _⟩ => ⟨S7168, .f32⟩
  | .hbm, ⟨6, _⟩ => ⟨S6x2048x7168, .fp8e5m2⟩
  | .hbm, ⟨7, _⟩ => ⟨S6x2048x56, .f32⟩
  | .hbm, ⟨8, _⟩ => ⟨S12288x5120, .fp8e4m3⟩
  | .hbm, ⟨9, _⟩ => ⟨S12288x7168, .fp8e5m2⟩
  | .hbm, ⟨10, _⟩ => ⟨S12288x56, .f32⟩
  | .hbm, ⟨11, _⟩ => ⟨S12288x1, .f32⟩
  | .hbm, ⟨12, _⟩ => ⟨S12288x1, .f32⟩
  | .hbm, ⟨13, _⟩ => ⟨S1x5120, .f32⟩
  | .hbm, ⟨14, _⟩ => ⟨S1x7168, .f32⟩
  | .hbm, ⟨15, _⟩ => ⟨S12288x5120, .bf16⟩
  | .hbm, ⟨16, _⟩ => ⟨S5120x12288, .bf16⟩
  | .hbm, ⟨17, _⟩ => ⟨S12288x7168, .bf16⟩
  | .hbm, ⟨18, _⟩ => ⟨S1x5120, .f32⟩
  | .hbm, ⟨19, _⟩ => ⟨S5120x7168, .f32⟩
  | .hbm, ⟨20, _⟩ => ⟨S6x2048x5120, .bf16⟩
  | .hbm, ⟨21, _⟩ => ⟨S5120, .f32⟩
  | .local _ .vmem, ⟨0, _⟩ => ⟨S256x7168, .fp8e5m2⟩
  | .local _ .vmem, ⟨1, _⟩ => ⟨S256x7168, .fp8e5m2⟩
  | .local _ .vmem, ⟨2, _⟩ => ⟨S256x56, .f32⟩
  | .local _ .vmem, ⟨3, _⟩ => ⟨S256x56, .f32⟩
  | .local _ .vmem, ⟨4, _⟩ => ⟨S1x7168, .f32⟩
  | .local _ .vmem, ⟨5, _⟩ => ⟨S1280x7168, .fp8e4m3⟩
  | .local _ .vmem, ⟨6, _⟩ => ⟨S1280x7168, .fp8e4m3⟩
  | .local _ .vmem, ⟨7, _⟩ => ⟨S256x5120, .fp8e4m3⟩
  | .local _ .vmem, ⟨8, _⟩ => ⟨S256x5120, .fp8e4m3⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S1x5120, .f32⟩
  | .local _ .vmem, ⟨14, _⟩ => ⟨S256x5120, .bf16⟩
  | .local _ .vmem, ⟨15, _⟩ => ⟨S256x5120, .bf16⟩
  | .local _ .vmem, ⟨16, _⟩ => ⟨S1280x256, .bf16⟩
  | .local _ .vmem, ⟨17, _⟩ => ⟨S1280x256, .bf16⟩
  | .local _ .vmem, ⟨18, _⟩ => ⟨S256x7168, .bf16⟩
  | .local _ .vmem, ⟨19, _⟩ => ⟨S256x7168, .bf16⟩
  | .local _ .vmem, ⟨20, _⟩ => ⟨S1x5120, .f32⟩
  | .local _ .vmem, ⟨21, _⟩ => ⟨S256x7168, .bf16⟩
  | .local _ .vmem, ⟨22, _⟩ => ⟨S256x5120, .f32⟩
  | .local _ .vmem, ⟨23, _⟩ => ⟨S8x5120, .f32⟩
  | .local _ .vmem, ⟨24, _⟩ => ⟨S1024x2048, .bf16⟩
  | .local _ .vmem, ⟨25, _⟩ => ⟨S1024x2048, .bf16⟩
  | .local _ .vmem, ⟨26, _⟩ => ⟨S2048x1792, .bf16⟩
  | .local _ .vmem, ⟨27, _⟩ => ⟨S2048x1792, .bf16⟩
  | .local _ .vmem, ⟨28, _⟩ => ⟨S1024x1792, .f32⟩
  | .local _ .vmem, ⟨29, _⟩ => ⟨S1024x1792, .f32⟩
  | _, _ => ⟨S6x2048x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26

abbrev nD : Nat := 1
abbrev τ : Topo := Topo.v7x

variable {F : FTy → Type} [FloatOps F]

abbrev grid0 : Pipeline.Grid := ⟨2, ![48, 4], ![false, false]⟩

def k0_mult1 (i : grid0.Coords) : BitVec 32 :=
  let arg1 : BitVec 32 := BitVec.ofNat 32 (i 1).val
  let c1280_i32 : BitVec 32 := 1280#32
  let v13 : BitVec 32 := Scalar.muli arg1 c1280_i32
  v13
def k0_off1 (i : grid0.Coords) : Fin 2 → Nat :=
  let c0_7 : Index := 0#32
  let arg1 : BitVec 32 := BitVec.ofNat 32 (i 1).val
  let c1280_i32 : BitVec 32 := 1280#32
  let v13 : BitVec 32 := Scalar.muli arg1 c1280_i32
  let v14 : BitVec 32 := v13
  let v15 : Index := Scalar.indexCast v14
  ![0, v15.toNat]
def k0_off2 (i : grid0.Coords) : Fin 2 → Nat :=
  let c0_8 : Index := 0#32
  let arg1 : BitVec 32 := BitVec.ofNat 32 (i 1).val
  let c1280_i32 : BitVec 32 := 1280#32
  let v13 : BitVec 32 := Scalar.muli arg1 c1280_i32
  let v14 : BitVec 32 := v13
  let v21 : Index := Scalar.indexCast v14
  ![0, v21.toNat]
def k0_cond3 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_16 : BitVec 32 := 0#32
  let v38 : BitVec 1 := Scalar.cmpi .ne v37 c0_i32_16
  v38

@[reducible] def k0_t1_loop : Scf.Loop 32 :=
  let c0_i32_19 : BitVec 32 := 0#32
  let c4_i32 : BitVec 32 := 4#32
  let v44 : BitVec 32 := Scalar.addi c0_i32_19 c4_i32
  let c1_i32 : BitVec 32 := 1#32
  ⟨c0_i32_19, v44, c1_i32⟩
def k0_mult2 (k0_t1 : Fin k0_t1_loop.trips) : BitVec 32 :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  v47
def k0_off3 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v49 : Index := Scalar.indexCast v48
  let c0_23 : Index := 0#32
  ![v49.toNat, 0]
def k0_off4 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v57 : Index := Scalar.indexCast v48
  let c0_26 : Index := 0#32
  ![v57.toNat, 0]
def k0_off5 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v78 : Index := Scalar.indexCast v48
  let c128 : Index := 128#32
  ![v78.toNat, 128]
def k0_off6 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v99 : Index := Scalar.indexCast v48
  let c256 : Index := 256#32
  ![v99.toNat, 256]
def k0_off7 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v120 : Index := Scalar.indexCast v48
  let c384 : Index := 384#32
  ![v120.toNat, 384]
def k0_off8 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v141 : Index := Scalar.indexCast v48
  let c512 : Index := 512#32
  ![v141.toNat, 512]
def k0_off9 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v162 : Index := Scalar.indexCast v48
  let c640 : Index := 640#32
  ![v162.toNat, 640]
def k0_off10 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v183 : Index := Scalar.indexCast v48
  let c768 : Index := 768#32
  ![v183.toNat, 768]
def k0_off11 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v204 : Index := Scalar.indexCast v48
  let c896 : Index := 896#32
  ![v204.toNat, 896]
def k0_off12 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v225 : Index := Scalar.indexCast v48
  let c1024 : Index := 1024#32
  ![v225.toNat, 1024]
def k0_off13 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v246 : Index := Scalar.indexCast v48
  let c1152 : Index := 1152#32
  ![v246.toNat, 1152]
def k0_off14 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v267 : Index := Scalar.indexCast v48
  let c1280 : Index := 1280#32
  ![v267.toNat, 1280]
def k0_off15 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v288 : Index := Scalar.indexCast v48
  let c1408 : Index := 1408#32
  ![v288.toNat, 1408]
def k0_off16 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v309 : Index := Scalar.indexCast v48
  let c1536 : Index := 1536#32
  ![v309.toNat, 1536]
def k0_off17 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v330 : Index := Scalar.indexCast v48
  let c1664 : Index := 1664#32
  ![v330.toNat, 1664]
def k0_off18 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v351 : Index := Scalar.indexCast v48
  let c1792 : Index := 1792#32
  ![v351.toNat, 1792]
def k0_off19 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v372 : Index := Scalar.indexCast v48
  let c1920 : Index := 1920#32
  ![v372.toNat, 1920]
def k0_off20 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v393 : Index := Scalar.indexCast v48
  let c2048 : Index := 2048#32
  ![v393.toNat, 2048]
def k0_off21 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v414 : Index := Scalar.indexCast v48
  let c2176 : Index := 2176#32
  ![v414.toNat, 2176]
def k0_off22 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v435 : Index := Scalar.indexCast v48
  let c2304 : Index := 2304#32
  ![v435.toNat, 2304]
def k0_off23 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v456 : Index := Scalar.indexCast v48
  let c2432 : Index := 2432#32
  ![v456.toNat, 2432]
def k0_off24 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v477 : Index := Scalar.indexCast v48
  let c2560 : Index := 2560#32
  ![v477.toNat, 2560]
def k0_off25 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v498 : Index := Scalar.indexCast v48
  let c2688 : Index := 2688#32
  ![v498.toNat, 2688]
def k0_off26 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v519 : Index := Scalar.indexCast v48
  let c2816 : Index := 2816#32
  ![v519.toNat, 2816]
def k0_off27 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v540 : Index := Scalar.indexCast v48
  let c2944 : Index := 2944#32
  ![v540.toNat, 2944]
def k0_off28 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v561 : Index := Scalar.indexCast v48
  let c3072 : Index := 3072#32
  ![v561.toNat, 3072]
def k0_off29 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v582 : Index := Scalar.indexCast v48
  let c3200 : Index := 3200#32
  ![v582.toNat, 3200]
def k0_off30 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v603 : Index := Scalar.indexCast v48
  let c3328 : Index := 3328#32
  ![v603.toNat, 3328]
def k0_off31 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v624 : Index := Scalar.indexCast v48
  let c3456 : Index := 3456#32
  ![v624.toNat, 3456]
def k0_off32 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v645 : Index := Scalar.indexCast v48
  let c3584 : Index := 3584#32
  ![v645.toNat, 3584]
def k0_off33 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v666 : Index := Scalar.indexCast v48
  let c3712 : Index := 3712#32
  ![v666.toNat, 3712]
def k0_off34 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v687 : Index := Scalar.indexCast v48
  let c3840 : Index := 3840#32
  ![v687.toNat, 3840]
def k0_off35 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v708 : Index := Scalar.indexCast v48
  let c3968 : Index := 3968#32
  ![v708.toNat, 3968]
def k0_off36 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v729 : Index := Scalar.indexCast v48
  let c4096 : Index := 4096#32
  ![v729.toNat, 4096]
def k0_off37 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v750 : Index := Scalar.indexCast v48
  let c4224 : Index := 4224#32
  ![v750.toNat, 4224]
def k0_off38 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v771 : Index := Scalar.indexCast v48
  let c4352 : Index := 4352#32
  ![v771.toNat, 4352]
def k0_off39 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v792 : Index := Scalar.indexCast v48
  let c4480 : Index := 4480#32
  ![v792.toNat, 4480]
def k0_off40 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v813 : Index := Scalar.indexCast v48
  let c4608 : Index := 4608#32
  ![v813.toNat, 4608]
def k0_off41 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v834 : Index := Scalar.indexCast v48
  let c4736 : Index := 4736#32
  ![v834.toNat, 4736]
def k0_off42 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v855 : Index := Scalar.indexCast v48
  let c4864 : Index := 4864#32
  ![v855.toNat, 4864]
def k0_off43 (k0_t1 : Fin k0_t1_loop.trips) : Fin 2 → Nat :=
  let c0_i32_22 : BitVec 32 := 0#32
  let c0_i32_19 : BitVec 32 := 0#32
  let c1_i32 : BitVec 32 := 1#32
  let arg17 : BitVec 32 := Scf.iv c0_i32_19 c1_i32 k0_t1
  let c1_i32_21 : BitVec 32 := 1#32
  let v45 : BitVec 32 := Scalar.muli arg17 c1_i32_21
  let v46 : BitVec 32 := Scalar.addi c0_i32_22 v45
  let c64_i32 : BitVec 32 := 64#32
  let v47 : BitVec 32 := Scalar.muli v46 c64_i32
  let v48 : BitVec 32 := v47
  let v876 : Index := Scalar.indexCast v48
  let c4992 : Index := 4992#32
  ![v876.toNat, 4992]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond4 (i : grid0.Coords) : BitVec 1 :=
  let arg0 : BitVec 32 := BitVec.ofNat 32 (i 0).val
  let c47_i32 : BitVec 32 := 47#32
  let v39 : BitVec 1 := Scalar.cmpi .eq arg0 c47_i32
  let arg1 : BitVec 32 := BitVec.ofNat 32 (i 1).val
  let c3_i32_17 : BitVec 32 := 3#32
  let v40 : BitVec 1 := Scalar.cmpi .eq arg1 c3_i32_17
  let v41 : BitVec 1 := Scalar.andi v39 v40
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7168 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1280x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x5120 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x5120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1280x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x7168 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x5120 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev grid1 : Pipeline.Grid := ⟨3, ![5, 4, 6], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1792 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1792 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== KernelIdeal.lean ====
variable {F : FTy → Type} [FloatOps F] [Named F]
def κ : String → Option EReal := fun
  | "inv_d" => some ((1 / 5120 : ℝ) : EReal)
  | _ => none
-- ==== ReferenceIdeal.lean ====
abbrev S6x2048x5120 : Shape := ⟨3, ![6, 2048, 5120]⟩
abbrev S6x2048 : Shape := ⟨2, ![6, 2048]⟩
abbrev S5120 : Shape := ⟨1, ![5120]⟩
abbrev S5120x7168 : Shape := ⟨2, ![5120, 7168]⟩
abbrev S7168 : Shape := ⟨1, ![7168]⟩
abbrev S6x2048x7168 : Shape := ⟨3, ![6, 2048, 7168]⟩
abbrev S6x2048x56 : Shape := ⟨3, ![6, 2048, 56]⟩
abbrev S6x2048x1 : Shape := ⟨3, ![6, 2048, 1]⟩
abbrev S1x1x5120 : Shape := ⟨3, ![1, 1, 5120]⟩
abbrev S6x2048x56x128 : Shape := ⟨4, ![6, 2048, 56, 128]⟩
abbrev S6x2048x56x1 : Shape := ⟨4, ![6, 2048, 56, 1]⟩
abbrev S1x7168 : Shape := ⟨2, ![1, 7168]⟩

abbrev nBuf : Space → Nat
  | .hbm => 11
  | .vmem => 11
  | .smem => 0
  | _ => 0

abbrev bufTy : (tb : Table) → Fin (tcTables nBuf tb) → BufTy
  | .hbm, ⟨0, _⟩ => ⟨S6x2048x5120, .fp8e4m3⟩
  | .hbm, ⟨1, _⟩ => ⟨S6x2048, .f32⟩
  | .hbm, ⟨2, _⟩ => ⟨S6x2048, .f32⟩
  | .hbm, ⟨3, _⟩ => ⟨S5120, .f32⟩
  | .hbm, ⟨4, _⟩ => ⟨S5120x7168, .fp8e4m3⟩
  | .hbm, ⟨5, _⟩ => ⟨S7168, .f32⟩
  | .hbm, ⟨6, _⟩ => ⟨S6x2048x7168, .fp8e5m2⟩
  | .hbm, ⟨7, _⟩ => ⟨S6x2048x56, .f32⟩
  | .hbm, ⟨8, _⟩ => ⟨S6x2048x5120, .bf16⟩
  | .hbm, ⟨9, _⟩ => ⟨S5120x7168, .f32⟩
  | .hbm, ⟨10, _⟩ => ⟨S5120, .f32⟩
  | .local _ .vmem, ⟨0, _⟩ => ⟨S6x2048x5120, .fp8e4m3⟩
  | .local _ .vmem, ⟨1, _⟩ => ⟨S6x2048, .f32⟩
  | .local _ .vmem, ⟨2, _⟩ => ⟨S6x2048, .f32⟩
  | .local _ .vmem, ⟨3, _⟩ => ⟨S5120, .f32⟩
  | .local _ .vmem, ⟨4, _⟩ => ⟨S5120x7168, .fp8e4m3⟩
  | .local _ .vmem, ⟨5, _⟩ => ⟨S7168, .f32⟩
  | .local _ .vmem, ⟨6, _⟩ => ⟨S6x2048x7168, .fp8e5m2⟩
  | .local _ .vmem, ⟨7, _⟩ => ⟨S6x2048x56, .f32⟩
  | .local _ .vmem, ⟨8, _⟩ => ⟨S6x2048x5120, .bf16⟩
  | .local _ .vmem, ⟨9, _⟩ => ⟨S5120x7168, .f32⟩
  | .local _ .vmem, ⟨10, _⟩ => ⟨S5120, .f32⟩
  | _, _ => ⟨S6x2048x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6x2048x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2048x7168 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2048x56 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x2048x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5120x7168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Conds.lean ====
module

public import proofs.«01_k».proof.Proof.Gen.Kernel.Loops
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The first grid point: the condition under which the body clears the gamma accumulator. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

end Cert.Kernel
-- ==== Proof.Kernel.Forms.lean ====
module

public import proofs.«01_k».proof.Proof.Kernel.Conds
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # What the gradient kernel's buffers hold, in closed form

The blocks a grid point reads are vectors `q` (the coded output gradient), `s` (its scales), `ws` (the weight scales), `w`, `x`, `xs`, `rstd`, `g`.
Each buffer's contents is a function of them, cut into the chunks the body works by. -/

/-! ## Chunks -/

/-- Head `h`'s 128 columns of a 256 by 7168 block. -/
abbrev hB (h : Fin 56) : Rect S256x7168 := Rect.unit ![0, 128 * h.val] S256x128.size
  (fun a => by have := h.isLt; fin_cases a <;> simp <;> omega)
/-- Head `h`'s column of the scales. -/
abbrev sB (h : Fin 56) : Rect S256x56 := Rect.unit ![0, h.val] S256x1.size
  (fun a => by have := h.isLt; fin_cases a <;> simp <;> omega)
/-- Head `h`'s 128 weight scales. -/
abbrev wB (h : Fin 56) : Rect S1x7168 := Rect.unit ![0, 128 * h.val] S1x128.size
  (fun a => by have := h.isLt; fin_cases a <;> simp <;> omega)
/-- Rows `64 k …` of a column of 256. -/
abbrev rB (k : Fin 4) : Rect S256x1 := Rect.unit ![64 * k.val, 0] S64x1.size
  (fun a => by have := k.isLt; fin_cases a <;> simp <;> omega)
/-- Rows `64 k …`, columns `128 n …` of a 256 by 5120 block. -/
abbrev cB (k : Fin 4) (n : Fin 40) : Rect S256x5120 := Rect.unit ![64 * k.val, 128 * n.val] S64x128.size
  (fun a => by have := k.isLt; have := n.isLt; fin_cases a <;> simp <;> omega)
/-- Columns `128 n …` of the gamma row. -/
abbrev gB (n : Fin 40) : Rect S1x5120 := Rect.unit ![0, 128 * n.val] S1x128.size
  (fun a => by have := n.isLt; fin_cases a <;> simp <;> omega)
/-- Columns `128 n …` of the gamma accumulator. -/
abbrev dB (n : Fin 40) : Rect S8x5120 := Rect.unit ![0, 128 * n.val] S8x128.size
  (fun a => by have := n.isLt; fin_cases a <;> simp <;> omega)
/-- Columns `1280 j …` of a 256 by 5120 block. -/
abbrev jB (j : Fin 4) : Rect S256x5120 := Rect.unit ![0, 1280 * j.val] S256x1280.size
  (fun a => by have := j.isLt; fin_cases a <;> simp <;> omega)
/-- Columns `1280 j …` of the gamma row. -/
abbrev gjB (j : Fin 4) : Rect S1x5120 := Rect.unit ![0, 1280 * j.val] S1x1280.size
  (fun a => by have := j.isLt; fin_cases a <;> simp <;> omega)

/-- The head of a column, and the place inside it. -/
def hd (y : S256x7168.Idx) : Fin 56 := ⟨(y 1).val / 128, by have := idx2_lt1 y; omega⟩
def inh (y : S256x7168.Idx) : S256x128.Idx := ix2 (y 0) ⟨(y 1).val % 128, by omega⟩
/-- The group of 64 rows, the chunk of 128 columns, and the place inside. -/
def rg (y : S256x5120.Idx) : Fin 4 := ⟨(y 0).val / 64, by have := idx2_lt0 y; omega⟩
def cl (y : S256x5120.Idx) : Fin 40 := ⟨(y 1).val / 128, by have := idx2_lt1 y; omega⟩
def inc (y : S256x5120.Idx) : S64x128.Idx := ix2 ⟨(y 0).val % 64, by omega⟩ ⟨(y 1).val % 128, by omega⟩
/-- The chunk of a column of the gamma accumulator, and the place inside. -/
def cl8 (y : S8x5120.Idx) : Fin 40 := ⟨(y 1).val / 128, by have := idx2_lt1 y; omega⟩
def in8 (y : S8x5120.Idx) : S8x128.Idx := ix2 (y 0) ⟨(y 1).val % 128, by omega⟩
/-- The block of 1280 columns, and the place inside. -/
def jc (y : S256x5120.Idx) : Fin 4 := ⟨(y 1).val / 1280, by have := idx2_lt1 y; omega⟩
def inj (y : S256x5120.Idx) : S256x1280.Idx := ix2 (y 0) ⟨(y 1).val % 1280, by omega⟩

theorem hd_emb (h : Fin 56) (z : S256x128.Idx) : hd ((hB h).emb z) = h := by
  have := idx2_lt1 z
  apply Fin.ext; show (128 * h.val + 1 * (z 1).val) / 128 = h.val; omega
theorem inh_emb (h : Fin 56) (z : S256x128.Idx) : inh ((hB h).emb z) = z := by
  have := idx2_lt1 z
  funext a; match a with
  | ⟨0, _⟩ => apply Fin.ext; show 0 + 1 * (z 0).val = (z 0).val; omega
  | ⟨1, _⟩ => apply Fin.ext; show (128 * h.val + 1 * (z 1).val) % 128 = (z 1).val; omega
theorem emb_hd (y : S256x7168.Idx) : (hB (hd y)).emb (inh y) = y := by
  funext a; match a with
  | ⟨0, _⟩ => apply Fin.ext; show 0 + 1 * (y 0).val = (y 0).val; omega
  | ⟨1, _⟩ => apply Fin.ext; show 128 * ((y 1).val / 128) + 1 * ((y 1).val % 128) = (y 1).val; omega
theorem mem_hd (y : S256x7168.Idx) : y ∈ (hB (hd y)).set :=
  (hB (hd y)).mem_set.2 (by
    intro a; refine ⟨(inh y a).val, (inh y a).isLt, ?_⟩
    exact (congrArg (fun y' => (y' a).val) (emb_hd y)).symm)

theorem rg_emb (k : Fin 4) (n : Fin 40) (z : S64x128.Idx) : rg ((cB k n).emb z) = k := by
  have := idx2_lt0 z
  apply Fin.ext; show (64 * k.val + 1 * (z 0).val) / 64 = k.val; omega
theorem cl_emb (k : Fin 4) (n : Fin 40) (z : S64x128.Idx) : cl ((cB k n).emb z) = n := by
  have := idx2_lt1 z
  apply Fin.ext; show (128 * n.val + 1 * (z 1).val) / 128 = n.val; omega
theorem inc_emb (k : Fin 4) (n : Fin 40) (z : S64x128.Idx) : inc ((cB k n).emb z) = z := by
  have := idx2_lt0 z; have := idx2_lt1 z
  funext a; match a with
  | ⟨0, _⟩ => apply Fin.ext; show (64 * k.val + 1 * (z 0).val) % 64 = (z 0).val; omega
  | ⟨1, _⟩ => apply Fin.ext; show (128 * n.val + 1 * (z 1).val) % 128 = (z 1).val; omega
theorem emb_cl (y : S256x5120.Idx) : (cB (rg y) (cl y)).emb (inc y) = y := by
  funext a; match a with
  | ⟨0, _⟩ => apply Fin.ext; show 64 * ((y 0).val / 64) + 1 * ((y 0).val % 64) = (y 0).val; omega
  | ⟨1, _⟩ => apply Fin.ext; show 128 * ((y 1).val / 128) + 1 * ((y 1).val % 128) = (y 1).val; omega
theorem mem_cl (y : S256x5120.Idx) : y ∈ (cB (rg y) (cl y)).set :=
  (cB (rg y) (cl y)).mem_set.2 (by
    intro a; refine ⟨(inc y a).val, (inc y a).isLt, ?_⟩
    exact (congrArg (fun y' => (y' a).val) (emb_cl y)).symm)

theorem cl8_emb (n : Fin 40) (z : S8x128.Idx) : cl8 ((dB n).emb z) = n := by
  have := idx2_lt1 z
  apply Fin.ext; show (128 * n.val + 1 * (z 1).val) / 128 = n.val; omega
theorem in8_emb (n : Fin 40) (z : S8x128.Idx) : in8 ((dB n).emb z) = z := by
  have := idx2_lt1 z
  funext a; match a with
  | ⟨0, _⟩ => apply Fin.ext; show 0 + 1 * (z 0).val = (z 0).val; omega
  | ⟨1, _⟩ => apply Fin.ext; show (128 * n.val + 1 * (z 1).val) % 128 = (z 1).val; omega
theorem emb_cl8 (y : S8x5120.Idx) : (dB (cl8 y)).emb (in8 y) = y := by
  funext a; match a with
  | ⟨0, _⟩ => apply Fin.ext; show 0 + 1 * (y 0).val = (y 0).val; omega
  | ⟨1, _⟩ => apply Fin.ext; show 128 * ((y 1).val / 128) + 1 * ((y 1).val % 128) = (y 1).val; omega
theorem mem_cl8 (y : S8x5120.Idx) : y ∈ (dB (cl8 y)).set :=
  (dB (cl8 y)).mem_set.2 (by
    intro a; refine ⟨(in8 y a).val, (in8 y a).isLt, ?_⟩
    exact (congrArg (fun y' => (y' a).val) (emb_cl8 y)).symm)

theorem jc_emb (j : Fin 4) (z : S256x1280.Idx) : jc ((jB j).emb z) = j := by
  have := idx2_lt1 z
  apply Fin.ext; show (1280 * j.val + 1 * (z 1).val) / 1280 = j.val; omega
theorem inj_emb (j : Fin 4) (z : S256x1280.Idx) : inj ((jB j).emb z) = z := by
  have := idx2_lt1 z
  funext a; match a with
  | ⟨0, _⟩ => apply Fin.ext; show 0 + 1 * (z 0).val = (z 0).val; omega
  | ⟨1, _⟩ => apply Fin.ext; show (1280 * j.val + 1 * (z 1).val) % 1280 = (z 1).val; omega
theorem emb_jc (y : S256x5120.Idx) : (jB (jc y)).emb (inj y) = y := by
  funext a; match a with
  | ⟨0, _⟩ => apply Fin.ext; show 0 + 1 * (y 0).val = (y 0).val; omega
  | ⟨1, _⟩ => apply Fin.ext; show 1280 * ((y 1).val / 1280) + 1 * ((y 1).val % 1280) = (y 1).val; omega

/-! ## Closed forms -/

section
variable (q : Vec F S256x7168 .fp8e5m2) (s : Vec F S256x56 .f32) (ws : Vec F S1x7168 .f32) (lhs : Vec F S256x7168 .bf16)
  (w : Vec F S1280x7168 .fp8e4m3) (x : Vec F S256x5120 .fp8e4m3) (xs : Vec F S256x1 .f32) (rstd : Vec F S256x1 .f32)
  (g : Vec F S1x5120 .f32) (acc : Vec F S256x5120 .f32)

/-- The dequantised output gradient's block. -/
def DQ : Vec F S256x7168 .bf16 := fun y => k0_pay3 (View.ld s (sB (hd y))) (View.ld q (hB (hd y))) (inh y)
/-- The product's left operand: the dequantised block, its columns scaled by the weight scales. -/
def LHS : Vec F S256x7168 .bf16 := fun y => k0_pay4 (View.ld s (sB (hd y))) (View.ld q (hB (hd y))) (View.ld ws (wB (hd y))) (inh y)
/-- One column block's rebuilt input, transposed. -/
def XT (j : Fin 4) : Vec F S1280x256 .bf16 := k0_pay305 xs rstd (View.ld x (jB j)) (View.ld g (gjB j))
/-- The reciprocal standard deviations of row group `k`. -/
def rst (k : Fin 4) : FVec F S64x1 .f32 := k0_pay132 (View.ld rstd (rB k))
/-- The scale times the reciprocal standard deviation of row group `k`. -/
def rr (k : Fin 4) : FVec F S64x1 .f32 := k0_pay133 (View.ld rstd (rB k)) (View.ld xs (rB k))
/-- One chunk's contribution to the gamma accumulator. -/
def dgC (k : Fin 4) (n : Fin 40) (d : Vec F S8x128 .f32) : FVec F S8x128 .f32 :=
  k0_pay160 (rr xs rstd k) (View.ld x (cB k n)) (View.ld acc (cB k n)) d
/-- One chunk's step of the sum whose mean the input gradient subtracts. -/
def mStep (r : FVec F S64x1 .f32) (m : FVec F S64x128 .f32) (xk : Vec F S64x128 .fp8e4m3) (ak : Vec F S64x128 .f32)
    (gk : Vec F S1x128 .f32) : FVec F S64x128 .f32 :=
  addf m (mulf (k0_pay159 r xk ak) (broadcastTo S64x128 (shapeCast S1x128 gk shapeCasts_S1x128_S1x128) broadcasts_S1x128_S64x128))
/-- That sum after the first `n` chunks. -/
def mSum (k : Fin 4) : ℕ → FVec F S64x128 .f32
  | 0 => broadcast S64x128 (Scalar.ofBits (F := F) .f32 0x00000000#32)
  | n + 1 => if h : n < 40 then mStep (rr xs rstd k) (mSum k n) (View.ld x (cB k ⟨n, h⟩)) (View.ld acc (cB k ⟨n, h⟩)) (View.ld g (gB ⟨n, h⟩)) else mSum k n
/-- The mean the input gradient of row group `k` subtracts. -/
def mean (k : Fin 4) : FVec F S64x1 .f32 := k0_pay248 (mSum x xs rstd g acc k 40)
/-- One chunk of the input gradient. -/
def dxC (k : Fin 4) (n : Fin 40) : FVec F S64x128 .bf16 :=
  k0_pay260 (rst rstd k) (rr xs rstd k) (mean x xs rstd g acc k) (View.ld x (cB k n)) (View.ld acc (cB k n)) (View.ld g (gB n))
/-- The input gradient's block. -/
def DX : Vec F S256x5120 .bf16 := fun y => dxC x xs rstd g acc (rg y) (cl y) (inc y)
/-- The gamma accumulator after row group `k`. -/
def dgTrip (k : Fin 4) (d : Vec F S8x5120 .f32) : Vec F S8x5120 .f32 :=
  fun y => dgC x xs rstd acc k (cl8 y) (View.ld d (dB (cl8 y))) (in8 y)
/-- The gamma accumulator after the first `k` row groups. -/
def dgRows (d : Vec F S8x5120 .f32) : ℕ → Vec F S8x5120 .f32
  | 0 => d
  | k + 1 => if h : k < 4 then dgTrip x xs rstd acc ⟨k, h⟩ (dgRows d k) else dgRows d k
/-- The columns of the product that one grid point computes. -/
def accJ : Vec F S256x1280 .f32 := k0_pay1 (k0_pay306 lhs w)

/-- The head pieces of the dequantised block, last first. -/
def dqPiece (h : Fin 56) : View.Piece (Elt F) S256x7168 .bf16 := ⟨hB h, k0_pay3 (View.ld s (sB h)) (View.ld q (hB h))⟩
def lhsPiece (h : Fin 56) : View.Piece (Elt F) S256x7168 .bf16 := ⟨hB h, k0_pay4 (View.ld s (sB h)) (View.ld q (hB h)) (View.ld ws (wB h))⟩
def dxPiece (k : Fin 4) (n : Fin 40) : View.Piece (Elt F) S256x5120 .bf16 := ⟨cB k n, dxC x xs rstd g acc k n⟩
def dgPiece (k : Fin 4) (d : Vec F S8x5120 .f32) (n : Fin 40) : View.Piece (Elt F) S8x5120 .f32 := ⟨dB n, dgC x xs rstd acc k n (View.ld d (dB n))⟩

end

/-- The numbers below `n`, largest first. -/
abbrev down (n : ℕ) : List (Fin n) := (List.finRange n).reverse

theorem mem_down {n : ℕ} (k : Fin n) : k ∈ down n := by simp

theorem DQ_emb (q : Vec F S256x7168 .fp8e5m2) (s : Vec F S256x56 .f32) (h : Fin 56) (z : S256x128.Idx) :
    DQ q s ((hB h).emb z) = k0_pay3 (View.ld s (sB h)) (View.ld q (hB h)) z := by
  unfold DQ; rw [hd_emb h z, inh_emb h z]
theorem LHS_emb (q : Vec F S256x7168 .fp8e5m2) (s : Vec F S256x56 .f32) (ws : Vec F S1x7168 .f32) (h : Fin 56) (z : S256x128.Idx) :
    LHS q s ws ((hB h).emb z) = k0_pay4 (View.ld s (sB h)) (View.ld q (hB h)) (View.ld ws (wB h)) z := by
  unfold LHS; rw [hd_emb h z, inh_emb h z]
theorem DX_emb (x : Vec F S256x5120 .fp8e4m3) (xs rstd : Vec F S256x1 .f32) (g : Vec F S1x5120 .f32) (acc : Vec F S256x5120 .f32)
    (k : Fin 4) (n : Fin 40) (z : S64x128.Idx) : DX x xs rstd g acc ((cB k n).emb z) = dxC x xs rstd g acc k n z := by
  unfold DX; rw [rg_emb k n z, cl_emb k n z, inc_emb k n z]
theorem dgTrip_emb (x : Vec F S256x5120 .fp8e4m3) (xs rstd : Vec F S256x1 .f32) (acc : Vec F S256x5120 .f32)
    (k : Fin 4) (d : Vec F S8x5120 .f32) (n : Fin 40) (z : S8x128.Idx) :
    dgTrip x xs rstd acc k d ((dB n).emb z) = dgC x xs rstd acc k n (View.ld d (dB n)) z := by
  unfold dgTrip; rw [cl8_emb n z, in8_emb n z]

/-! ## What the lists of pieces leave -/

section
variable {κ : Kind} {sp : Space}

theorem read_dq (v : View sig κ sp S256x7168 .bf16) (f : v.ty.Contents (Elt F)) (q : Vec F S256x7168 .fp8e5m2) (s : Vec F S256x56 .f32) :
    v.read (Elt F) (v.writes (Elt F) f ((down 56).map (dqPiece q s))) = DQ q s := by
  funext y
  refine View.read_writes_apply_of_pieces (v := v) f (DQ q s) _ ?_ y ⟨_, List.mem_map_of_mem (mem_down (hd y)), mem_hd y⟩
  intro p hp
  obtain ⟨h, -, rfl⟩ := List.mem_map.1 hp
  intro z
  exact (DQ_emb q s h z).symm

theorem read_lhs (v : View sig κ sp S256x7168 .bf16) (f : v.ty.Contents (Elt F)) (q : Vec F S256x7168 .fp8e5m2) (s : Vec F S256x56 .f32) (ws : Vec F S1x7168 .f32) :
    v.read (Elt F) (v.writes (Elt F) f ((down 56).map (lhsPiece q s ws))) = LHS q s ws := by
  funext y
  refine View.read_writes_apply_of_pieces (v := v) f (LHS q s ws) _ ?_ y ⟨_, List.mem_map_of_mem (mem_down (hd y)), mem_hd y⟩
  intro p hp
  obtain ⟨h, -, rfl⟩ := List.mem_map.1 hp
  intro z
  exact (LHS_emb q s ws h z).symm

theorem read_dg (v : View sig κ sp S8x5120 .f32) (f : v.ty.Contents (Elt F)) (x : Vec F S256x5120 .fp8e4m3) (xs rstd : Vec F S256x1 .f32)
    (acc : Vec F S256x5120 .f32) (k : Fin 4) (d : Vec F S8x5120 .f32) :
    v.read (Elt F) (v.writes (Elt F) f ((down 40).map (dgPiece x xs rstd acc k d))) = dgTrip x xs rstd acc k d := by
  funext y
  refine View.read_writes_apply_of_pieces (v := v) f (dgTrip x xs rstd acc k d) _ ?_ y ⟨_, List.mem_map_of_mem (mem_down (cl8 y)), mem_cl8 y⟩
  intro p hp
  obtain ⟨n, -, rfl⟩ := List.mem_map.1 hp
  intro z
  exact (dgTrip_emb x xs rstd acc k d n z).symm

theorem read_dx_in (v : View sig κ sp S256x5120 .bf16) (f : v.ty.Contents (Elt F)) (x : Vec F S256x5120 .fp8e4m3) (xs rstd : Vec F S256x1 .f32)
    (g : Vec F S1x5120 .f32) (acc : Vec F S256x5120 .f32) (y : S256x5120.Idx) :
    v.read (Elt F) (v.writes (Elt F) f ((down 40).map (dxPiece x xs rstd g acc (rg y)))) y = DX x xs rstd g acc y := by
  refine View.read_writes_apply_of_pieces (v := v) f (DX x xs rstd g acc) _ ?_ y ⟨_, List.mem_map_of_mem (mem_down (cl y)), mem_cl y⟩
  intro p hp
  obtain ⟨n, -, rfl⟩ := List.mem_map.1 hp
  intro z
  exact (DX_emb x xs rstd g acc (rg y) n z).symm

theorem read_dx_out (v : View sig κ sp S256x5120 .bf16) (f : v.ty.Contents (Elt F)) (x : Vec F S256x5120 .fp8e4m3) (xs rstd : Vec F S256x1 .f32)
    (g : Vec F S1x5120 .f32) (acc : Vec F S256x5120 .f32) (k : Fin 4) (y : S256x5120.Idx) (hk : rg y ≠ k) (l : List (Fin 40)) :
    v.read (Elt F) (v.writes (Elt F) f (l.map (dxPiece x xs rstd g acc k))) y = v.read (Elt F) f y := by
  induction l with
  | nil => rfl
  | cons n l ih =>
    have hy : y ∉ Finset.univ.map (cB k n).emb := by
      intro hm
      obtain ⟨z, -, rfl⟩ := Finset.mem_map.1 hm
      exact hk (rg_emb k n z)
    rw [List.map_cons]
    refine Eq.trans ?_ ih
    exact View.read_slice_write_of_not_mem (cB k n) _ _ _ hy

end

end Cert.Kernel
-- ==== Proof.Kernel.TripMean.lean ====
module

public import proofs.«01_k».proof.Proof.Kernel.Forms
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000

/-! # One trip of the loop over the rows, in closed form -/

theorem tripLt (k : Fin k0_t1_loop.trips) : k.val < 4 := Nat.lt_of_lt_of_le k.isLt k0_t1_abs.2.1

section
variable  (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (k0_h3 : k0_cond3 i = 1#1) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg15 : BufTy.Contents (Elt F) arg15.view.ty) (k : Fin k0_t1_loop.trips)

theorem piece_eq {S : Shape} {e : EltTy} {off off' size : Fin S.rank → ℕ} (h : off = off') (inb inb') {p p' : (Rect.unit (s := S) off size inb).shape.Idx → Elt F e}
    (hp : p = p') : (⟨Rect.unit off size inb, p⟩ : View.Piece (Elt F) S e) = ⟨Rect.unit off' size inb', p'⟩ := by
  subst h; subst hp; rfl

/-- A load of a chunk, its offset the one of row group `k`, chunk `n`. -/
theorem load_eq {κ : Kind} {sp : Space} {e : EltTy} (v : View sig κ sp S256x5120 e) (X : v.ty.Contents (Elt F)) (k : Fin 4) (n : Fin 40)
    {off : Fin 2 → ℕ} (h : off = ![64 * k.val, 128 * n.val]) (inb) :
    v.readAt (Elt F) (Rect.unit (s := S256x5120) off S64x128.size inb).toLoadRect X = View.ld (v.read (Elt F) X) (cB k n) := by
  subst h; rfl

/-- A load of a row group of a column. -/
theorem load1_eq {κ : Kind} {sp : Space} {e : EltTy} (v : View sig κ sp S256x1 e) (X : v.ty.Contents (Elt F)) (k : Fin 4)
    {off : Fin 2 → ℕ} (h : off = ![64 * k.val, 0]) (inb) :
    v.readAt (Elt F) (Rect.unit (s := S256x1) off S64x1.size inb).toLoadRect X = View.ld (v.read (Elt F) X) (rB k) := by
  subst h; rfl

theorem rst_eq : k0_pay132 (arg8.view.readAt (Elt F) (Rect.unit (s := S256x1) (k0_off3 k) S64x1.size (k0_off3_inb i k k0_h3)).toLoadRect X_arg8)
    = rst (arg8.view.read (Elt F) X_arg8) ⟨k.val, tripLt k⟩ := by
  rw [load1_eq arg8.view X_arg8 ⟨k.val, tripLt k⟩ (k0_off3_eq k)]; rfl
theorem rr_eq : k0_pay133 (arg8.view.readAt (Elt F) (Rect.unit (s := S256x1) (k0_off3 k) S64x1.size (k0_off3_inb i k k0_h3)).toLoadRect X_arg8)
      (arg7.view.readAt (Elt F) (Rect.unit (s := S256x1) (k0_off3 k) S64x1.size (k0_off3_inb i k k0_h3)).toLoadRect X_arg7)
    = rr (arg7.view.read (Elt F) X_arg7) (arg8.view.read (Elt F) X_arg8) ⟨k.val, tripLt k⟩ := by
  rw [load1_eq arg8.view X_arg8 ⟨k.val, tripLt k⟩ (k0_off3_eq k), load1_eq arg7.view X_arg7 ⟨k.val, tripLt k⟩ (k0_off3_eq k)]; rfl

theorem mstep_eq {x : Vec F S256x5120 .fp8e4m3} {xs rstd : Vec F S256x1 .f32} {g : Vec F S1x5120 .f32} {acc : Vec F S256x5120 .f32} {k : Fin 4}
    (n : ℕ) (hn : n < 40) {R : FVec F S64x1 .f32} {m : FVec F S64x128 .f32} {xk : Vec F S64x128 .fp8e4m3} {ak : Vec F S64x128 .f32} {gk : Vec F S1x128 .f32}
    (hm : m = mSum x xs rstd g acc k n) (hR : R = rr xs rstd k) (hx : xk = View.ld x (cB k ⟨n, hn⟩)) (ha : ak = View.ld acc (cB k ⟨n, hn⟩))
    (hg : gk = View.ld g (gB ⟨n, hn⟩)) : mStep R m xk ak gk = mSum x xs rstd g acc k (n + 1) := by
  subst hm hR hx ha hg
  rw [mSum, dif_pos hn]

/-- The sum the mean is taken of, chunk by chunk. -/
theorem msum_eq : trip_k0_t1.sl.r_49 i arg6 arg7 arg8 arg9 arg15 k0_h3 X_arg6 X_arg7 X_arg8 X_arg9 X_arg15 k = mSum (arg6.view.read (Elt F) X_arg6) (arg7.view.read (Elt F) X_arg7) (arg8.view.read (Elt F) X_arg8) (arg9.view.read (Elt F) X_arg9) (arg15.view.read (Elt F) X_arg15) ⟨k.val, tripLt k⟩ 40 := by
  have hR : (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) = rr (arg7.view.read (Elt F) X_arg7) (arg8.view.read (Elt F) X_arg8) ⟨k.val, tripLt k⟩ := rr_eq i arg7 arg8 k0_h3 X_arg7 X_arg8 k
  have T : ∀ (n : ℕ) (hn : n < 40) {off : Fin 2 → ℕ} (h : off = ![64 * k.val, 128 * n]) (inb) {s : FVec F S64x128 .f32}
      (hs : s = mSum (arg6.view.read (Elt F) X_arg6) (arg7.view.read (Elt F) X_arg7) (arg8.view.read (Elt F) X_arg8) (arg9.view.read (Elt F) X_arg9) (arg15.view.read (Elt F) X_arg15) ⟨k.val, tripLt k⟩ n),
      mStep (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) s (arg6.view.readAt (Elt F) (Rect.unit (s := S256x5120) off S64x128.size inb).toLoadRect X_arg6)
        (arg15.view.readAt (Elt F) (Rect.unit (s := S256x5120) off S64x128.size inb).toLoadRect X_arg15) (View.ld (arg9.view.read (Elt F) X_arg9) (gB ⟨n, hn⟩))
      = mSum (arg6.view.read (Elt F) X_arg6) (arg7.view.read (Elt F) X_arg7) (arg8.view.read (Elt F) X_arg8) (arg9.view.read (Elt F) X_arg9) (arg15.view.read (Elt F) X_arg15) ⟨k.val, tripLt k⟩ (n + 1) :=
    fun n hn _ h _ _ hs => mstep_eq n hn hs hR (load_eq _ _ ⟨k.val, tripLt k⟩ ⟨n, hn⟩ h _) (load_eq _ _ ⟨k.val, tripLt k⟩ ⟨n, hn⟩ h _) rfl
  exact T 39 (by decide) (k0_off43_eq k) (k0_off43_inb i k k0_h3) <|
    T 38 (by decide) (k0_off42_eq k) (k0_off42_inb i k k0_h3) <|
    T 37 (by decide) (k0_off41_eq k) (k0_off41_inb i k k0_h3) <|
    T 36 (by decide) (k0_off40_eq k) (k0_off40_inb i k k0_h3) <|
    T 35 (by decide) (k0_off39_eq k) (k0_off39_inb i k k0_h3) <|
    T 34 (by decide) (k0_off38_eq k) (k0_off38_inb i k k0_h3) <|
    T 33 (by decide) (k0_off37_eq k) (k0_off37_inb i k k0_h3) <|
    T 32 (by decide) (k0_off36_eq k) (k0_off36_inb i k k0_h3) <|
    T 31 (by decide) (k0_off35_eq k) (k0_off35_inb i k k0_h3) <|
    T 30 (by decide) (k0_off34_eq k) (k0_off34_inb i k k0_h3) <|
    T 29 (by decide) (k0_off33_eq k) (k0_off33_inb i k k0_h3) <|
    T 28 (by decide) (k0_off32_eq k) (k0_off32_inb i k k0_h3) <|
    T 27 (by decide) (k0_off31_eq k) (k0_off31_inb i k k0_h3) <|
    T 26 (by decide) (k0_off30_eq k) (k0_off30_inb i k k0_h3) <|
    T 25 (by decide) (k0_off29_eq k) (k0_off29_inb i k k0_h3) <|
    T 24 (by decide) (k0_off28_eq k) (k0_off28_inb i k k0_h3) <|
    T 23 (by decide) (k0_off27_eq k) (k0_off27_inb i k k0_h3) <|
    T 22 (by decide) (k0_off26_eq k) (k0_off26_inb i k k0_h3) <|
    T 21 (by decide) (k0_off25_eq k) (k0_off25_inb i k k0_h3) <|
    T 20 (by decide) (k0_off24_eq k) (k0_off24_inb i k k0_h3) <|
    T 19 (by decide) (k0_off23_eq k) (k0_off23_inb i k k0_h3) <|
    T 18 (by decide) (k0_off22_eq k) (k0_off22_inb i k k0_h3) <|
    T 17 (by decide) (k0_off21_eq k) (k0_off21_inb i k k0_h3) <|
    T 16 (by decide) (k0_off20_eq k) (k0_off20_inb i k k0_h3) <|
    T 15 (by decide) (k0_off19_eq k) (k0_off19_inb i k k0_h3) <|
    T 14 (by decide) (k0_off18_eq k) (k0_off18_inb i k k0_h3) <|
    T 13 (by decide) (k0_off17_eq k) (k0_off17_inb i k k0_h3) <|
    T 12 (by decide) (k0_off16_eq k) (k0_off16_inb i k k0_h3) <|
    T 11 (by decide) (k0_off15_eq k) (k0_off15_inb i k k0_h3) <|
    T 10 (by decide) (k0_off14_eq k) (k0_off14_inb i k k0_h3) <|
    T 9 (by decide) (k0_off13_eq k) (k0_off13_inb i k k0_h3) <|
    T 8 (by decide) (k0_off12_eq k) (k0_off12_inb i k k0_h3) <|
    T 7 (by decide) (k0_off11_eq k) (k0_off11_inb i k k0_h3) <|
    T 6 (by decide) (k0_off10_eq k) (k0_off10_inb i k k0_h3) <|
    T 5 (by decide) (k0_off9_eq k) (k0_off9_inb i k k0_h3) <|
    T 4 (by decide) (k0_off8_eq k) (k0_off8_inb i k k0_h3) <|
    T 3 (by decide) (k0_off7_eq k) (k0_off7_inb i k k0_h3) <|
    T 2 (by decide) (k0_off6_eq k) (k0_off6_inb i k k0_h3) <|
    T 1 (by decide) (k0_off5_eq k) (k0_off5_inb i k k0_h3) <|
    T 0 (by decide) (k0_off4_eq k) (k0_off4_inb i k k0_h3) <|
    rfl

theorem mean_eq : trip_k0_t1.sl.r_50 i arg6 arg7 arg8 arg9 arg15 k0_h3 X_arg6 X_arg7 X_arg8 X_arg9 X_arg15 k = mean (arg6.view.read (Elt F) X_arg6) (arg7.view.read (Elt F) X_arg7) (arg8.view.read (Elt F) X_arg8) (arg9.view.read (Elt F) X_arg9) (arg15.view.read (Elt F) X_arg15) ⟨k.val, tripLt k⟩ :=
  congrArg k0_pay248 (msum_eq i arg6 arg7 arg8 arg9 arg15 k0_h3 X_arg6 X_arg7 X_arg8 X_arg9 X_arg15 k)

end

end Cert.Kernel
-- ==== Proof.Kernel.TripValue.lean ====
module

public import proofs.«01_k».proof.Proof.Kernel.TripMean
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000

/-! # The pieces one trip of the loop writes, in closed form -/

section
variable  (𝒱 : Variants) (c : Dev nD) (bd : Option 𝒱.V) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (k0_h3 : k0_cond3 i = 1#1) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg15 : BufTy.Contents (Elt F) arg15.view.ty) (k : Fin k0_t1_loop.trips)

theorem dx_pay {x : Vec F S256x5120 .fp8e4m3} {xs rstd : Vec F S256x1 .f32} {g : Vec F S1x5120 .f32} {acc : Vec F S256x5120 .f32} {k : Fin 4}
    (n : Fin 40) {off : Fin 2 → ℕ} (h : off = ![64 * k.val, 128 * n.val]) {inb} {S R M : FVec F S64x1 .f32} {xk : Vec F S64x128 .fp8e4m3} {ak : Vec F S64x128 .f32}
    {p : (Rect.unit (s := S256x5120) off S64x128.size inb).shape.Idx → Elt F .bf16}
    (hp : p = k0_pay260 S R M xk ak (View.ld g (gB n)))
    (hS : S = rst rstd k) (hR : R = rr xs rstd k) (hM : M = mean x xs rstd g acc k) (hx : xk = View.ld x (cB k n)) (ha : ak = View.ld acc (cB k n)) :
    (⟨Rect.unit (s := S256x5120) off S64x128.size inb, p⟩ : View.Piece (Elt F) S256x5120 .bf16) = dxPiece x xs rstd g acc k n := by
  subst h hp hS hR hM hx ha; rfl

theorem dg_pay {x : Vec F S256x5120 .fp8e4m3} {xs rstd : Vec F S256x1 .f32} {acc : Vec F S256x5120 .f32} {k : Fin 4} {d : Vec F S8x5120 .f32}
    (n : Fin 40) {R : FVec F S64x1 .f32} {xk : Vec F S64x128 .fp8e4m3} {ak : Vec F S64x128 .f32} {p : S8x128.Idx → Elt F .f32}
    (hp : p = k0_pay160 R xk ak (View.ld d (dB n)))
    (hR : R = rr xs rstd k) (hx : xk = View.ld x (cB k n)) (ha : ak = View.ld acc (cB k n)) :
    (⟨dB n, p⟩ : View.Piece (Elt F) S8x5120 .f32) = dgPiece x xs rstd acc k d n := by
  subst hp hR hx ha; rfl

theorem down40 : down 40 = [39, 38, 37, 36, 35, 34, 33, 32, 31, 30, 29, 28, 27, 26, 25, 24, 23, 22, 21, 20, 19, 18, 17, 16, 15, 14, 13, 12, 11, 10, 9, 8, 7, 6, 5, 4, 3, 2, 1, 0] := by decide

/-- The pieces of the input gradient one trip writes. -/
theorem trip_dx (f10 : BufTy.Contents (Elt F) arg10.view.ty) (f16 : BufTy.Contents (Elt F) arg16.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 k).1 f10 f16 = (down 40).map (dxPiece (arg6.view.read (Elt F) X_arg6) (arg7.view.read (Elt F) X_arg7) (arg8.view.read (Elt F) X_arg8) (arg9.view.read (Elt F) X_arg9) (arg15.view.read (Elt F) X_arg15) ⟨k.val, tripLt k⟩) := by
  have hS : (k0_pay132 (arg8.view.readAt (Elt F) (Rect.unit (s := S256x1) (k0_off3 k) S64x1.size (k0_off3_inb i k k0_h3)).toLoadRect X_arg8)) = rst (arg8.view.read (Elt F) X_arg8) ⟨k.val, tripLt k⟩ := rst_eq i arg8 k0_h3 X_arg8 k
  have hR : (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) = rr (arg7.view.read (Elt F) X_arg7) (arg8.view.read (Elt F) X_arg8) ⟨k.val, tripLt k⟩ := rr_eq i arg7 arg8 k0_h3 X_arg7 X_arg8 k
  rw [down40]; unfold trip_k0_t1; dsimp only [List.map]
  have D : ∀ (n : Fin 40) {off : Fin 2 → ℕ} (h : off = ![64 * k.val, 128 * n.val]) (inb),
      (⟨Rect.unit (s := S256x5120) off S64x128.size inb, k0_pay260 (k0_pay132 (arg8.view.readAt (Elt F) (Rect.unit (s := S256x1) (k0_off3 k) S64x1.size (k0_off3_inb i k k0_h3)).toLoadRect X_arg8)) (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) (trip_k0_t1.sl.r_50 i arg6 arg7 arg8 arg9 arg15 k0_h3 X_arg6 X_arg7 X_arg8 X_arg9 X_arg15 k) (arg6.view.readAt (Elt F) (Rect.unit (s := S256x5120) off S64x128.size inb).toLoadRect X_arg6)
        (arg15.view.readAt (Elt F) (Rect.unit (s := S256x5120) off S64x128.size inb).toLoadRect X_arg15) (View.ld (arg9.view.read (Elt F) X_arg9) (gB n))⟩ : View.Piece (Elt F) S256x5120 .bf16) = dxPiece (arg6.view.read (Elt F) X_arg6) (arg7.view.read (Elt F) X_arg7) (arg8.view.read (Elt F) X_arg8) (arg9.view.read (Elt F) X_arg9) (arg15.view.read (Elt F) X_arg15) ⟨k.val, tripLt k⟩ n :=
    fun n _ h _ => dx_pay n h rfl hS hR (mean_eq i arg6 arg7 arg8 arg9 arg15 k0_h3 X_arg6 X_arg7 X_arg8 X_arg9 X_arg15 k) (load_eq _ _ ⟨k.val, tripLt k⟩ n h _) (load_eq _ _ ⟨k.val, tripLt k⟩ n h _)
  exact (congrArg₂ List.cons (D 39 (k0_off43_eq k) (k0_off43_inb i k k0_h3))
    (congrArg₂ List.cons (D 38 (k0_off42_eq k) (k0_off42_inb i k k0_h3))
    (congrArg₂ List.cons (D 37 (k0_off41_eq k) (k0_off41_inb i k k0_h3))
    (congrArg₂ List.cons (D 36 (k0_off40_eq k) (k0_off40_inb i k k0_h3))
    (congrArg₂ List.cons (D 35 (k0_off39_eq k) (k0_off39_inb i k k0_h3))
    (congrArg₂ List.cons (D 34 (k0_off38_eq k) (k0_off38_inb i k k0_h3))
    (congrArg₂ List.cons (D 33 (k0_off37_eq k) (k0_off37_inb i k k0_h3))
    (congrArg₂ List.cons (D 32 (k0_off36_eq k) (k0_off36_inb i k k0_h3))
    (congrArg₂ List.cons (D 31 (k0_off35_eq k) (k0_off35_inb i k k0_h3))
    (congrArg₂ List.cons (D 30 (k0_off34_eq k) (k0_off34_inb i k k0_h3))
    (congrArg₂ List.cons (D 29 (k0_off33_eq k) (k0_off33_inb i k k0_h3))
    (congrArg₂ List.cons (D 28 (k0_off32_eq k) (k0_off32_inb i k k0_h3))
    (congrArg₂ List.cons (D 27 (k0_off31_eq k) (k0_off31_inb i k k0_h3))
    (congrArg₂ List.cons (D 26 (k0_off30_eq k) (k0_off30_inb i k k0_h3))
    (congrArg₂ List.cons (D 25 (k0_off29_eq k) (k0_off29_inb i k k0_h3))
    (congrArg₂ List.cons (D 24 (k0_off28_eq k) (k0_off28_inb i k k0_h3))
    (congrArg₂ List.cons (D 23 (k0_off27_eq k) (k0_off27_inb i k k0_h3))
    (congrArg₂ List.cons (D 22 (k0_off26_eq k) (k0_off26_inb i k k0_h3))
    (congrArg₂ List.cons (D 21 (k0_off25_eq k) (k0_off25_inb i k k0_h3))
    (congrArg₂ List.cons (D 20 (k0_off24_eq k) (k0_off24_inb i k k0_h3))
    (congrArg₂ List.cons (D 19 (k0_off23_eq k) (k0_off23_inb i k k0_h3))
    (congrArg₂ List.cons (D 18 (k0_off22_eq k) (k0_off22_inb i k k0_h3))
    (congrArg₂ List.cons (D 17 (k0_off21_eq k) (k0_off21_inb i k k0_h3))
    (congrArg₂ List.cons (D 16 (k0_off20_eq k) (k0_off20_inb i k k0_h3))
    (congrArg₂ List.cons (D 15 (k0_off19_eq k) (k0_off19_inb i k k0_h3))
    (congrArg₂ List.cons (D 14 (k0_off18_eq k) (k0_off18_inb i k k0_h3))
    (congrArg₂ List.cons (D 13 (k0_off17_eq k) (k0_off17_inb i k k0_h3))
    (congrArg₂ List.cons (D 12 (k0_off16_eq k) (k0_off16_inb i k k0_h3))
    (congrArg₂ List.cons (D 11 (k0_off15_eq k) (k0_off15_inb i k k0_h3))
    (congrArg₂ List.cons (D 10 (k0_off14_eq k) (k0_off14_inb i k k0_h3))
    (congrArg₂ List.cons (D 9 (k0_off13_eq k) (k0_off13_inb i k k0_h3))
    (congrArg₂ List.cons (D 8 (k0_off12_eq k) (k0_off12_inb i k k0_h3))
    (congrArg₂ List.cons (D 7 (k0_off11_eq k) (k0_off11_inb i k k0_h3))
    (congrArg₂ List.cons (D 6 (k0_off10_eq k) (k0_off10_inb i k k0_h3))
    (congrArg₂ List.cons (D 5 (k0_off9_eq k) (k0_off9_inb i k k0_h3))
    (congrArg₂ List.cons (D 4 (k0_off8_eq k) (k0_off8_inb i k k0_h3))
    (congrArg₂ List.cons (D 3 (k0_off7_eq k) (k0_off7_inb i k k0_h3))
    (congrArg₂ List.cons (D 2 (k0_off6_eq k) (k0_off6_inb i k k0_h3))
    (congrArg₂ List.cons (D 1 (k0_off5_eq k) (k0_off5_inb i k k0_h3))
    (congrArg₂ List.cons (D 0 (k0_off4_eq k) (k0_off4_inb i k k0_h3))
    rfl))))))))))))))))))))))))))))))))))))))))

/-- The pieces of the gamma accumulator one trip writes. -/
theorem trip_dg (f10 : BufTy.Contents (Elt F) arg10.view.ty) (f16 : BufTy.Contents (Elt F) arg16.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 k).2.1 f10 f16 = (down 40).map (dgPiece (arg6.view.read (Elt F) X_arg6) (arg7.view.read (Elt F) X_arg7) (arg8.view.read (Elt F) X_arg8) (arg15.view.read (Elt F) X_arg15) ⟨k.val, tripLt k⟩ (arg16.view.read (Elt F) f16)) := by
  have hR : (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) = rr (arg7.view.read (Elt F) X_arg7) (arg8.view.read (Elt F) X_arg8) ⟨k.val, tripLt k⟩ := rr_eq i arg7 arg8 k0_h3 X_arg7 X_arg8 k
  rw [down40]; unfold trip_k0_t1; dsimp only [List.map]
  have D : ∀ (n : Fin 40) {off : Fin 2 → ℕ} (h : off = ![64 * k.val, 128 * n.val]) (inb),
      (⟨dB n, k0_pay160 (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) (arg6.view.readAt (Elt F) (Rect.unit (s := S256x5120) off S64x128.size inb).toLoadRect X_arg6)
        (arg15.view.readAt (Elt F) (Rect.unit (s := S256x5120) off S64x128.size inb).toLoadRect X_arg15) (View.ld (arg16.view.read (Elt F) f16) (dB n))⟩ : View.Piece (Elt F) S8x5120 .f32) = dgPiece (arg6.view.read (Elt F) X_arg6) (arg7.view.read (Elt F) X_arg7) (arg8.view.read (Elt F) X_arg8) (arg15.view.read (Elt F) X_arg15) ⟨k.val, tripLt k⟩ (arg16.view.read (Elt F) f16) n :=
    fun n _ h _ => dg_pay n rfl hR (load_eq _ _ ⟨k.val, tripLt k⟩ n h _) (load_eq _ _ ⟨k.val, tripLt k⟩ n h _)
  exact (congrArg₂ List.cons (D 39 (k0_off43_eq k) (k0_off43_inb i k k0_h3))
    (congrArg₂ List.cons (D 38 (k0_off42_eq k) (k0_off42_inb i k k0_h3))
    (congrArg₂ List.cons (D 37 (k0_off41_eq k) (k0_off41_inb i k k0_h3))
    (congrArg₂ List.cons (D 36 (k0_off40_eq k) (k0_off40_inb i k k0_h3))
    (congrArg₂ List.cons (D 35 (k0_off39_eq k) (k0_off39_inb i k k0_h3))
    (congrArg₂ List.cons (D 34 (k0_off38_eq k) (k0_off38_inb i k k0_h3))
    (congrArg₂ List.cons (D 33 (k0_off37_eq k) (k0_off37_inb i k k0_h3))
    (congrArg₂ List.cons (D 32 (k0_off36_eq k) (k0_off36_inb i k k0_h3))
    (congrArg₂ List.cons (D 31 (k0_off35_eq k) (k0_off35_inb i k k0_h3))
    (congrArg₂ List.cons (D 30 (k0_off34_eq k) (k0_off34_inb i k k0_h3))
    (congrArg₂ List.cons (D 29 (k0_off33_eq k) (k0_off33_inb i k k0_h3))
    (congrArg₂ List.cons (D 28 (k0_off32_eq k) (k0_off32_inb i k k0_h3))
    (congrArg₂ List.cons (D 27 (k0_off31_eq k) (k0_off31_inb i k k0_h3))
    (congrArg₂ List.cons (D 26 (k0_off30_eq k) (k0_off30_inb i k k0_h3))
    (congrArg₂ List.cons (D 25 (k0_off29_eq k) (k0_off29_inb i k k0_h3))
    (congrArg₂ List.cons (D 24 (k0_off28_eq k) (k0_off28_inb i k k0_h3))
    (congrArg₂ List.cons (D 23 (k0_off27_eq k) (k0_off27_inb i k k0_h3))
    (congrArg₂ List.cons (D 22 (k0_off26_eq k) (k0_off26_inb i k k0_h3))
    (congrArg₂ List.cons (D 21 (k0_off25_eq k) (k0_off25_inb i k k0_h3))
    (congrArg₂ List.cons (D 20 (k0_off24_eq k) (k0_off24_inb i k k0_h3))
    (congrArg₂ List.cons (D 19 (k0_off23_eq k) (k0_off23_inb i k k0_h3))
    (congrArg₂ List.cons (D 18 (k0_off22_eq k) (k0_off22_inb i k k0_h3))
    (congrArg₂ List.cons (D 17 (k0_off21_eq k) (k0_off21_inb i k k0_h3))
    (congrArg₂ List.cons (D 16 (k0_off20_eq k) (k0_off20_inb i k k0_h3))
    (congrArg₂ List.cons (D 15 (k0_off19_eq k) (k0_off19_inb i k k0_h3))
    (congrArg₂ List.cons (D 14 (k0_off18_eq k) (k0_off18_inb i k k0_h3))
    (congrArg₂ List.cons (D 13 (k0_off17_eq k) (k0_off17_inb i k k0_h3))
    (congrArg₂ List.cons (D 12 (k0_off16_eq k) (k0_off16_inb i k k0_h3))
    (congrArg₂ List.cons (D 11 (k0_off15_eq k) (k0_off15_inb i k k0_h3))
    (congrArg₂ List.cons (D 10 (k0_off14_eq k) (k0_off14_inb i k k0_h3))
    (congrArg₂ List.cons (D 9 (k0_off13_eq k) (k0_off13_inb i k k0_h3))
    (congrArg₂ List.cons (D 8 (k0_off12_eq k) (k0_off12_inb i k k0_h3))
    (congrArg₂ List.cons (D 7 (k0_off11_eq k) (k0_off11_inb i k k0_h3))
    (congrArg₂ List.cons (D 6 (k0_off10_eq k) (k0_off10_inb i k k0_h3))
    (congrArg₂ List.cons (D 5 (k0_off9_eq k) (k0_off9_inb i k k0_h3))
    (congrArg₂ List.cons (D 4 (k0_off8_eq k) (k0_off8_inb i k k0_h3))
    (congrArg₂ List.cons (D 3 (k0_off7_eq k) (k0_off7_inb i k k0_h3))
    (congrArg₂ List.cons (D 2 (k0_off6_eq k) (k0_off6_inb i k k0_h3))
    (congrArg₂ List.cons (D 1 (k0_off5_eq k) (k0_off5_inb i k k0_h3))
    (congrArg₂ List.cons (D 0 (k0_off4_eq k) (k0_off4_inb i k k0_h3))
    rfl))))))))))))))))))))))))))))))))))))))))

end

end Cert.Kernel
-- ==== Proof.Kernel.SpecBase.lean ====
module

public import proofs.«01_k».proof.Proof.Kernel.TripValue
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # What the pieces of a run leave, and the whole loop -/

/-- Column block `j` of the accumulator replaced by `v`. -/
def accPut (j : Fin 4) (a : Vec F S256x5120 .f32) (v : Vec F S256x1280 .f32) : Vec F S256x5120 .f32 :=
  fun y => if jc y = j then v (inj y) else a y

section
variable {κ : Kind} {sp : Space}

theorem zero2 : (![0, 0] : Fin 2 → ℕ) = fun _ => 0 := by funext a; fin_cases a <;> rfl

theorem load_whole {n0 n1 : ℕ} {e : EltTy} (v : View sig κ sp ⟨2, ![n0, n1]⟩ e) (X : v.ty.Contents (Elt F)) (inb) :
    v.readAt (Elt F) (Rect.unit (s := ⟨2, ![n0, n1]⟩) ![0, 0] ![n0, n1] inb).toLoadRect X = v.read (Elt F) X :=
  View.ld_unit_zero (S := ⟨2, ![n0, n1]⟩) zero2 inb _

theorem read_store_whole {n0 n1 : ℕ} {e : EltTy} (v : View sig κ sp ⟨2, ![n0, n1]⟩ e) (X : v.ty.Contents (Elt F)) (inb)
    (p : (⟨2, ![n0, n1]⟩ : Shape).Idx → Elt F e) (L : List (View.Piece (Elt F) ⟨2, ![n0, n1]⟩ e)) :
    v.read (Elt F) (v.writes (Elt F) X (⟨Rect.unit (s := ⟨2, ![n0, n1]⟩) ![0, 0] ![n0, n1] inb, p⟩ :: L)) = p := by
  funext y
  have e : (Rect.unit (s := ⟨2, ![n0, n1]⟩) ![0, 0] ![n0, n1] inb).emb y = y := by
    funext a; apply Fin.ext
    match a with
    | ⟨0, _⟩ => show 0 + 1 * (y 0).val = (y 0).val; omega
    | ⟨1, _⟩ => show 0 + 1 * (y 1).val = (y 1).val; omega
  conv_lhs => rw [← e]
  exact View.read_writes_cons_emb v X _ _ _ _

theorem read_accPut (v : View sig κ sp S256x5120 .f32) (X : v.ty.Contents (Elt F)) (j : Fin 4) {off : Fin 2 → ℕ}
    (h : off = ![0, 1280 * j.val]) (inb) (p : Vec F S256x1280 .f32) :
    v.read (Elt F) (v.writes (Elt F) X [⟨Rect.unit (s := S256x5120) off S256x1280.size inb, p⟩]) = accPut j (v.read (Elt F) X) p := by
  subst h
  funext y
  unfold accPut
  split
  next hy =>
    have hz := emb_jc y
    rw [hy] at hz
    obtain ⟨z, hz'⟩ : ∃ z : S256x1280.Idx, z = inj y := ⟨_, rfl⟩
    rw [← hz'] at hz ⊢
    rw [← hz]
    exact View.read_writes_cons_emb v X (jB j) p [] z
  next hy =>
    refine View.read_slice_write_of_not_mem (jB j) _ _ _ ?_
    intro hm
    obtain ⟨z, -, rfl⟩ := Finset.mem_map.1 hm
    exact hy (jc_emb j z)

theorem xt_eq (v7 v8 : View sig κ sp S256x1 .f32) (v6 : View sig κ sp S256x5120 .fp8e4m3) (v9 : View sig κ sp S1x5120 .f32)
    (X6 : v6.ty.Contents (Elt F)) (X7 : v7.ty.Contents (Elt F)) (X8 : v8.ty.Contents (Elt F)) (X9 : v9.ty.Contents (Elt F)) (i : grid0.Coords) :
    k0_pay305 (v7.readAt (Elt F) (Rect.unit (s := S256x1) ![0, 0] S256x1.size inb_S256x1_S256x1_0_0).toLoadRect X7)
      (v8.readAt (Elt F) (Rect.unit (s := S256x1) ![0, 0] S256x1.size inb_S256x1_S256x1_0_0).toLoadRect X8)
      (v6.readAt (Elt F) (Rect.unit (s := S256x5120) (k0_off1 i) S256x1280.size (k0_off1_inb i)).toLoadRect X6)
      (v9.readAt (Elt F) (Rect.unit (s := S1x5120) (k0_off2 i) S1x1280.size (k0_off2_inb i)).toLoadRect X9)
    = XT (v6.read (Elt F) X6) (v7.read (Elt F) X7) (v8.read (Elt F) X8) (v9.read (Elt F) X9) (i 1) := by
  have h6 : ∀ (o : Fin 2 → ℕ) (ho : o = ![0, 1280 * (i 1).val]) (inb), v6.readAt (Elt F) (Rect.unit (s := S256x5120) o S256x1280.size inb).toLoadRect X6 = View.ld (v6.read (Elt F) X6) (jB (i 1)) := by
    intro o ho inb; subst ho; rfl
  have h9 : ∀ (o : Fin 2 → ℕ) (ho : o = ![0, 1280 * (i 1).val]) (inb), v9.readAt (Elt F) (Rect.unit (s := S1x5120) o S1x1280.size inb).toLoadRect X9 = View.ld (v9.read (Elt F) X9) (gjB (i 1)) := by
    intro o ho inb; subst ho; rfl
  rw [h6 _ (k0_off1_eq i), h9 _ (k0_off2_eq i), load_whole v7 X7, load_whole v8 X8]; rfl

end

theorem trips_eq : k0_t1_loop.trips = 4 := by decide +kernel

/-- What the whole loop leaves: the first `n` row groups of the input gradient, and the gamma accumulator after them. -/
theorem pb_read  (𝒱 : Variants) (c : Dev nD) (bd : Option 𝒱.V) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (k0_h3 : k0_cond3 i = 1#1) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg15 : BufTy.Contents (Elt F) arg15.view.ty) (G10 : BufTy.Contents (Elt F) arg10.view.ty) (G16 : BufTy.Contents (Elt F) arg16.view.ty) :
    ∀ n : ℕ, n ≤ 4 →
      (∀ y : S256x5120.Idx, (rg y).val < n →
        arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 G10 G16 n).1) y = DX (arg6.view.read (Elt F) X_arg6) (arg7.view.read (Elt F) X_arg7) (arg8.view.read (Elt F) X_arg8) (arg9.view.read (Elt F) X_arg9) (arg15.view.read (Elt F) X_arg15) y)
      ∧ arg16.view.read (Elt F) (arg16.view.writes (Elt F) G16 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 G10 G16 n).2)
          = dgRows (arg6.view.read (Elt F) X_arg6) (arg7.view.read (Elt F) X_arg7) (arg8.view.read (Elt F) X_arg8) (arg15.view.read (Elt F) X_arg15) (arg16.view.read (Elt F) G16) n
  | 0, _ => ⟨fun y h => absurd h (Nat.not_lt_zero _), rfl⟩
  | n + 1, hn => by
    obtain ⟨ih10, ih16⟩ := pb_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 G10 G16 n (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 G10 G16 ⟨n, by rw [trips_eq]; omega⟩
    constructor
    · intro y hy
      rw [hs]
      show arg10.view.read (Elt F) (arg10.view.writes (Elt F) G10 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 ⟨n, _⟩).1 _ _ ++ _)) y = _
      rw [View.writes_append, trip_dx]
      by_cases h : (rg y).val = n
      · obtain rfl : n = (rg y).val := h.symm
        exact read_dx_in arg10.view _ _ _ _ _ _ y
      · rw [read_dx_out _ _ _ _ _ _ _ _ y (fun e => h (congrArg Fin.val e))]
        exact ih10 y (by omega)
    · rw [hs]
      show arg16.view.read (Elt F) (arg16.view.writes (Elt F) G16 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 ⟨n, _⟩).2.1 _ _ ++ _)) = _
      rw [View.writes_append, trip_dg, read_dg, ih16, dgRows, dif_pos (by omega)]

end Cert.Kernel
-- ==== Proof.Kernel.RunC.lean ====
module

public import proofs.«01_k».proof.Proof.Kernel.Conds
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body at the middle columns of a row block: one product and one block of the rebuilt input. -/
@[irreducible] def runC (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : ¬ k0_cond3 i = 1#1) (hc4 : ¬ k0_cond4 i = 1#1)
    (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) :
    Σ' (L11 : (BufTy.Contents (Elt F) arg11.view.ty → BufTy.Contents (Elt F) arg15.view.ty → List (View.Piece (Elt F) S1280x256 .bf16))), { L15 : (BufTy.Contents (Elt F) arg11.view.ty → BufTy.Contents (Elt F) arg15.view.ty → List (View.Piece (Elt F) S256x5120 .f32)) //
      ∀ (E : Set ℕ) (K : PUnit → sProp 𝕄) (f11 : BufTy.Contents (Elt F) arg11.view.ty) (f15 : BufTy.Contents (Elt F) arg15.view.ty),
        iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg11.view.loc (c : Thread nD τ) ↦[arg11.view.set]{fullShare} f11) ∗ (arg15.view.loc (c : Thread nD τ) ↦[arg15.view.set]{fullShare} f15)
          ∗ (iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg11.view.loc (c : Thread nD τ) ↦[arg11.view.set]{fullShare} (arg11.view.writes (Elt F) f11 (L11 f11 f15))) ∗ (arg15.view.loc (c : Thread nD τ) ↦[arg15.view.set]{fullShare} (arg15.view.writes (Elt F) f15 (L15 f11 f15)))) -∗ K ⟨⟩))
          ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K f11 f15 => ?run⟩
  case run =>
    simp only [cc0_dx_call_eq_skeleton]; unfold cc0_dx_call_skel
    iintro ⟨H5, H6, H7, H8, H9, H14, H11, H15, Hk⟩
    sl_exec (disch := first | sl_exact hc1 | sl_exact hc2 | sl_exact hc3 | sl_exact hc4)
    sl_step
    iapply Hk
    sl_close

end Cert.Kernel
-- ==== Proof.Kernel.RunD.lean ====
module

public import proofs.«01_k».proof.Proof.Kernel.Conds
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body at the last column of a row block that is not the last: the product, the rebuilt input, and the loop over the rows. -/
@[irreducible] def runD (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1)
    (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) :
    Σ' (L10 : (BufTy.Contents (Elt F) arg10.view.ty → BufTy.Contents (Elt F) arg11.view.ty → BufTy.Contents (Elt F) arg15.view.ty → BufTy.Contents (Elt F) arg16.view.ty → List (View.Piece (Elt F) S256x5120 .bf16))), Σ' (L11 : (BufTy.Contents (Elt F) arg10.view.ty → BufTy.Contents (Elt F) arg11.view.ty → BufTy.Contents (Elt F) arg15.view.ty → BufTy.Contents (Elt F) arg16.view.ty → BufTy.Contents (Elt F) arg11.view.ty)), Σ' (L15 : (BufTy.Contents (Elt F) arg10.view.ty → BufTy.Contents (Elt F) arg11.view.ty → BufTy.Contents (Elt F) arg15.view.ty → BufTy.Contents (Elt F) arg16.view.ty → List (View.Piece (Elt F) S256x5120 .f32))), { L16 : (BufTy.Contents (Elt F) arg10.view.ty → BufTy.Contents (Elt F) arg11.view.ty → BufTy.Contents (Elt F) arg15.view.ty → BufTy.Contents (Elt F) arg16.view.ty → List (View.Piece (Elt F) S8x5120 .f32)) //
      ∀ (E : Set ℕ) (K : PUnit → sProp 𝕄) (f10 : BufTy.Contents (Elt F) arg10.view.ty) (f11 : BufTy.Contents (Elt F) arg11.view.ty) (f15 : BufTy.Contents (Elt F) arg15.view.ty) (f16 : BufTy.Contents (Elt F) arg16.view.ty),
        iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg10.view.loc (c : Thread nD τ) ↦[arg10.view.set]{fullShare} f10) ∗ (arg11.view.loc (c : Thread nD τ) ↦[arg11.view.set]{fullShare} f11) ∗ (arg15.view.loc (c : Thread nD τ) ↦[arg15.view.set]{fullShare} f15) ∗ (arg16.view.loc (c : Thread nD τ) ↦[arg16.view.set]{fullShare} f16)
          ∗ (iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg10.view.loc (c : Thread nD τ) ↦[arg10.view.set]{fullShare} (arg10.view.writes (Elt F) f10 (L10 f10 f11 f15 f16))) ∗ (arg11.view.loc (c : Thread nD τ) ↦[arg11.view.set]{fullShare} (L11 f10 f11 f15 f16)) ∗ (arg15.view.loc (c : Thread nD τ) ↦[arg15.view.set]{fullShare} (arg15.view.writes (Elt F) f15 (L15 f10 f11 f15 f16))) ∗ (arg16.view.loc (c : Thread nD τ) ↦[arg16.view.set]{fullShare} (arg16.view.writes (Elt F) f16 (L16 f10 f11 f15 f16)))) -∗ K ⟨⟩))
          ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K f10 f11 f15 f16 => ?run⟩
  case run =>
    simp only [cc0_dx_call_eq_skeleton]; unfold cc0_dx_call_skel
    iintro ⟨H5, H6, H7, H8, H9, H14, H10, H11, H15, H16, Hk⟩
    sl_exec (disch := first | sl_exact hc1 | sl_exact hc2 | sl_exact hc3 | sl_exact hc4)
    sl_step
    iapply Hk
    sl_close

end Cert.Kernel
-- ==== Proof.Kernel.RunE.lean ====
module

public import proofs.«01_k».proof.Proof.Kernel.Conds
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body at the last grid point: as at every last column, and the gamma accumulator is summed into its output. -/
@[irreducible] def runE (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1)
    (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) :
    Σ' (L10 : (BufTy.Contents (Elt F) arg10.view.ty → BufTy.Contents (Elt F) arg11.view.ty → BufTy.Contents (Elt F) arg13.view.ty → BufTy.Contents (Elt F) arg15.view.ty → BufTy.Contents (Elt F) arg16.view.ty → List (View.Piece (Elt F) S256x5120 .bf16))), Σ' (L11 : (BufTy.Contents (Elt F) arg10.view.ty → BufTy.Contents (Elt F) arg11.view.ty → BufTy.Contents (Elt F) arg13.view.ty → BufTy.Contents (Elt F) arg15.view.ty → BufTy.Contents (Elt F) arg16.view.ty → BufTy.Contents (Elt F) arg11.view.ty)), Σ' (L13 : (BufTy.Contents (Elt F) arg10.view.ty → BufTy.Contents (Elt F) arg11.view.ty → BufTy.Contents (Elt F) arg13.view.ty → BufTy.Contents (Elt F) arg15.view.ty → BufTy.Contents (Elt F) arg16.view.ty → List (View.Piece (Elt F) S1x5120 .f32))), Σ' (L15 : (BufTy.Contents (Elt F) arg10.view.ty → BufTy.Contents (Elt F) arg11.view.ty → BufTy.Contents (Elt F) arg13.view.ty → BufTy.Contents (Elt F) arg15.view.ty → BufTy.Contents (Elt F) arg16.view.ty → List (View.Piece (Elt F) S256x5120 .f32))), { L16 : (BufTy.Contents (Elt F) arg10.view.ty → BufTy.Contents (Elt F) arg11.view.ty → BufTy.Contents (Elt F) arg13.view.ty → BufTy.Contents (Elt F) arg15.view.ty → BufTy.Contents (Elt F) arg16.view.ty → List (View.Piece (Elt F) S8x5120 .f32)) //
      ∀ (E : Set ℕ) (K : PUnit → sProp 𝕄) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty),
        iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg15.view.loc (c : Thread nD τ) ↦[arg15.view.set]{fullShare} f15) ∗ (arg16.view.loc (c : Thread nD τ) ↦[arg16.view.set]{fullShare} f16)
          ∗ (iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg10.view.loc (c : Thread nD τ) ↦[arg10.view.set]{fullShare} (arg10.view.writes (Elt F) f10 (L10 f10 f11 f13 f15 f16))) ∗ (arg11.view.loc (c : Thread nD τ) ↦[arg11.view.set]{fullShare} (L11 f10 f11 f13 f15 f16)) ∗ (arg13.view.loc (c : Thread nD τ) ↦[arg13.view.set]{fullShare} (arg13.view.writes (Elt F) f13 (L13 f10 f11 f13 f15 f16))) ∗ (arg15.view.loc (c : Thread nD τ) ↦[arg15.view.set]{fullShare} (arg15.view.writes (Elt F) f15 (L15 f10 f11 f13 f15 f16))) ∗ (arg16.view.loc (c : Thread nD τ) ↦[arg16.view.set]{fullShare} (arg16.view.writes (Elt F) f16 (L16 f10 f11 f13 f15 f16)))) -∗ K ⟨⟩))
          ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K f10 f11 f13 f15 f16 => ?run⟩
  case run =>
    simp only [cc0_dx_call_eq_skeleton]; unfold cc0_dx_call_skel
    iintro ⟨H5, H6, H7, H8, H9, H14, H10, H11, H13, H15, H16, Hk⟩
    sl_exec (disch := first | sl_exact hc1 | sl_exact hc2 | sl_exact hc3 | sl_exact hc4)
    sl_step
    iapply Hk
    sl_close

end Cert.Kernel
-- ==== Proof.Kernel.SpecTail.lean ====
module

public import proofs.«01_k».proof.Proof.Kernel.SpecBase
public import proofs.«01_k».proof.Proof.Kernel.RunC
public import proofs.«01_k».proof.Proof.Kernel.RunD
public import proofs.«01_k».proof.Proof.Kernel.RunE
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000

/-! # What the body leaves away from the first column of a row block -/

theorem runC_xt (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : ¬ k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f11 : BufTy.Contents (Elt F) arg11.view.ty) (f15 : BufTy.Contents (Elt F) arg15.view.ty) :
    arg11.view.read (Elt F) (arg11.view.writes (Elt F) f11 ((runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).1 f11 f15)) = XT (arg6.view.read (Elt F) X6) (arg7.view.read (Elt F) X7) (arg8.view.read (Elt F) X8) (arg9.view.read (Elt F) X9) (i 1) := by
  unfold runC
  refine (read_store_whole arg11.view _ _ _ _).trans ?_
  exact xt_eq arg7.view arg8.view arg6.view arg9.view X6 X7 X8 X9 i

theorem runC_acc (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : ¬ k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f11 : BufTy.Contents (Elt F) arg11.view.ty) (f15 : BufTy.Contents (Elt F) arg15.view.ty) :
    arg15.view.read (Elt F) (arg15.view.writes (Elt F) f15 ((runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.1 f11 f15)) = (accPut (i 1) (arg15.view.read (Elt F) f15) (accJ (arg14.view.read (Elt F) X14) (arg5.view.read (Elt F) X5))) := by
  unfold runC
  refine (read_accPut arg15.view f15 (i 1) (k0_off1_eq i) _ _).trans ?_
  refine congrArg (accPut (i 1) _) (congrArg k0_pay1 ?_)
  exact congrArg₂ k0_pay306 (load_whole arg14.view X14 _) (load_whole arg5.view X5 _)

set_option maxHeartbeats 1000000 in
/-- The body at the middle columns of a row block: one product and one block of the rebuilt input. -/
theorem runC_spec (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : ¬ k0_cond3 i = 1#1) (hc4 : ¬ k0_cond4 i = 1#1)
    (w : Vec F S1280x7168 .fp8e4m3) (x : Vec F S256x5120 .fp8e4m3) (xs : Vec F S256x1 .f32) (rstd : Vec F S256x1 .f32) (g : Vec F S1x5120 .f32) (lhs : Vec F S256x7168 .bf16) (a : Vec F S256x5120 .f32) (E : Set ℕ) (K : PUnit → sProp 𝕄) :
    iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ (∃ d11, owns (c : Thread nD τ) arg11 fullShare d11) ∗ owns (c : Thread nD τ) arg15 fullShare a
        ∗ (iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ owns (c : Thread nD τ) arg11 fullShare (XT x xs rstd g (i 1)) ∗ owns (c : Thread nD τ) arg15 fullShare (accPut (i 1) a (accJ lhs w))) -∗ K ⟨⟩))
      ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%X5, %h5, H5⟩, ⟨%X6, %h6, H6⟩, ⟨%X7, %h7, H7⟩, ⟨%X8, %h8, H8⟩, ⟨%X9, %h9, H9⟩, ⟨%X14, %h14, H14⟩, ⟨%d11, %f11, -, H11⟩, ⟨%f15, %h15, H15⟩, Hk⟩
  subst h5 h6 h7 h8 h9 h14 h15
  iapply ((runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2 E K f11 f15)
  isplitl [H5]; · iexact H5
  isplitl [H6]; · iexact H6
  isplitl [H7]; · iexact H7
  isplitl [H8]; · iexact H8
  isplitl [H9]; · iexact H9
  isplitl [H14]; · iexact H14
  isplitl [H11]; · iexact H11
  isplitl [H15]; · iexact H15
  iintro ⟨H5, H6, H7, H8, H9, H14, H11, H15⟩
  iapply Hk
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H14]
  · iexists _; isplitr; swap; · iexact H14
    ipureintro; rfl
  isplitl [H11]
  · iexists _; isplitr; swap; · iexact H11
    ipureintro; exact runC_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f11 f15
  iexists _; isplitr; swap; · iexact H15
  ipureintro; exact runC_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f11 f15

theorem runD_xt (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f15 : BufTy.Contents (Elt F) arg15.view.ty) (f16 : BufTy.Contents (Elt F) arg16.view.ty) :
    arg11.view.read (Elt F) ((runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.1 f10 f11 f15 f16) = XT (arg6.view.read (Elt F) X6) (arg7.view.read (Elt F) X7) (arg8.view.read (Elt F) X8) (arg9.view.read (Elt F) X9) (i 1) := by
  unfold runD
  refine (read_store_whole arg11.view _ _ _ _).trans ?_
  exact xt_eq arg7.view arg8.view arg6.view arg9.view X6 X7 X8 X9 i

theorem runD_acc (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f15 : BufTy.Contents (Elt F) arg15.view.ty) (f16 : BufTy.Contents (Elt F) arg16.view.ty) :
    arg15.view.read (Elt F) (arg15.view.writes (Elt F) f15 ((runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.1 f10 f11 f15 f16)) = (accPut (i 1) (arg15.view.read (Elt F) f15) (accJ (arg14.view.read (Elt F) X14) (arg5.view.read (Elt F) X5))) := by
  unfold runD
  refine (read_accPut arg15.view f15 (i 1) (k0_off1_eq i) _ _).trans ?_
  refine congrArg (accPut (i 1) _) (congrArg k0_pay1 ?_)
  exact congrArg₂ k0_pay306 (load_whole arg14.view X14 _) (load_whole arg5.view X5 _)

theorem runD_dx (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f15 : BufTy.Contents (Elt F) arg15.view.ty) (f16 : BufTy.Contents (Elt F) arg16.view.ty) :
    arg10.view.read (Elt F) (arg10.view.writes (Elt F) f10 ((runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).1 f10 f11 f15 f16)) = DX (arg6.view.read (Elt F) X6) (arg7.view.read (Elt F) X7) (arg8.view.read (Elt F) X8) (arg9.view.read (Elt F) X9) (accPut (i 1) (arg15.view.read (Elt F) f15) (accJ (arg14.view.read (Elt F) X14) (arg5.view.read (Elt F) X5))) := by
  have ha := runD_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16
  rw [← ha]
  unfold runD
  funext y
  exact (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc3 X6 X7 X8 X9 _ f10 f16 _ (le_of_eq trips_eq)).1 y
    (lt_of_lt_of_eq (rg y).isLt trips_eq.symm)

theorem runD_dg (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f15 : BufTy.Contents (Elt F) arg15.view.ty) (f16 : BufTy.Contents (Elt F) arg16.view.ty) :
    arg16.view.read (Elt F) (arg16.view.writes (Elt F) f16 ((runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.2.1 f10 f11 f15 f16)) = dgRows (arg6.view.read (Elt F) X6) (arg7.view.read (Elt F) X7) (arg8.view.read (Elt F) X8) (accPut (i 1) (arg15.view.read (Elt F) f15) (accJ (arg14.view.read (Elt F) X14) (arg5.view.read (Elt F) X5))) (arg16.view.read (Elt F) f16) 4 := by
  have ha := runD_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16
  rw [← ha]
  unfold runD
  refine (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc3 X6 X7 X8 X9 _ f10 f16 _ (le_of_eq trips_eq)).2.trans ?_
  exact congrArg _ trips_eq

set_option maxHeartbeats 1000000 in
/-- The body at the last column of a row block that is not the last: the product, the rebuilt input, and the loop over the rows. -/
theorem runD_spec (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1)
    (w : Vec F S1280x7168 .fp8e4m3) (x : Vec F S256x5120 .fp8e4m3) (xs : Vec F S256x1 .f32) (rstd : Vec F S256x1 .f32) (g : Vec F S1x5120 .f32) (lhs : Vec F S256x7168 .bf16) (a : Vec F S256x5120 .f32) (d : Vec F S8x5120 .f32) (E : Set ℕ) (K : PUnit → sProp 𝕄) :
    iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ (∃ d10, owns (c : Thread nD τ) arg10 fullShare d10) ∗ (∃ d11, owns (c : Thread nD τ) arg11 fullShare d11) ∗ owns (c : Thread nD τ) arg15 fullShare a ∗ owns (c : Thread nD τ) arg16 fullShare d
        ∗ (iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ owns (c : Thread nD τ) arg10 fullShare (DX x xs rstd g (accPut (i 1) a (accJ lhs w))) ∗ owns (c : Thread nD τ) arg11 fullShare (XT x xs rstd g (i 1)) ∗ owns (c : Thread nD τ) arg15 fullShare (accPut (i 1) a (accJ lhs w)) ∗ owns (c : Thread nD τ) arg16 fullShare (dgRows x xs rstd (accPut (i 1) a (accJ lhs w)) d 4)) -∗ K ⟨⟩))
      ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%X5, %h5, H5⟩, ⟨%X6, %h6, H6⟩, ⟨%X7, %h7, H7⟩, ⟨%X8, %h8, H8⟩, ⟨%X9, %h9, H9⟩, ⟨%X14, %h14, H14⟩, ⟨%d10, %f10, -, H10⟩, ⟨%d11, %f11, -, H11⟩, ⟨%f15, %h15, H15⟩, ⟨%f16, %h16, H16⟩, Hk⟩
  subst h5 h6 h7 h8 h9 h14 h15 h16
  iapply ((runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.2.2 E K f10 f11 f15 f16)
  isplitl [H5]; · iexact H5
  isplitl [H6]; · iexact H6
  isplitl [H7]; · iexact H7
  isplitl [H8]; · iexact H8
  isplitl [H9]; · iexact H9
  isplitl [H14]; · iexact H14
  isplitl [H10]; · iexact H10
  isplitl [H11]; · iexact H11
  isplitl [H15]; · iexact H15
  isplitl [H16]; · iexact H16
  iintro ⟨H5, H6, H7, H8, H9, H14, H10, H11, H15, H16⟩
  iapply Hk
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H14]
  · iexists _; isplitr; swap; · iexact H14
    ipureintro; rfl
  isplitl [H10]
  · iexists _; isplitr; swap; · iexact H10
    ipureintro; exact runD_dx c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16
  isplitl [H11]
  · iexists _; isplitr; swap; · iexact H11
    ipureintro; exact runD_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16
  isplitl [H15]
  · iexists _; isplitr; swap; · iexact H15
    ipureintro; exact runD_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16
  iexists _; isplitr; swap; · iexact H16
  ipureintro; exact runD_dg c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16

theorem runE_xt (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty) :
    arg11.view.read (Elt F) ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.1 f10 f11 f13 f15 f16) = XT (arg6.view.read (Elt F) X6) (arg7.view.read (Elt F) X7) (arg8.view.read (Elt F) X8) (arg9.view.read (Elt F) X9) (i 1) := by
  unfold runE
  refine (read_store_whole arg11.view _ _ _ _).trans ?_
  exact xt_eq arg7.view arg8.view arg6.view arg9.view X6 X7 X8 X9 i

theorem runE_acc (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty) :
    arg15.view.read (Elt F) (arg15.view.writes (Elt F) f15 ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.2.1 f10 f11 f13 f15 f16)) = (accPut (i 1) (arg15.view.read (Elt F) f15) (accJ (arg14.view.read (Elt F) X14) (arg5.view.read (Elt F) X5))) := by
  unfold runE
  refine (read_accPut arg15.view f15 (i 1) (k0_off1_eq i) _ _).trans ?_
  refine congrArg (accPut (i 1) _) (congrArg k0_pay1 ?_)
  exact congrArg₂ k0_pay306 (load_whole arg14.view X14 _) (load_whole arg5.view X5 _)

theorem runE_dx (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty) :
    arg10.view.read (Elt F) (arg10.view.writes (Elt F) f10 ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).1 f10 f11 f13 f15 f16)) = DX (arg6.view.read (Elt F) X6) (arg7.view.read (Elt F) X7) (arg8.view.read (Elt F) X8) (arg9.view.read (Elt F) X9) (accPut (i 1) (arg15.view.read (Elt F) f15) (accJ (arg14.view.read (Elt F) X14) (arg5.view.read (Elt F) X5))) := by
  have ha := runE_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  rw [← ha]
  unfold runE
  funext y
  exact (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc3 X6 X7 X8 X9 _ f10 f16 _ (le_of_eq trips_eq)).1 y
    (lt_of_lt_of_eq (rg y).isLt trips_eq.symm)

theorem runE_dg (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty) :
    arg16.view.read (Elt F) (arg16.view.writes (Elt F) f16 ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.2.2.1 f10 f11 f13 f15 f16)) = dgRows (arg6.view.read (Elt F) X6) (arg7.view.read (Elt F) X7) (arg8.view.read (Elt F) X8) (accPut (i 1) (arg15.view.read (Elt F) f15) (accJ (arg14.view.read (Elt F) X14) (arg5.view.read (Elt F) X5))) (arg16.view.read (Elt F) f16) 4 := by
  have ha := runE_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  rw [← ha]
  unfold runE
  refine (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc3 X6 X7 X8 X9 _ f10 f16 _ (le_of_eq trips_eq)).2.trans ?_
  exact congrArg _ trips_eq

theorem runE_gamma (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty) :
    arg13.view.read (Elt F) (arg13.view.writes (Elt F) f13 ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.1 f10 f11 f13 f15 f16)) = k0_pay2 (dgRows (arg6.view.read (Elt F) X6) (arg7.view.read (Elt F) X7) (arg8.view.read (Elt F) X8) (accPut (i 1) (arg15.view.read (Elt F) f15) (accJ (arg14.view.read (Elt F) X14) (arg5.view.read (Elt F) X5))) (arg16.view.read (Elt F) f16) 4) := by
  have hd := runE_dg c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  rw [← hd]
  unfold runE
  refine (read_store_whole arg13.view _ _ _ _).trans ?_
  exact congrArg k0_pay2 (load_whole arg16.view _ _)

set_option maxHeartbeats 1000000 in
/-- The body at the last grid point: as at every last column, and the gamma accumulator is summed into its output. -/
theorem runE_spec (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1)
    (w : Vec F S1280x7168 .fp8e4m3) (x : Vec F S256x5120 .fp8e4m3) (xs : Vec F S256x1 .f32) (rstd : Vec F S256x1 .f32) (g : Vec F S1x5120 .f32) (lhs : Vec F S256x7168 .bf16) (a : Vec F S256x5120 .f32) (d : Vec F S8x5120 .f32) (E : Set ℕ) (K : PUnit → sProp 𝕄) :
    iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ (∃ d10, owns (c : Thread nD τ) arg10 fullShare d10) ∗ (∃ d11, owns (c : Thread nD τ) arg11 fullShare d11) ∗ (∃ d13, owns (c : Thread nD τ) arg13 fullShare d13) ∗ owns (c : Thread nD τ) arg15 fullShare a ∗ owns (c : Thread nD τ) arg16 fullShare d
        ∗ (iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ owns (c : Thread nD τ) arg10 fullShare (DX x xs rstd g (accPut (i 1) a (accJ lhs w))) ∗ owns (c : Thread nD τ) arg11 fullShare (XT x xs rstd g (i 1)) ∗ owns (c : Thread nD τ) arg13 fullShare (k0_pay2 (dgRows x xs rstd (accPut (i 1) a (accJ lhs w)) d 4)) ∗ owns (c : Thread nD τ) arg15 fullShare (accPut (i 1) a (accJ lhs w)) ∗ owns (c : Thread nD τ) arg16 fullShare (dgRows x xs rstd (accPut (i 1) a (accJ lhs w)) d 4)) -∗ K ⟨⟩))
      ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%X5, %h5, H5⟩, ⟨%X6, %h6, H6⟩, ⟨%X7, %h7, H7⟩, ⟨%X8, %h8, H8⟩, ⟨%X9, %h9, H9⟩, ⟨%X14, %h14, H14⟩, ⟨%d10, %f10, -, H10⟩, ⟨%d11, %f11, -, H11⟩, ⟨%d13, %f13, -, H13⟩, ⟨%f15, %h15, H15⟩, ⟨%f16, %h16, H16⟩, Hk⟩
  subst h5 h6 h7 h8 h9 h14 h15 h16
  iapply ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.2.2.2 E K f10 f11 f13 f15 f16)
  isplitl [H5]; · iexact H5
  isplitl [H6]; · iexact H6
  isplitl [H7]; · iexact H7
  isplitl [H8]; · iexact H8
  isplitl [H9]; · iexact H9
  isplitl [H14]; · iexact H14
  isplitl [H10]; · iexact H10
  isplitl [H11]; · iexact H11
  isplitl [H13]; · iexact H13
  isplitl [H15]; · iexact H15
  isplitl [H16]; · iexact H16
  iintro ⟨H5, H6, H7, H8, H9, H14, H10, H11, H13, H15, H16⟩
  iapply Hk
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H14]
  · iexists _; isplitr; swap; · iexact H14
    ipureintro; rfl
  isplitl [H10]
  · iexists _; isplitr; swap; · iexact H10
    ipureintro; exact runE_dx c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  isplitl [H11]
  · iexists _; isplitr; swap; · iexact H11
    ipureintro; exact runE_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  isplitl [H13]
  · iexists _; isplitr; swap; · iexact H13
    ipureintro; exact runE_gamma c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  isplitl [H15]
  · iexists _; isplitr; swap; · iexact H15
    ipureintro; exact runE_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  iexists _; isplitr; swap; · iexact H16
  ipureintro; exact runE_dg c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16

end Cert.Kernel
-- ==== Proof.Kernel.RunA.lean ====
module

public import proofs.«01_k».proof.Proof.Kernel.Conds
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body at the first grid point: it clears the gamma accumulator, fills the left operand and the dequantised block, and writes its columns of the product and of the rebuilt input. -/
@[irreducible] def runA (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) :
    Σ' (L11 : (BufTy.Contents (Elt F) arg11.view.ty → BufTy.Contents (Elt F) arg12.view.ty → BufTy.Contents (Elt F) arg14.view.ty → BufTy.Contents (Elt F) arg15.view.ty → BufTy.Contents (Elt F) arg16.view.ty → List (View.Piece (Elt F) S1280x256 .bf16))), Σ' (L12 : (BufTy.Contents (Elt F) arg11.view.ty → BufTy.Contents (Elt F) arg12.view.ty → BufTy.Contents (Elt F) arg14.view.ty → BufTy.Contents (Elt F) arg15.view.ty → BufTy.Contents (Elt F) arg16.view.ty → List (View.Piece (Elt F) S256x7168 .bf16))), Σ' (L14 : (BufTy.Contents (Elt F) arg11.view.ty → BufTy.Contents (Elt F) arg12.view.ty → BufTy.Contents (Elt F) arg14.view.ty → BufTy.Contents (Elt F) arg15.view.ty → BufTy.Contents (Elt F) arg16.view.ty → List (View.Piece (Elt F) S256x7168 .bf16))), Σ' (L15 : (BufTy.Contents (Elt F) arg11.view.ty → BufTy.Contents (Elt F) arg12.view.ty → BufTy.Contents (Elt F) arg14.view.ty → BufTy.Contents (Elt F) arg15.view.ty → BufTy.Contents (Elt F) arg16.view.ty → List (View.Piece (Elt F) S256x5120 .f32))), { L16 : (BufTy.Contents (Elt F) arg11.view.ty → BufTy.Contents (Elt F) arg12.view.ty → BufTy.Contents (Elt F) arg14.view.ty → BufTy.Contents (Elt F) arg15.view.ty → BufTy.Contents (Elt F) arg16.view.ty → List (View.Piece (Elt F) S8x5120 .f32)) //
      ∀ (E : Set ℕ) (K : PUnit → sProp 𝕄) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)
          ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} (arg11.view.writes (Elt F) f11 (L11 f11 f12 f14 f15 f16))) ∗ (arg12.view.loc (c : Thread nD τ) ↦[arg12.view.set]{fullShare} (arg12.view.writes (Elt F) f12 (L12 f11 f12 f14 f15 f16))) ∗ (arg14.view.loc (c : Thread nD τ) ↦[arg14.view.set]{fullShare} (arg14.view.writes (Elt F) f14 (L14 f11 f12 f14 f15 f16))) ∗ (arg15.view.loc (c : Thread nD τ) ↦[arg15.view.set]{fullShare} (arg15.view.writes (Elt F) f15 (L15 f11 f12 f14 f15 f16))) ∗ (arg16.view.loc (c : Thread nD τ) ↦[arg16.view.set]{fullShare} (arg16.view.writes (Elt F) f16 (L16 f11 f12 f14 f15 f16)))) -∗ K ⟨⟩))
          ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K f11 f12 f14 f15 f16 => ?run⟩
  case run =>
    simp only [cc0_dx_call_eq_skeleton]; unfold cc0_dx_call_skel
    iintro ⟨H2, H3, H4, H5, H6, H7, H8, H9, H11, H12, H14, H15, H16, Hk⟩
    sl_exec (disch := first | sl_exact hc1 | sl_exact hc2 | sl_exact hc3 | sl_exact hc4)
    sl_step
    iapply Hk
    sl_close

end Cert.Kernel
-- ==== Proof.Kernel.HeadsA.lean ====
module

public import proofs.«01_k».proof.Proof.Kernel.SpecBase
public import proofs.«01_k».proof.Proof.Kernel.RunA
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

namespace HeadsA

set_option maxHeartbeats 4000000

theorem down56 : down 56 = [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] := by decide

theorem runA_dq (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.1 f11 f12 f14 f15 f16 = (down 56).map (dqPiece (arg2.view.read (Elt F) X2) (arg3.view.read (Elt F) X3)) := by
  rw [down56]; unfold runA; rfl

theorem runA_lhs (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.1 f11 f12 f14 f15 f16 = (down 56).map (lhsPiece (arg2.view.read (Elt F) X2) (arg3.view.read (Elt F) X3) (arg4.view.read (Elt F) X4)) := by
  rw [down56]; unfold runA; rfl

theorem runA_xt (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) :
    arg11.view.read (Elt F) (arg11.view.writes (Elt F) f11 ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).1 f11 f12 f14 f15 f16)) = XT (arg6.view.read (Elt F) X6) (arg7.view.read (Elt F) X7) (arg8.view.read (Elt F) X8) (arg9.view.read (Elt F) X9) (i 1) := by
  unfold runA
  refine (read_store_whole arg11.view f11 _ _ _).trans ?_
  exact xt_eq arg7.view arg8.view arg6.view arg9.view X6 X7 X8 X9 i

theorem runA_acc (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) :
    arg15.view.read (Elt F) (arg15.view.writes (Elt F) f15 ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.2.1 f11 f12 f14 f15 f16))
      = accPut (i 1) (arg15.view.read (Elt F) f15) (accJ (LHS (arg2.view.read (Elt F) X2) (arg3.view.read (Elt F) X3) (arg4.view.read (Elt F) X4)) (arg5.view.read (Elt F) X5)) := by
  have hl := runA_lhs c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16
  revert hl
  unfold runA
  intro hl
  refine (read_accPut arg15.view f15 (i 1) (k0_off1_eq i) _ _).trans ?_
  refine congrArg (accPut (i 1) _) (congrArg k0_pay1 ?_)
  refine congrArg₂ k0_pay306 ?_ (load_whole arg5.view X5 _)
  have h2 := read_lhs arg14.view arg14.view.junk (arg2.view.read (Elt F) X2) (arg3.view.read (Elt F) X3) (arg4.view.read (Elt F) X4)
  rw [← hl] at h2
  exact (load_whole arg14.view _ _).trans h2

theorem runA_dg (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) :
    arg16.view.read (Elt F) (arg16.view.writes (Elt F) f16 ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.2.2.1 f11 f12 f14 f15 f16)) = k0_pay303 := by
  unfold runA
  exact read_store_whole arg16.view f16 _ _ _

end HeadsA

end Cert.Kernel
-- ==== Proof.Kernel.RunB.lean ====
module

public import proofs.«01_k».proof.Proof.Kernel.Conds
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body at the first column of every later row block: as at the first grid point, the gamma accumulator left alone. -/
@[irreducible] def runB (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) :
    Σ' (L11 : (BufTy.Contents (Elt F) arg11.view.ty → BufTy.Contents (Elt F) arg12.view.ty → BufTy.Contents (Elt F) arg14.view.ty → BufTy.Contents (Elt F) arg15.view.ty → List (View.Piece (Elt F) S1280x256 .bf16))), Σ' (L12 : (BufTy.Contents (Elt F) arg11.view.ty → BufTy.Contents (Elt F) arg12.view.ty → BufTy.Contents (Elt F) arg14.view.ty → BufTy.Contents (Elt F) arg15.view.ty → List (View.Piece (Elt F) S256x7168 .bf16))), Σ' (L14 : (BufTy.Contents (Elt F) arg11.view.ty → BufTy.Contents (Elt F) arg12.view.ty → BufTy.Contents (Elt F) arg14.view.ty → BufTy.Contents (Elt F) arg15.view.ty → List (View.Piece (Elt F) S256x7168 .bf16))), { L15 : (BufTy.Contents (Elt F) arg11.view.ty → BufTy.Contents (Elt F) arg12.view.ty → BufTy.Contents (Elt F) arg14.view.ty → BufTy.Contents (Elt F) arg15.view.ty → List (View.Piece (Elt F) S256x5120 .f32)) //
      ∀ (E : Set ℕ) (K : PUnit → sProp 𝕄) (f11 : BufTy.Contents (Elt F) arg11.view.ty) (f12 : BufTy.Contents (Elt F) arg12.view.ty) (f14 : BufTy.Contents (Elt F) arg14.view.ty) (f15 : BufTy.Contents (Elt F) arg15.view.ty),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15)
          ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} (arg11.view.writes (Elt F) f11 (L11 f11 f12 f14 f15))) ∗ (arg12.view.loc (c : Thread nD τ) ↦[arg12.view.set]{fullShare} (arg12.view.writes (Elt F) f12 (L12 f11 f12 f14 f15))) ∗ (arg14.view.loc (c : Thread nD τ) ↦[arg14.view.set]{fullShare} (arg14.view.writes (Elt F) f14 (L14 f11 f12 f14 f15))) ∗ (arg15.view.loc (c : Thread nD τ) ↦[arg15.view.set]{fullShare} (arg15.view.writes (Elt F) f15 (L15 f11 f12 f14 f15)))) -∗ K ⟨⟩))
          ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K f11 f12 f14 f15 => ?run⟩
  case run =>
    simp only [cc0_dx_call_eq_skeleton]; unfold cc0_dx_call_skel
    iintro ⟨H2, H3, H4, H5, H6, H7, H8, H9, H11, H12, H14, H15, Hk⟩
    sl_exec (disch := first | sl_exact hc1 | sl_exact hc2 | sl_exact hc3 | sl_exact hc4)
    sl_step
    iapply Hk
    sl_close

end Cert.Kernel
-- ==== Proof.Kernel.HeadsB.lean ====
module

public import proofs.«01_k».proof.Proof.Kernel.SpecBase
public import proofs.«01_k».proof.Proof.Kernel.RunB
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

namespace HeadsB

set_option maxHeartbeats 4000000

theorem down56 : down 56 = [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] := by decide

theorem runB_dq (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.1 f11 f12 f14 f15 = (down 56).map (dqPiece (arg2.view.read (Elt F) X2) (arg3.view.read (Elt F) X3)) := by
  rw [down56]; unfold runB; rfl

theorem runB_lhs (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.1 f11 f12 f14 f15 = (down 56).map (lhsPiece (arg2.view.read (Elt F) X2) (arg3.view.read (Elt F) X3) (arg4.view.read (Elt F) X4)) := by
  rw [down56]; unfold runB; rfl

theorem runB_xt (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) :
    arg11.view.read (Elt F) (arg11.view.writes (Elt F) f11 ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).1 f11 f12 f14 f15)) = XT (arg6.view.read (Elt F) X6) (arg7.view.read (Elt F) X7) (arg8.view.read (Elt F) X8) (arg9.view.read (Elt F) X9) (i 1) := by
  unfold runB
  refine (read_store_whole arg11.view f11 _ _ _).trans ?_
  exact xt_eq arg7.view arg8.view arg6.view arg9.view X6 X7 X8 X9 i

theorem runB_acc (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) :
    arg15.view.read (Elt F) (arg15.view.writes (Elt F) f15 ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.2.1 f11 f12 f14 f15))
      = accPut (i 1) (arg15.view.read (Elt F) f15) (accJ (LHS (arg2.view.read (Elt F) X2) (arg3.view.read (Elt F) X3) (arg4.view.read (Elt F) X4)) (arg5.view.read (Elt F) X5)) := by
  have hl := runB_lhs c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15
  revert hl
  unfold runB
  intro hl
  refine (read_accPut arg15.view f15 (i 1) (k0_off1_eq i) _ _).trans ?_
  refine congrArg (accPut (i 1) _) (congrArg k0_pay1 ?_)
  refine congrArg₂ k0_pay306 ?_ (load_whole arg5.view X5 _)
  have h2 := read_lhs arg14.view arg14.view.junk (arg2.view.read (Elt F) X2) (arg3.view.read (Elt F) X3) (arg4.view.read (Elt F) X4)
  rw [← hl] at h2
  exact (load_whole arg14.view _ _).trans h2

end HeadsB

end Cert.Kernel
-- ==== Proof.Kernel.SpecHead.lean ====
module

public import proofs.«01_k».proof.Proof.Kernel.HeadsA
public import proofs.«01_k».proof.Proof.Kernel.HeadsB
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # What the body leaves at the first column of a row block -/

set_option maxHeartbeats 1000000 in
/-- The body at the first grid point: it clears the gamma accumulator, fills the left operand and the dequantised block, and writes its columns of the product and of the rebuilt input. -/
theorem runA_spec (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1)
    (q : Vec F S256x7168 .fp8e5m2) (s : Vec F S256x56 .f32) (ws : Vec F S1x7168 .f32) (w : Vec F S1280x7168 .fp8e4m3) (x : Vec F S256x5120 .fp8e4m3) (xs : Vec F S256x1 .f32) (rstd : Vec F S256x1 .f32) (g : Vec F S1x5120 .f32) (a : Vec F S256x5120 .f32) (E : Set ℕ) (K : PUnit → sProp 𝕄) :
    iprop(owns (c : Thread nD τ) arg2 fullShare q ∗ owns (c : Thread nD τ) arg3 fullShare s ∗ owns (c : Thread nD τ) arg4 fullShare ws ∗ owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ (∃ d11, owns (c : Thread nD τ) arg11 fullShare d11) ∗ (∃ d12, owns (c : Thread nD τ) arg12 fullShare d12) ∗ (∃ d14, owns (c : Thread nD τ) arg14 fullShare d14) ∗ owns (c : Thread nD τ) arg15 fullShare a ∗ (∃ d16, owns (c : Thread nD τ) arg16 fullShare d16)
        ∗ (iprop(owns (c : Thread nD τ) arg2 fullShare q ∗ owns (c : Thread nD τ) arg3 fullShare s ∗ owns (c : Thread nD τ) arg4 fullShare ws ∗ owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg11 fullShare (XT x xs rstd g (i 1)) ∗ owns (c : Thread nD τ) arg12 fullShare (DQ q s) ∗ owns (c : Thread nD τ) arg14 fullShare (LHS q s ws) ∗ owns (c : Thread nD τ) arg15 fullShare (accPut (i 1) a (accJ (LHS q s ws) w)) ∗ owns (c : Thread nD τ) arg16 fullShare k0_pay303) -∗ K ⟨⟩))
      ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%d11, %f11, -, H11⟩, ⟨%d12, %f12, -, H12⟩, ⟨%d14, %f14, -, H14⟩, ⟨%f15, %h15, H15⟩, ⟨%d16, %f16, -, H16⟩, Hk⟩
  subst h2 h3 h4 h5 h6 h7 h8 h9 h15
  iapply ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.2.2.2 E K f11 f12 f14 f15 f16)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H14]; · iexact H14
  isplitl [H15]; · iexact H15
  isplitl [H16]; · iexact H16
  iintro ⟨H2, H3, H4, H5, H6, H7, H8, H9, H11, H12, H14, H15, H16⟩
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H11]
  · iexists _; isplitr; swap; · iexact H11
    ipureintro; exact HeadsA.runA_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16
  isplitl [H12]
  · iexists _; isplitr; swap; · iexact H12
    ipureintro; exact (congrArg (fun L => arg12.view.read (Elt F) (arg12.view.writes (Elt F) f12 L)) (HeadsA.runA_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16)).trans (read_dq arg12.view f12 _ _)
  isplitl [H14]
  · iexists _; isplitr; swap; · iexact H14
    ipureintro; exact (congrArg (fun L => arg14.view.read (Elt F) (arg14.view.writes (Elt F) f14 L)) (HeadsA.runA_lhs c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16)).trans (read_lhs arg14.view f14 _ _ _)
  isplitl [H15]
  · iexists _; isplitr; swap; · iexact H15
    ipureintro; exact HeadsA.runA_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16
  iexists _; isplitr; swap; · iexact H16
  ipureintro; exact HeadsA.runA_dg c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16

set_option maxHeartbeats 1000000 in
/-- The body at the first column of every later row block: as at the first grid point, the gamma accumulator left alone. -/
theorem runB_spec (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1)
    (q : Vec F S256x7168 .fp8e5m2) (s : Vec F S256x56 .f32) (ws : Vec F S1x7168 .f32) (w : Vec F S1280x7168 .fp8e4m3) (x : Vec F S256x5120 .fp8e4m3) (xs : Vec F S256x1 .f32) (rstd : Vec F S256x1 .f32) (g : Vec F S1x5120 .f32) (a : Vec F S256x5120 .f32) (E : Set ℕ) (K : PUnit → sProp 𝕄) :
    iprop(owns (c : Thread nD τ) arg2 fullShare q ∗ owns (c : Thread nD τ) arg3 fullShare s ∗ owns (c : Thread nD τ) arg4 fullShare ws ∗ owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ (∃ d11, owns (c : Thread nD τ) arg11 fullShare d11) ∗ (∃ d12, owns (c : Thread nD τ) arg12 fullShare d12) ∗ (∃ d14, owns (c : Thread nD τ) arg14 fullShare d14) ∗ owns (c : Thread nD τ) arg15 fullShare a
        ∗ (iprop(owns (c : Thread nD τ) arg2 fullShare q ∗ owns (c : Thread nD τ) arg3 fullShare s ∗ owns (c : Thread nD τ) arg4 fullShare ws ∗ owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg11 fullShare (XT x xs rstd g (i 1)) ∗ owns (c : Thread nD τ) arg12 fullShare (DQ q s) ∗ owns (c : Thread nD τ) arg14 fullShare (LHS q s ws) ∗ owns (c : Thread nD τ) arg15 fullShare (accPut (i 1) a (accJ (LHS q s ws) w))) -∗ K ⟨⟩))
      ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%d11, %f11, -, H11⟩, ⟨%d12, %f12, -, H12⟩, ⟨%d14, %f14, -, H14⟩, ⟨%f15, %h15, H15⟩, Hk⟩
  subst h2 h3 h4 h5 h6 h7 h8 h9 h15
  iapply ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.2.2 E K f11 f12 f14 f15)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H14]; · iexact H14
  isplitl [H15]; · iexact H15
  iintro ⟨H2, H3, H4, H5, H6, H7, H8, H9, H11, H12, H14, H15⟩
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H11]
  · iexists _; isplitr; swap; · iexact H11
    ipureintro; exact HeadsB.runB_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15
  isplitl [H12]
  · iexists _; isplitr; swap; · iexact H12
    ipureintro; exact (congrArg (fun L => arg12.view.read (Elt F) (arg12.view.writes (Elt F) f12 L)) (HeadsB.runB_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15)).trans (read_dq arg12.view f12 _ _)
  isplitl [H14]
  · iexists _; isplitr; swap; · iexact H14
    ipureintro; exact (congrArg (fun L => arg14.view.read (Elt F) (arg14.view.writes (Elt F) f14 L)) (HeadsB.runB_lhs c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15)).trans (read_lhs arg14.view f14 _ _ _)
  iexists _; isplitr; swap; · iexact H15
  ipureintro; exact HeadsB.runB_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15

end Cert.Kernel
-- ==== Proof.Kernel.Region0.lean ====
module

public import proofs.«01_k».proof.Proof.Kernel.SpecTail
public import proofs.«01_k».proof.Proof.Kernel.SpecHead
public import proofs.«01_k».proof.Proof.Gen.Kernel.Launch
public import proofs.«01_k».proof.Proof.Gen.Kernel.Points
public import Idealize.ShloMosaic.Lib.Pipeline.FrameBody
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The first region: proof data and body obligation -/

/-- Grid point number `n` of the first region, counted round the grid. -/
def gp (n : ℕ) : Fin cfg0.N := ⟨n % 192, lt_of_lt_of_eq (Nat.mod_lt _ (by decide)) N_0.symm⟩

theorem gp_self (t : Fin cfg0.N) (n : ℕ) (h : n = t.val) : gp n = t := by
  have ht : t.val < 192 := Nat.lt_of_lt_of_eq t.isLt N_0
  apply Fin.ext; show n % 192 = t.val; omega

section
variable (V : Dev nD → Valuation τ sig (Elt F)) (c : Dev nD)

/-- Window `w`'s block at point `t`, read off its array as the region finds it. -/
def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The block of the gradient codes at point `t`. -/
abbrev b_q (t : Fin cfg0.N) : Vec F S256x7168 .fp8e5m2 := iblk0 V c 0 t
/-- The block of the gradient scales at point `t`. -/
abbrev b_s (t : Fin cfg0.N) : Vec F S256x56 .f32 := iblk0 V c 1 t
/-- The block of the weight scales at point `t`. -/
abbrev b_ws (t : Fin cfg0.N) : Vec F S1x7168 .f32 := iblk0 V c 2 t
/-- The block of the weight codes at point `t`. -/
abbrev b_w (t : Fin cfg0.N) : Vec F S1280x7168 .fp8e4m3 := iblk0 V c 3 t
/-- The block of the input codes at point `t`. -/
abbrev b_x (t : Fin cfg0.N) : Vec F S256x5120 .fp8e4m3 := iblk0 V c 4 t
/-- The block of the input scales at point `t`. -/
abbrev b_xs (t : Fin cfg0.N) : Vec F S256x1 .f32 := iblk0 V c 5 t
/-- The block of the reciprocal standard deviations at point `t`. -/
abbrev b_rs (t : Fin cfg0.N) : Vec F S256x1 .f32 := iblk0 V c 6 t
/-- The block of the gammas at point `t`. -/
abbrev b_g (t : Fin cfg0.N) : Vec F S1x5120 .f32 := iblk0 V c 7 t

/-- The left operand of row block `i`. -/
def LHSv (i : ℕ) : Vec F S256x7168 .bf16 := LHS (b_q V c (gp (4 * i))) (b_s V c (gp (4 * i))) (b_ws V c (gp (4 * i)))
/-- The dequantised gradient of row block `i`. -/
def DQv (i : ℕ) : Vec F S256x7168 .bf16 := DQ (b_q V c (gp (4 * i))) (b_s V c (gp (4 * i)))
/-- The product of row block `i`: column block `j` is computed at point `4 i + j`. -/
def ACCv (i : ℕ) : Vec F S256x5120 .f32 := fun y => accJ (LHSv V c i) (b_w V c (gp (4 * i + (jc y).val))) (inj y)
/-- The gamma accumulator after the first `i` row blocks. -/
def DGv : ℕ → Vec F S8x5120 .f32
  | 0 => k0_pay303
  | i + 1 => dgRows (b_x V c (gp (4 * i + 3))) (b_xs V c (gp (4 * i + 3))) (b_rs V c (gp (4 * i + 3))) (ACCv V c i) (DGv i) 4

/-- What the scratch buffers hold before point `n`: the left operand once its row block has begun, the product's columns
    computed so far, the gamma accumulator of the row blocks finished. -/
def inv0 (n : ℕ) (l : Vec F S256x7168 .bf16) (a : Vec F S256x5120 .f32) (g : Vec F S8x5120 .f32) : Prop :=
  (n % 4 ≠ 0 → l = LHSv V c (n / 4)) ∧ (∀ y, (jc y).val < n % 4 → a y = ACCv V c (n / 4) y) ∧ (n ≠ 0 → g = DGv V c (n / 4))

/-- The invariant before point `n`. -/
def Φ0 (n : ℕ) : sProp 𝕄 :=
  iprop(∃ l : Vec F S256x7168 .bf16, ∃ a : Vec F S256x5120 .f32, ∃ g : Vec F S8x5120 .f32, ⌜inv0 V c n l a g⌝
    ∗ owns (c : Thread nD τ) (Memref.whole cc0_scratch0) fullShare l ∗ owns (c : Thread nD τ) (Memref.whole cc0_scratch1) fullShare a
    ∗ owns (c : Thread nD τ) (Memref.whole cc0_scratch2) fullShare g
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The first region's proof data from the valuation `V`. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => DX (b_x V c t) (b_xs V c t) (b_rs V c t) (b_g V c t) (ACCv V c (t.val / 4))
    | ⟨9, _⟩ => XT (b_x V c t) (b_xs V c t) (b_rs V c t) (b_g V c t) (grid0.coords t 1)
    | ⟨10, _⟩ => DQv V c (t.val / 4)
    | ⟨11, _⟩ => k0_pay2 (DGv V c 48)
  Φ t := Φ0 V c t.val
  q _ := fullShare
  owed _ := 0

theorem dat0_A (w : Fin cfg0.W) : (dat0 V c).A w = V c (Pipeline.arrRef spec0 w) := by dsimp only [dat0]
theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = iblk0 V c 3 t := by dsimp only [dat0]
theorem after0_4 (t : Fin cfg0.N) : (dat0 V c).after 4 t = iblk0 V c 4 t := by dsimp only [dat0]
theorem after0_5 (t : Fin cfg0.N) : (dat0 V c).after 5 t = iblk0 V c 5 t := by dsimp only [dat0]
theorem after0_6 (t : Fin cfg0.N) : (dat0 V c).after 6 t = iblk0 V c 6 t := by dsimp only [dat0]
theorem after0_7 (t : Fin cfg0.N) : (dat0 V c).after 7 t = iblk0 V c 7 t := by dsimp only [dat0]
theorem after0_8 (t : Fin cfg0.N) : (dat0 V c).after 8 t = DX (b_x V c t) (b_xs V c t) (b_rs V c t) (b_g V c t) (ACCv V c (t.val / 4)) := by dsimp only [dat0]
theorem after0_9 (t : Fin cfg0.N) : (dat0 V c).after 9 t = XT (b_x V c t) (b_xs V c t) (b_rs V c t) (b_g V c t) (grid0.coords t 1) := by dsimp only [dat0]
theorem after0_10 (t : Fin cfg0.N) : (dat0 V c).after 10 t = DQv V c (t.val / 4) := by dsimp only [dat0]
theorem after0_11 (t : Fin cfg0.N) : (dat0 V c).after 11 t = k0_pay2 (DGv V c 48) := by dsimp only [dat0]

theorem before0_0 (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)
theorem before0_2 (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [dat0_A]; try rfl) t d).trans
    (by unfold Dat.fetched Dat.blockOf iblk0; rw [dat0_A]; try rfl)
theorem before0_3 (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [dat0_A]; try rfl) t d).trans
    (by unfold Dat.fetched Dat.blockOf iblk0; rw [dat0_A]; try rfl)
theorem before0_4 (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [dat0_A]; try rfl) t d).trans
    (by unfold Dat.fetched Dat.blockOf iblk0; rw [dat0_A]; try rfl)
theorem before0_5 (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [dat0_A]; try rfl) t d).trans
    (by unfold Dat.fetched Dat.blockOf iblk0; rw [dat0_A]; try rfl)
theorem before0_6 (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [dat0_A]; try rfl) t d).trans
    (by unfold Dat.fetched Dat.blockOf iblk0; rw [dat0_A]; try rfl)
theorem before0_7 (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [dat0_A]; try rfl) t d).trans
    (by unfold Dat.fetched Dat.blockOf iblk0; rw [dat0_A]; try rfl)

end

/-! ## The conditions in closed form -/

theorem hco0 (t : Fin cfg0.N) : (grid0.coords t 0).val = t.val / 4 := by
  have ht : t.val < 192 := Nat.lt_of_lt_of_eq t.isLt N_0
  have e0 : (grid0.coords t 0).val = t.val / 4 % 48 := Pipeline.Grid.coords_val t 0 (by decide) rfl
  omega
theorem hco1 (t : Fin cfg0.N) : (grid0.coords t 1).val = t.val % 4 := by
  have e1 : (grid0.coords t 1).val = t.val / 1 % 4 := Pipeline.Grid.coords_val t 1 (by decide) rfl
  omega
theorem hcond1 : ∀ t : Fin cfg0.N, cond1 (grid0.coords t) ↔ t.val = 0 := (by decide +kernel : ∀ t : Fin grid0.N, cond1 (grid0.coords t) ↔ t.val = 0)
theorem hcond2 : ∀ t : Fin cfg0.N, k0_cond2 (grid0.coords t) = 1#1 ↔ t.val % 4 = 0 := (by decide +kernel : ∀ t : Fin grid0.N, k0_cond2 (grid0.coords t) = 1#1 ↔ t.val % 4 = 0)
theorem hcond3 : ∀ t : Fin cfg0.N, k0_cond3 (grid0.coords t) = 1#1 ↔ t.val % 4 = 3 := (by decide +kernel : ∀ t : Fin grid0.N, k0_cond3 (grid0.coords t) = 1#1 ↔ t.val % 4 = 3)
theorem hcond4 : ∀ t : Fin cfg0.N, k0_cond4 (grid0.coords t) = 1#1 ↔ t.val = 191 := (by decide +kernel : ∀ t : Fin grid0.N, k0_cond4 (grid0.coords t) = 1#1 ↔ t.val = 191)

theorem idle8 (t : Fin cfg0.N) : cfg0.idle 8 (cfg0.grid.coords t) = !(decide (t.val % 4 = 3)) := by
  show (!(k0_cond3 (grid0.coords t) == 1#1)) = _
  rw [show (k0_cond3 (grid0.coords t) == 1#1) = decide (t.val % 4 = 3) from by rw [beq_eq_decide]; exact decide_eq_decide.mpr (hcond3 t)]
theorem idle10 (t : Fin cfg0.N) : cfg0.idle 10 (cfg0.grid.coords t) = !(decide (t.val % 4 = 0)) := by
  show (!(k0_cond2 (grid0.coords t) == 1#1)) = _
  rw [show (k0_cond2 (grid0.coords t) == 1#1) = decide (t.val % 4 = 0) from by rw [beq_eq_decide]; exact decide_eq_decide.mpr (hcond2 t)]
theorem idle11 (t : Fin cfg0.N) : cfg0.idle 11 (cfg0.grid.coords t) = !(decide (t.val = 191)) := by
  show (!(k0_cond4 (grid0.coords t) == 1#1)) = _
  rw [show (k0_cond4 (grid0.coords t) == 1#1) = decide (t.val = 191) from by rw [beq_eq_decide]; exact decide_eq_decide.mpr (hcond4 t)]

section
variable (V : Dev nD → Valuation τ sig (Elt F)) (c : Dev nD)

/-! ## The output windows after a point -/

theorem leaves_live {w : Fin cfg0.W} {t : Fin cfg0.N} (hi : cfg0.idle w (cfg0.grid.coords t) = false) :
    (dat0 V c).leavesExact w t = owns (c : Thread nD τ) ((cfg0.win w).stage (cfg0.slots t w)) fullShare ((dat0 V c).after w t) := by
  unfold Dat.leavesExact; rw [hi]
theorem leaves_flush {w : Fin cfg0.W} {t : Fin cfg0.N} (hf : (cfg0.win w).flush t = true) :
    (dat0 V c).leavesExact w t = owns (c : Thread nD τ) ((cfg0.win w).stage (cfg0.slots t w)) fullShare ((dat0 V c).after w t) := by
  unfold Dat.leavesExact; rw [hf]; cases cfg0.idle w (cfg0.grid.coords t) <;> rfl

/-- The dequantised block stays in its buffer through its row block. -/
theorem before0_10 (t : Fin cfg0.N) (h : t.val % 4 ≠ 0) (d) : (dat0 V c).before 10 t d = DQv V c (t.val / 4) := by
  obtain ⟨n, hn⟩ := t
  induction n with
  | zero => exact absurd rfl h
  | succ n ih =>
    have hN : n + 1 < 192 := lt_of_lt_of_eq hn (show cfg0.N = 192 from N_0)
    have hfl : (cfg0.win 10).flush ⟨n, Nat.lt_of_succ_lt hn⟩ = false := Bool.eq_false_iff.mpr fun hf => by
      have := (flush0_10 _).mp hf; dsimp only at this h; omega
    rw [Dat.before_of_pos (dat0 V c) 10 ⟨n + 1, hn⟩ (Nat.succ_ne_zero n) (by unfold Window.fetch; rfl) d]
    rw [show (⟨(⟨n + 1, hn⟩ : Fin cfg0.N).val - 1, Nat.lt_of_le_of_lt (Nat.sub_le _ _) (⟨n + 1, hn⟩ : Fin cfg0.N).isLt⟩ : Fin cfg0.N) = ⟨n, Nat.lt_of_succ_lt hn⟩ from rfl]
    rw [hfl]
    unfold Dat.left
    rw [idle10]
    by_cases h0 : n % 4 = 0
    · rw [show (!(decide ((⟨n, Nat.lt_of_succ_lt hn⟩ : Fin cfg0.N).val % 4 = 0))) = false from by simp [h0]]
      show (dat0 V c).kept 10 _ d = _
      have hk : (dat0 V c).kept 10 ⟨n, Nat.lt_of_succ_lt hn⟩ d = (dat0 V c).after 10 ⟨n, Nat.lt_of_succ_lt hn⟩ := rfl
      rw [hk, after0_10]
      congr 1
      show n / 4 = (n + 1) / 4; omega
    · rw [show (!(decide ((⟨n, Nat.lt_of_succ_lt hn⟩ : Fin cfg0.N).val % 4 = 0))) = true from by simp [h0]]
      show (dat0 V c).before 10 ⟨n, Nat.lt_of_succ_lt hn⟩ d = _
      rw [ih (Nat.lt_of_succ_lt hn) h0]
      congr 1
      show n / 4 = (n + 1) / 4; dsimp only at h; omega

/-! ## The scratch buffers across a point -/

theorem acc_step (t : Fin cfg0.N) (a : Vec F S256x5120 .f32) (h : ∀ y, (jc y).val < t.val % 4 → a y = ACCv V c (t.val / 4) y) (y : S256x5120.Idx)
    (hy : (jc y).val < t.val % 4 + 1) :
    accPut (grid0.coords t 1) a (accJ (LHSv V c (t.val / 4)) (b_w V c t)) y = ACCv V c (t.val / 4) y := by
  unfold accPut
  by_cases e : jc y = grid0.coords t 1
  · rw [if_pos e]
    have e' : (jc y).val = t.val % 4 := (congrArg Fin.val e).trans (hco1 t)
    unfold ACCv
    rw [gp_self t (4 * (t.val / 4) + (jc y).val) (by omega)]
  · rw [if_neg e]
    apply h
    have e' : (jc y).val ≠ t.val % 4 := fun h' => e (Fin.ext (h'.trans (hco1 t).symm))
    omega

theorem acc_full (t : Fin cfg0.N) (h3 : t.val % 4 = 3) (a : Vec F S256x5120 .f32) (h : ∀ y, (jc y).val < t.val % 4 → a y = ACCv V c (t.val / 4) y) :
    accPut (grid0.coords t 1) a (accJ (LHSv V c (t.val / 4)) (b_w V c t)) = ACCv V c (t.val / 4) :=
  funext fun y => acc_step V c t a h y (by have := (jc y).isLt; omega)

theorem LHSv_at (t : Fin cfg0.N) (h : t.val % 4 = 0) : LHSv V c (t.val / 4) = LHS (b_q V c t) (b_s V c t) (b_ws V c t) := by
  unfold LHSv; rw [gp_self t (4 * (t.val / 4)) (by omega)]
theorem DQv_at (t : Fin cfg0.N) (h : t.val % 4 = 0) : DQv V c (t.val / 4) = DQ (b_q V c t) (b_s V c t) := by
  unfold DQv; rw [gp_self t (4 * (t.val / 4)) (by omega)]
theorem DGv_at (t : Fin cfg0.N) (h : t.val % 4 = 3) : DGv V c (t.val / 4 + 1) = dgRows (b_x V c t) (b_xs V c t) (b_rs V c t) (ACCv V c (t.val / 4)) (DGv V c (t.val / 4)) 4 := by
  rw [DGv, gp_self t (4 * (t.val / 4) + 3) (by omega)]

end

end Cert.Kernel

end
-- ==== Proof.Kernel.Body0.lean ====
module

public import proofs.«01_k».proof.Proof.Kernel.Region0
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The first region's body obligation -/

section
variable (V : Dev nD → Valuation τ sig (Elt F)) (c : Dev nD)

/-- What the body is called with at point `t`. -/
def bodyPre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What it returns. -/
def bodyPost0 (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ (dat0 V c).leavesExact 8 t
    ∗ owns (c : Thread nD τ) (st0_9 t) fullShare ((dat0 V c).after 9 t)
    ∗ (dat0 V c).leavesExact 10 t
    ∗ (dat0 V c).leavesExact 11 t)

/-- The invariant before and after a point. -/
theorem Φ0_start (t : Fin cfg0.N) : (dat0 V c).Φ t.castSucc = Φ0 V c t.val := by
  dsimp only [dat0]; exact Pipeline.Dat.Φ_castSucc (fun n _ => Φ0 V c n) t
theorem Φ0_end (t : Fin cfg0.N) : (dat0 V c).Φ t.succ = Φ0 V c (t.val + 1) := by
  dsimp only [dat0]; rfl

set_option maxHeartbeats 1600000 in
/-- The first point. -/
theorem sound0_A (t : Fin cfg0.N) (h0 : t.val = 0) :
    bodyPre0 V c t ⊢ wp frame (wpE (defs₀ (F := F)) Variants.none (c : Thread nD τ) none) Set.univ (bodyAt0 t) (fun _ => bodyPost0 V c t) := by
  have ht : t.val < 192 := Nat.lt_of_lt_of_eq t.isLt N_0
  unfold bodyPre0 bodyPost0 bodyAt0
  simp only [before0_0, before0_1, before0_2, before0_3, before0_4, before0_5, before0_6, before0_7]
  rw [Φ0_start, Φ0_end, show (dat0 V c).owesAt () t.succ = (dat0 V c).owesAt () t.castSucc from rfl,
    after0_0, after0_1, after0_2, after0_3, after0_4, after0_5, after0_6, after0_7, after0_9]
  rw [Dat.leavesExact_idle (dat0 V c) 8 t (by rw [idle8]; simp; omega) (Bool.eq_false_iff.mpr fun h => by have := (flush0_8 _).mp h; omega)]
  rw [leaves_live V c (w := 10) (t := t) (by rw [idle10]; simp; omega), after0_10]
  rw [Dat.leavesExact_idle (dat0 V c) 11 t (by rw [idle11]; simp; omega) (Bool.eq_false_iff.mpr fun h => by have := (flush0_11 _).mp h; omega)]
  rw [DQv_at V c t (by omega)]
  unfold Φ0
  iintro ⟨⟨%l, %a, %g, %hinv, Hl, Ha, Hg, S0, S1, S2, S3, S4, S5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hl, ha, hg⟩ := hinv
  iapply (runA_spec (F := F) c (grid0.coords t) _ _ _ _ _ _ _ _ _ _ _ _ _ _ _ _ _ _ _ _ _ _ _ _ _ _ _ _ _ _ ((hcond1 t).mpr (by omega)) ((hcond2 t).mpr (by omega)) (fun h => absurd ((hcond3 t).mp h) (by omega)) (fun h => absurd ((hcond4 t).mp h) (by omega)) (b_q V c t) (b_s V c t) (b_ws V c t) (b_w V c t) (b_x V c t) (b_xs V c t) (b_rs V c t) (b_g V c t) a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  isplitl [Hl]; · iexists _; iexact Hl
  isplitl [Ha]; · iexact Ha
  isplitl [Hg]; · iexists _; iexact Hg
  iintro ⟨H0, H1, H2, H3, H4, H5, H6, H7, H9, H10, Hl, Ha, Hg⟩
  isplitl [Hl Ha Hg S0 S1 S2 S3 S4 S5]
  · iexists _, _, _; isplitr; swap
    · isplitl [Hl]; · iexact Hl
      isplitl [Ha]; · iexact Ha
      isplitl [Hg]; · iexact Hg
      isplitl [S0]; · iexact S0
      isplitl [S1]; · iexact S1
      isplitl [S2]; · iexact S2
      isplitl [S3]; · iexact S3
      isplitl [S4]; · iexact S4
      iexact S5
    ipureintro
    exact ⟨fun _ => by rw [show (t.val + 1) / 4 = t.val / 4 from by omega, LHSv_at V c t (by omega)], fun y hy => by rw [← LHSv_at V c t (by omega), show (t.val + 1) / 4 = t.val / 4 from by omega]; exact acc_step V c t a ha y (by omega), fun _ => by rw [show (t.val + 1) / 4 = 0 from by omega]; rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  iexists _; iexact H11

set_option maxHeartbeats 1600000 in
/-- The first point of a later row block. -/
theorem sound0_B (t : Fin cfg0.N) (h0 : t.val ≠ 0) (h1 : t.val % 4 = 0) :
    bodyPre0 V c t ⊢ wp frame (wpE (defs₀ (F := F)) Variants.none (c : Thread nD τ) none) Set.univ (bodyAt0 t) (fun _ => bodyPost0 V c t) := by
  have ht : t.val < 192 := Nat.lt_of_lt_of_eq t.isLt N_0
  unfold bodyPre0 bodyPost0 bodyAt0
  simp only [before0_0, before0_1, before0_2, before0_3, before0_4, before0_5, before0_6, before0_7]
  rw [Φ0_start, Φ0_end, show (dat0 V c).owesAt () t.succ = (dat0 V c).owesAt () t.castSucc from rfl,
    after0_0, after0_1, after0_2, after0_3, after0_4, after0_5, after0_6, after0_7, after0_9]
  rw [Dat.leavesExact_idle (dat0 V c) 8 t (by rw [idle8]; simp; omega) (Bool.eq_false_iff.mpr fun h => by have := (flush0_8 _).mp h; omega)]
  rw [leaves_live V c (w := 10) (t := t) (by rw [idle10]; simp; omega), after0_10]
  rw [Dat.leavesExact_idle (dat0 V c) 11 t (by rw [idle11]; simp; omega) (Bool.eq_false_iff.mpr fun h => by have := (flush0_11 _).mp h; omega)]
  rw [DQv_at V c t (by omega)]
  unfold Φ0
  iintro ⟨⟨%l, %a, %g, %hinv, Hl, Ha, Hg, S0, S1, S2, S3, S4, S5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hl, ha, hg⟩ := hinv
  iapply (runB_spec (F := F) c (grid0.coords t) _ _ _ _ _ _ _ _ _ _ _ _ _ _ _ _ _ _ _ _ _ _ _ _ _ _ _ _ _ _ (fun h => absurd ((hcond1 t).mp h) (by omega)) ((hcond2 t).mpr (by omega)) (fun h => absurd ((hcond3 t).mp h) (by omega)) (fun h => absurd ((hcond4 t).mp h) (by omega)) (b_q V c t) (b_s V c t) (b_ws V c t) (b_w V c t) (b_x V c t) (b_xs V c t) (b_rs V c t) (b_g V c t) a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  isplitl [Hl]; · iexists _; iexact Hl
  isplitl [Ha]; · iexact Ha
  iintro ⟨H0, H1, H2, H3, H4, H5, H6, H7, H9, H10, Hl, Ha⟩
  isplitl [Hl Ha Hg S0 S1 S2 S3 S4 S5]
  · iexists _, _, _; isplitr; swap
    · isplitl [Hl]; · iexact Hl
      isplitl [Ha]; · iexact Ha
      isplitl [Hg]; · iexact Hg
      isplitl [S0]; · iexact S0
      isplitl [S1]; · iexact S1
      isplitl [S2]; · iexact S2
      isplitl [S3]; · iexact S3
      isplitl [S4]; · iexact S4
      iexact S5
    ipureintro
    exact ⟨fun _ => by rw [show (t.val + 1) / 4 = t.val / 4 from by omega, LHSv_at V c t (by omega)], fun y hy => by rw [← LHSv_at V c t (by omega), show (t.val + 1) / 4 = t.val / 4 from by omega]; exact acc_step V c t a ha y (by omega), fun _ => (hg (by omega)).trans (by rw [show (t.val + 1) / 4 = t.val / 4 from by omega])⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  iexists _; iexact H11

set_option maxHeartbeats 1600000 in
/-- A middle point of a row block. -/
theorem sound0_C (t : Fin cfg0.N) (h0 : t.val % 4 ≠ 0) (h1 : t.val % 4 ≠ 3) :
    bodyPre0 V c t ⊢ wp frame (wpE (defs₀ (F := F)) Variants.none (c : Thread nD τ) none) Set.univ (bodyAt0 t) (fun _ => bodyPost0 V c t) := by
  have ht : t.val < 192 := Nat.lt_of_lt_of_eq t.isLt N_0
  unfold bodyPre0 bodyPost0 bodyAt0
  simp only [before0_0, before0_1, before0_2, before0_3, before0_4, before0_5, before0_6, before0_7]
  rw [Φ0_start, Φ0_end, show (dat0 V c).owesAt () t.succ = (dat0 V c).owesAt () t.castSucc from rfl,
    after0_0, after0_1, after0_2, after0_3, after0_4, after0_5, after0_6, after0_7, after0_9]
  rw [Dat.leavesExact_idle (dat0 V c) 8 t (by rw [idle8]; simp; omega) (Bool.eq_false_iff.mpr fun h => by have := (flush0_8 _).mp h; omega)]
  rw [Dat.leavesExact_idle (dat0 V c) 10 t (by rw [idle10]; simp; omega) (Bool.eq_false_iff.mpr fun h => by have := (flush0_10 _).mp h; omega)]
  rw [Dat.leavesExact_idle (dat0 V c) 11 t (by rw [idle11]; simp; omega) (Bool.eq_false_iff.mpr fun h => by have := (flush0_11 _).mp h; omega)]
  unfold Φ0
  iintro ⟨⟨%l, %a, %g, %hinv, Hl, Ha, Hg, S0, S1, S2, S3, S4, S5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hl, ha, hg⟩ := hinv
  obtain rfl := hl (by omega)
  iapply (runC_spec (F := F) c (grid0.coords t) _ _ _ _ _ _ _ _ _ _ _ _ _ _ _ _ _ _ _ _ _ _ _ _ _ _ _ _ _ _ (fun h => absurd ((hcond1 t).mp h) (by omega)) (fun h => absurd ((hcond2 t).mp h) (by omega)) (fun h => absurd ((hcond3 t).mp h) (by omega)) (fun h => absurd ((hcond4 t).mp h) (by omega)) (b_w V c t) (b_x V c t) (b_xs V c t) (b_rs V c t) (b_g V c t) (LHSv V c (t.val / 4)) a Set.univ _)
  isplitl [H3]; · iexact H3
  isplitl [H4]; · iexact H4
  isplitl [H5]; · iexact H5
  isplitl [H6]; · iexact H6
  isplitl [H7]; · iexact H7
  isplitl [Hl]; · iexact Hl
  isplitl [H9]; · iexists _; iexact H9
  isplitl [Ha]; · iexact Ha
  iintro ⟨H3, H4, H5, H6, H7, Hl, H9, Ha⟩
  isplitl [Hl Ha Hg S0 S1 S2 S3 S4 S5]
  · iexists _, _, _; isplitr; swap
    · isplitl [Hl]; · iexact Hl
      isplitl [Ha]; · iexact Ha
      isplitl [Hg]; · iexact Hg
      isplitl [S0]; · iexact S0
      isplitl [S1]; · iexact S1
      isplitl [S2]; · iexact S2
      isplitl [S3]; · iexact S3
      isplitl [S4]; · iexact S4
      iexact S5
    ipureintro
    exact ⟨fun _ => by rw [show (t.val + 1) / 4 = t.val / 4 from by omega], fun y hy => (acc_step V c t a ha y (by omega)).trans (by rw [show (t.val + 1) / 4 = t.val / 4 from by omega]), fun _ => (hg (by omega)).trans (by rw [show (t.val + 1) / 4 = t.val / 4 from by omega])⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  iexists _; iexact H11

set_option maxHeartbeats 1600000 in
/-- The last point of a row block but the last. -/
theorem sound0_D (t : Fin cfg0.N) (h0 : t.val % 4 = 3) (h1 : t.val ≠ 191) :
    bodyPre0 V c t ⊢ wp frame (wpE (defs₀ (F := F)) Variants.none (c : Thread nD τ) none) Set.univ (bodyAt0 t) (fun _ => bodyPost0 V c t) := by
  have ht : t.val < 192 := Nat.lt_of_lt_of_eq t.isLt N_0
  unfold bodyPre0 bodyPost0 bodyAt0
  simp only [before0_0, before0_1, before0_2, before0_3, before0_4, before0_5, before0_6, before0_7]
  rw [Φ0_start, Φ0_end, show (dat0 V c).owesAt () t.succ = (dat0 V c).owesAt () t.castSucc from rfl,
    after0_0, after0_1, after0_2, after0_3, after0_4, after0_5, after0_6, after0_7, after0_9]
  rw [leaves_live V c (w := 8) (t := t) (by rw [idle8]; simp; omega), after0_8]
  rw [leaves_flush V c (w := 10) (t := t) ((flush0_10 t).mpr (by omega)), after0_10]
  rw [Dat.leavesExact_idle (dat0 V c) 11 t (by rw [idle11]; simp; omega) (Bool.eq_false_iff.mpr fun h => by have := (flush0_11 _).mp h; omega)]
  unfold Φ0
  iintro ⟨⟨%l, %a, %g, %hinv, Hl, Ha, Hg, S0, S1, S2, S3, S4, S5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hl, ha, hg⟩ := hinv
  obtain rfl := hl (by omega)
  obtain rfl := hg (by omega)
  rw [before0_10 V c t (by omega)]
  have hacc := acc_full V c t (by omega) a ha
  iapply (runD_spec (F := F) c (grid0.coords t) _ _ _ _ _ _ _ _ _ _ _ _ _ _ _ _ _ _ _ _ _ _ _ _ _ _ _ _ _ _ (fun h => absurd ((hcond1 t).mp h) (by omega)) (fun h => absurd ((hcond2 t).mp h) (by omega)) ((hcond3 t).mpr (by omega)) (fun h => absurd ((hcond4 t).mp h) (by omega)) (b_w V c t) (b_x V c t) (b_xs V c t) (b_rs V c t) (b_g V c t) (LHSv V c (t.val / 4)) a (DGv V c (t.val / 4)) Set.univ _)
  isplitl [H3]; · iexact H3
  isplitl [H4]; · iexact H4
  isplitl [H5]; · iexact H5
  isplitl [H6]; · iexact H6
  isplitl [H7]; · iexact H7
  isplitl [Hl]; · iexact Hl
  isplitl [H8]; · iexists _; iexact H8
  isplitl [H9]; · iexists _; iexact H9
  isplitl [Ha]; · iexact Ha
  isplitl [Hg]; · iexact Hg
  rw [hacc]
  iintro ⟨H3, H4, H5, H6, H7, Hl, H8, H9, Ha, Hg⟩
  isplitl [Hl Ha Hg S0 S1 S2 S3 S4 S5]
  · iexists _, _, _; isplitr; swap
    · isplitl [Hl]; · iexact Hl
      isplitl [Ha]; · iexact Ha
      isplitl [Hg]; · iexact Hg
      isplitl [S0]; · iexact S0
      isplitl [S1]; · iexact S1
      isplitl [S2]; · iexact S2
      isplitl [S3]; · iexact S3
      isplitl [S4]; · iexact S4
      iexact S5
    ipureintro
    exact ⟨fun h => absurd h (by omega), fun y hy => absurd hy (by omega), fun _ => by rw [show (t.val + 1) / 4 = t.val / 4 + 1 from by omega, DGv_at V c t (by omega)]⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

set_option maxHeartbeats 1600000 in
/-- The last point. -/
theorem sound0_E (t : Fin cfg0.N) (h0 : t.val = 191) :
    bodyPre0 V c t ⊢ wp frame (wpE (defs₀ (F := F)) Variants.none (c : Thread nD τ) none) Set.univ (bodyAt0 t) (fun _ => bodyPost0 V c t) := by
  have ht : t.val < 192 := Nat.lt_of_lt_of_eq t.isLt N_0
  unfold bodyPre0 bodyPost0 bodyAt0
  simp only [before0_0, before0_1, before0_2, before0_3, before0_4, before0_5, before0_6, before0_7]
  rw [Φ0_start, Φ0_end, show (dat0 V c).owesAt () t.succ = (dat0 V c).owesAt () t.castSucc from rfl,
    after0_0, after0_1, after0_2, after0_3, after0_4, after0_5, after0_6, after0_7, after0_9]
  rw [leaves_live V c (w := 8) (t := t) (by rw [idle8]; simp; omega), after0_8]
  rw [leaves_flush V c (w := 10) (t := t) ((flush0_10 t).mpr (by omega)), after0_10]
  rw [leaves_live V c (w := 11) (t := t) (by rw [idle11]; simp; omega), after0_11]
  unfold Φ0
  iintro ⟨⟨%l, %a, %g, %hinv, Hl, Ha, Hg, S0, S1, S2, S3, S4, S5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hl, ha, hg⟩ := hinv
  obtain rfl := hl (by omega)
  obtain rfl := hg (by omega)
  rw [before0_10 V c t (by omega)]
  have hacc := acc_full V c t (by omega) a ha
  have hdg : DGv V c 48 = dgRows (b_x V c t) (b_xs V c t) (b_rs V c t) (ACCv V c (t.val / 4)) (DGv V c (t.val / 4)) 4 := by
    rw [← DGv_at V c t (by omega), h0]
  rw [hdg]
  iapply (runE_spec (F := F) c (grid0.coords t) _ _ _ _ _ _ _ _ _ _ _ _ _ _ _ _ _ _ _ _ _ _ _ _ _ _ _ _ _ _ (fun h => absurd ((hcond1 t).mp h) (by omega)) (fun h => absurd ((hcond2 t).mp h) (by omega)) ((hcond3 t).mpr (by omega)) ((hcond4 t).mpr (by omega)) (b_w V c t) (b_x V c t) (b_xs V c t) (b_rs V c t) (b_g V c t) (LHSv V c (t.val / 4)) a (DGv V c (t.val / 4)) Set.univ _)
  isplitl [H3]; · iexact H3
  isplitl [H4]; · iexact H4
  isplitl [H5]; · iexact H5
  isplitl [H6]; · iexact H6
  isplitl [H7]; · iexact H7
  isplitl [Hl]; · iexact Hl
  isplitl [H8]; · iexists _; iexact H8
  isplitl [H9]; · iexists _; iexact H9
  isplitl [H11]; · iexists _; iexact H11
  isplitl [Ha]; · iexact Ha
  isplitl [Hg]; · iexact Hg
  rw [hacc]
  iintro ⟨H3, H4, H5, H6, H7, Hl, H8, H9, H11, Ha, Hg⟩
  isplitl [Hl Ha Hg S0 S1 S2 S3 S4 S5]
  · iexists _, _, _; isplitr; swap
    · isplitl [Hl]; · iexact Hl
      isplitl [Ha]; · iexact Ha
      isplitl [Hg]; · iexact Hg
      isplitl [S0]; · iexact S0
      isplitl [S1]; · iexact S1
      isplitl [S2]; · iexact S2
      isplitl [S3]; · iexact S3
      isplitl [S4]; · iexact S4
      iexact S5
    ipureintro
    exact ⟨fun h => absurd h (by omega), fun y hy => absurd hy (by omega), fun _ => by rw [show (t.val + 1) / 4 = t.val / 4 + 1 from by omega, DGv_at V c t (by omega)]⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound0 (t : Fin cfg0.N) :
    bodyPre0 V c t ⊢ wp frame (wpE (defs₀ (F := F)) Variants.none (c : Thread nD τ) none) Set.univ (bodyAt0 t) (fun _ => bodyPost0 V c t) := by
  by_cases h0 : t.val = 0
  · exact sound0_A V c t h0
  by_cases h1 : t.val % 4 = 0
  · exact sound0_B V c t h0 h1
  by_cases h3 : t.val % 4 = 3
  · by_cases h4 : t.val = 191
    · exact sound0_E V c t h4
    · exact sound0_D V c t h3 h4
  · exact sound0_C V c t h1 h3

theorem defs₀_row0 (t : Fin cfg0.N) :
    defs₀ (F := F) .tc cfg0.body (cfg0.bodyArgs t (cfg0.slots t)) = bodyAt0 t := by
  unfold defs₀; rw [Defs.onTc_tc]

/-- The first region's body obligation. -/
theorem body_obligation0 : BodyObligation (dat0 (F := F) V c) (defs₀ (F := F)) Variants.none () Set.univ := fun t => by
  rw [bigSep_W0, bigSep_W0, defs₀_row0]
  exact triple_restated (sound0 V c t) rfl .rfl fun _ => .rfl

end

end Cert.Kernel

end
-- ==== Proof.Kernel.Region1.lean ====
module

public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The second region: proof data and body obligation -/

/-- The condition of the body's branch: the first slab. -/
abbrev cond5 (i : grid1.Coords) : Prop := (Scalar.cmpi .ne (Scalar.extui (Scalar.cmpi .eq (BitVec.ofNat 32 (i 2).val) 0#32)) 0#32) = 1#1
theorem hcond5 : ∀ t : Fin cfg1.N, cond5 (grid1.coords t) ↔ t.val % 6 = 0 :=
  (by decide +kernel : ∀ t : Fin grid1.N, cond5 (grid1.coords t) ↔ t.val % 6 = 0)
theorem hz2 : (![0, 0] : Fin 2 → Nat) = fun _ => 0 := funext fun a => by fin_cases a <;> rfl

set_option maxHeartbeats 1000000 in
/-- The body at the first slab: what it stores in the result's buffer, with the proof that it runs. -/
noncomputable def dwRunA (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : cond5 i)
    (x : Vec F S1024x2048 .bf16) (y : Vec F S2048x1792 .bf16) :
    { L2 : List (View.Piece (Elt F) S1024x1792 .f32) //
      ∀ (E : Set ℕ) (K : PUnit → sProp 𝕄),
        iprop(owns (c : Thread nD τ) arg3 fullShare x ∗ owns (c : Thread nD τ) arg4 fullShare y ∗ (∃ d, owns (c : Thread nD τ) arg5 fullShare d)
            ∗ (iprop(owns (c : Thread nD τ) arg3 fullShare x ∗ owns (c : Thread nD τ) arg4 fullShare y ∗ (∃ f, arg5.view.loc (c : Thread nD τ) ↦[arg5.view.set]{fullShare} arg5.view.writes (Elt F) f L2)) -∗ K ⟨⟩))
          ⊢ wp frame (wpE (defs₀ (F := F)) Variants.none (c : Thread nD τ) none) E (cc1_dw_call (F := F) i arg3 harg3 arg4 harg4 arg5 harg5) K } := by
  refine ⟨?_, fun E K => ?run⟩
  case run =>
    simp only [cc1_dw_call_eq_skeleton]; unfold cc1_dw_call_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

theorem dwCoverA (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : cond5 i)
    (x : Vec F S1024x2048 .bf16) (y : Vec F S2048x1792 .bf16) (z : S1024x1792.Idx) :
    ∃ pc ∈ (dwRunA c i arg3 harg3 arg4 harg4 arg5 harg5 hc0 x y).1, z ∈ pc.1.set :=
  View.cover_of_tiledL (dwRunA c i arg3 harg3 arg4 harg4 arg5 harg5 hc0 x y).1 S1024x1792.size (by sl_kernel_rfl) z

/-- What it stores, as a term. -/
theorem dwReadA (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : cond5 i)
    (x : Vec F S1024x2048 .bf16) (y : Vec F S2048x1792 .bf16) (f) :
    arg5.view.read (Elt F) (arg5.view.writes (Elt F) f (dwRunA c i arg3 harg3 arg4 harg4 arg5 harg5 hc0 x y).1) = k1_pay2 (k1_pay1 (F := F)) x y := by
  rw [View.read_writes_eq_canon _ _ _ (dwCoverA c i arg3 harg3 arg4 harg4 arg5 harg5 hc0 x y)]
  unfold dwRunA
  dsimp only
  try sl_unfold_words
  rw [View.canon_cons_unit_zero (S := S1024x1792) hz2, View.readCov_unit_zero (S := S1024x1792) _ hz2]
  simp only [View.readAt_eq_ld, harg3.read_unread, harg4.read_unread, harg5.read_unread, View.ld_unit_zero (S := S1024x1792) hz2, View.ld_unit_zero (S := S1024x2048) hz2, View.ld_unit_zero (S := S2048x1792) hz2, shapeCast_self]

set_option maxHeartbeats 1000000 in
/-- The body at a later slab: what it stores in the result's buffer, with the proof that it runs. -/
noncomputable def dwRunB (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : ¬cond5 i)
    (x : Vec F S1024x2048 .bf16) (y : Vec F S2048x1792 .bf16) (xo : Vec F S1024x1792 .f32) :
    { L2 : List (View.Piece (Elt F) S1024x1792 .f32) //
      ∀ (E : Set ℕ) (K : PUnit → sProp 𝕄),
        iprop(owns (c : Thread nD τ) arg3 fullShare x ∗ owns (c : Thread nD τ) arg4 fullShare y ∗ owns (c : Thread nD τ) arg5 fullShare xo
            ∗ (iprop(owns (c : Thread nD τ) arg3 fullShare x ∗ owns (c : Thread nD τ) arg4 fullShare y ∗ (∃ f, arg5.view.loc (c : Thread nD τ) ↦[arg5.view.set]{fullShare} arg5.view.writes (Elt F) f L2)) -∗ K ⟨⟩))
          ⊢ wp frame (wpE (defs₀ (F := F)) Variants.none (c : Thread nD τ) none) E (cc1_dw_call (F := F) i arg3 harg3 arg4 harg4 arg5 harg5) K } := by
  refine ⟨?_, fun E K => ?run⟩
  case run =>
    simp only [cc1_dw_call_eq_skeleton]; unfold cc1_dw_call_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

theorem dwCoverB (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : ¬cond5 i)
    (x : Vec F S1024x2048 .bf16) (y : Vec F S2048x1792 .bf16) (xo : Vec F S1024x1792 .f32) (z : S1024x1792.Idx) :
    ∃ pc ∈ (dwRunB c i arg3 harg3 arg4 harg4 arg5 harg5 hc0 x y xo).1, z ∈ pc.1.set :=
  View.cover_of_tiledL (dwRunB c i arg3 harg3 arg4 harg4 arg5 harg5 hc0 x y xo).1 S1024x1792.size (by sl_kernel_rfl) z

/-- What it stores, as a term. -/
theorem dwReadB (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : ¬cond5 i)
    (x : Vec F S1024x2048 .bf16) (y : Vec F S2048x1792 .bf16) (xo : Vec F S1024x1792 .f32) (f) :
    arg5.view.read (Elt F) (arg5.view.writes (Elt F) f (dwRunB c i arg3 harg3 arg4 harg4 arg5 harg5 hc0 x y xo).1) = k1_pay2 xo x y := by
  rw [View.read_writes_eq_canon _ _ _ (dwCoverB c i arg3 harg3 arg4 harg4 arg5 harg5 hc0 x y xo)]
  unfold dwRunB
  dsimp only
  try sl_unfold_words
  rw [View.canon_unit_zero hz2]
  simp only [View.readAt_eq_ld, harg3.read_unread, harg4.read_unread, harg5.read_unread, View.ld_unit_zero (S := S1024x1792) hz2, View.ld_unit_zero (S := S1024x2048) hz2, View.ld_unit_zero (S := S2048x1792) hz2, shapeCast_self]

/-- Grid point number `n` of the second region, counted round the grid. -/
def gp1 (n : ℕ) : Fin cfg1.N := ⟨n % 120, lt_of_lt_of_eq (Nat.mod_lt _ (by decide)) N_1.symm⟩
theorem gp1_self (t : Fin cfg1.N) (n : ℕ) (h : n = t.val) : gp1 n = t := by
  have ht : t.val < 120 := Nat.lt_of_lt_of_eq t.isLt N_1
  apply Fin.ext; show n % 120 = t.val; omega

section
variable (V : Dev nD → Valuation τ sig (Elt F)) (c : Dev nD)

/-- Window `w`'s block at point `t`, read off its array as the region finds it. -/
def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The block of the transposed input at point `t`. -/
abbrev b_xt (t : Fin cfg1.N) : Vec F S1024x2048 .bf16 := iblk1 V c 0 t
/-- The block of the dequantised gradient at point `t`. -/
abbrev b_dq (t : Fin cfg1.N) : Vec F S2048x1792 .bf16 := iblk1 V c 1 t

/-- The result block number `r` after its slabs `0 … s`. -/
def DWv (r : ℕ) : ℕ → Vec F S1024x1792 .f32
  | 0 => k1_pay2 (k1_pay1 (F := F)) (b_xt V c (gp1 (6 * r))) (b_dq V c (gp1 (6 * r)))
  | s + 1 => k1_pay2 (DWv r s) (b_xt V c (gp1 (6 * r + (s + 1)))) (b_dq V c (gp1 (6 * r + (s + 1))))

theorem DWv_zero (t : Fin cfg1.N) (h : t.val % 6 = 0) : DWv V c (t.val / 6) (t.val % 6) = k1_pay2 (k1_pay1 (F := F)) (b_xt V c t) (b_dq V c t) := by
  rw [h, DWv, gp1_self t (6 * (t.val / 6)) (by omega)]
theorem DWv_succ (t : Fin cfg1.N) (h : t.val % 6 ≠ 0) :
    DWv V c (t.val / 6) (t.val % 6) = k1_pay2 (DWv V c ((t.val - 1) / 6) ((t.val - 1) % 6)) (b_xt V c t) (b_dq V c t) := by
  rw [show t.val % 6 = (t.val - 1) % 6 + 1 from by omega, DWv, show (t.val - 1) / 6 = t.val / 6 from by omega,
    gp1_self t (6 * (t.val / 6) + ((t.val - 1) % 6 + 1)) (by omega)]

/-- The second region's proof data from the valuation `V`. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => DWv V c (t.val / 6) (t.val % 6)
  Φ _ := Pipeline.scopedRest spec1 c
  q _ := fullShare
  owed _ := 0

theorem dat1_A (w : Fin cfg1.W) : (dat1 V c).A w = V c (Pipeline.arrRef spec1 w) := by dsimp only [dat1]
theorem after1_0 (t : Fin cfg1.N) : (dat1 V c).after 0 t = iblk1 V c 0 t := by dsimp only [dat1]
theorem after1_1 (t : Fin cfg1.N) : (dat1 V c).after 1 t = iblk1 V c 1 t := by dsimp only [dat1]
theorem after1_2 (t : Fin cfg1.N) : (dat1 V c).after 2 t = DWv V c (t.val / 6) (t.val % 6) := by dsimp only [dat1]
theorem before1_0 (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (t : Fin cfg1.N) (h0 : ¬t.val % 6 = 0) (d) : (dat1 V c).before 2 t d = DWv V c ((t.val - 1) / 6) ((t.val - 1) % 6) := by
  have hN : t.val < 120 := lt_of_lt_of_eq t.isLt (show cfg1.N = 120 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, and what it returns. -/
def bodyPre1 (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point. -/
theorem sound1 (t : Fin cfg1.N) :
    bodyPre1 V c t ⊢ wp frame (wpE (defs₀ (F := F)) Variants.none (c : Thread nD τ) none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 6 = 0
  · rw [DWv_zero V c t h0]
    iintro ⟨HΦ, Ho, ⟨%d0, H0⟩, ⟨%d1, H1⟩, ⟨%d2, H2⟩⟩
    iapply ((dwRunA (F := F) c (grid1.coords t) _ _ _ _ _ _ ((hcond5 t).mpr h0) (b_xt V c t) (b_dq V c t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact dwReadA c _ _ _ _ _ _ _ _ _ _ _
  · rw [DWv_succ V c t h0]
    simp only [before1_2 V c t h0]
    iintro ⟨HΦ, Ho, ⟨%d0, H0⟩, ⟨%d1, H1⟩, ⟨%d2, H2⟩⟩
    iapply ((dwRunB (F := F) c (grid1.coords t) _ _ _ _ _ _ (fun h => h0 ((hcond5 t).mp h)) (b_xt V c t) (b_dq V c t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact dwReadB c _ _ _ _ _ _ _ _ _ _ _ _

theorem defs₀_row1 (t : Fin cfg1.N) :
    defs₀ (F := F) .tc cfg1.body (cfg1.bodyArgs t (cfg1.slots t)) = bodyAt1 t := by
  unfold defs₀; rw [Defs.onTc_tc]

/-- The second region's body obligation. -/
theorem body_obligation1 : BodyObligation (dat1 (F := F) V c) (defs₀ (F := F)) Variants.none () Set.univ := fun t => by
  rw [bigSep_W1, bigSep_W1, defs₀_row1]
  exact triple_restated (sound1 V c t) rfl .rfl fun _ => .rfl

end

end Cert.Kernel

end
-- ==== Proof.Kernel.Run.lean ====
module

public import proofs.«01_k».proof.Proof.Kernel.Body0
public import proofs.«01_k».proof.Proof.Kernel.Region1
public import proofs.«01_k».proof.Proof.Gen.Kernel.Regions
public import Idealize.ShloMosaic.Lib.Pipeline.FrameTail
public import Idealize.ShloMosaic.Lib.Pipeline.RegionArraysS
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The whole program: its host stretches and its two regions one after the other -/

open Idealize.ShloMosaic.Pipeline (Seg HostSeg RegionSeg afterRegion)

variable (m : (ℓ : Loc nD τ sig) → Buf (Elt F) ℓ)

/-- The first region's proof data at the contents the first host stretch leaves. -/
abbrev D0 (c : Dev nD) : Dat τ (Elt F) Unit ℕ (UR sig nD τ) ℕ cfg0 c := dat0 (V1 m) c
/-- The contents after the first region. -/
def W2 (c : Dev nD) : Valuation τ sig (Elt F) := afterRegion (D0 m c) (V1 m c)
/-- The second region's proof data at those contents. -/
abbrev D1 (c : Dev nD) : Dat τ (Elt F) Unit ℕ (UR sig nD τ) ℕ cfg1 c := dat1 (W2 m) c
/-- The contents after the second region. -/
def W3 (c : Dev nD) : Valuation τ sig (Elt F) := afterRegion (D1 m c) (W2 m c)
/-- The contents at the end. -/
def W4 (c : Dev nD) : Valuation τ sig (Elt F) := StableHlo.after hostOps2 (W3 m c)

/-- The proof data of both regions. -/
def pdats : (p : Fin 2) → (c : Dev nD) → Dat τ (Elt F) Unit ℕ (UR sig nD τ) ℕ (cfgs p) c
  | ⟨0, _⟩ => fun c => D0 m c
  | ⟨1, _⟩ => fun c => D1 m c

/-- Nothing is assigned a level. -/
abbrev Lv : GSem nD τ sig → Finset Unit := fun _ => ∅
abbrev lv : GSem nD τ sig → Unit → ℕ := fun _ _ => 0
/-- What rides along: the core owes nothing. -/
abbrev Ow : Fin 3 → Dev nD → sProp 𝕄 := fun _ c => iprop(∃ W, owes (c : Thread nD τ) (0 : CellTallies nD τ sig Unit) W)

theorem Φ0_in (V : Dev nD → Valuation τ sig (Elt F)) (c : Dev nD) :
    (Pipeline.scopedRest (Ix := Unit) (Name := ℕ) (U := UR sig nD τ) (Lvl := ℕ) (Val := Elt F) spec0 c : sProp 𝕄) ⊢ Φ0 V c 0 := by
  rw [scopedRest0_eq]; unfold Φ0
  simp only [owns_whole_eq]
  iintro ⟨⟨%l, Hl⟩, ⟨%a, Ha⟩, ⟨%g, Hg⟩, HS⟩
  iexists l; iexists a; iexists g
  isplitr
  · ipureintro; unfold inv0; simp
  isplitl [Hl]; · iexists l; isplitr; swap; (· iexact Hl); ipureintro; rfl
  isplitl [Ha]; · iexists a; isplitr; swap; (· iexact Ha); ipureintro; rfl
  isplitl [Hg]; · iexists g; isplitr; swap; (· iexact Hg); ipureintro; rfl
  iexact HS

theorem Φ0_out (V : Dev nD → Valuation τ sig (Elt F)) (c : Dev nD) (n : ℕ) :
    Φ0 V c n ⊢ (Pipeline.scopedRest (Ix := Unit) (Name := ℕ) (U := UR sig nD τ) (Lvl := ℕ) (Val := Elt F) spec0 c : sProp 𝕄) := by
  rw [scopedRest0_eq]; unfold Φ0
  simp only [owns_whole_eq]
  iintro ⟨%l, %a, %g, -, ⟨%fl, -, Hl⟩, ⟨%fa, -, Ha⟩, ⟨%fg, -, Hg⟩, HS⟩
  isplitl [Hl]; · iexists _; iexact Hl
  isplitl [Ha]; · iexists _; iexact Ha
  isplitl [Hg]; · iexists _; iexact Hg
  iexact HS

set_option backward.isDefEq.respectTransparency.types false in
set_option maxHeartbeats 1600000 in
/-- Region 0 over every unscoped buffer. -/
def reg0 : RegionSeg (pcfgs (F := F)) adm (pdats m) () defs₀ Variants.none Lv lv 0 where
  win := winFacts0.to₀
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ Lv lv 0 fun _ _ => rfl
  pre c := iprop(StableHlo.held (c : Thread nD τ) (Pipeline.ucRefs τ sig) (V1 m c) ∗ ∃ W, owes (c : Thread nD τ) (0 : CellTallies nD τ sig Unit) W)
  post c := iprop(StableHlo.held (c : Thread nD τ) (Pipeline.ucRefs τ sig) (W2 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none, ← Pipeline.unscopedBufs_held c (V1 m c)]
    have hsplit := Pipeline.arrays_of_unscopedBufs (p := 0) (pcfgs (F := F)) adm (pdats m) winFacts0 arr_whole0 c
      ((pdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Φ0 (V1 m) c 0 from rfl]
    iintro ⟨-, -, Hr⟩; iapply (Φ0_in (V1 m) c); iexact Hr
  hout c := by
    rw [Pipeline.ownSems0_none, show (pdats m 0 c).Φ (Fin.last _) = Φ0 (V1 m) c cfg0.N from rfl]
    iintro Hr
    isplitr; · iempintro
    isplitr; · iempintro
    iapply (Φ0_out (V1 m) c _); iexact Hr
  hexit c := by
    rw [← Pipeline.unscopedBufs_held c (W2 m c)]
    have hjoin := Pipeline.unscopedBufs_of_arrays (p := 0) (pcfgs (F := F)) adm (Ix := Unit) (Name := ℕ) (U := UR sig nD τ) (Lvl := ℕ) winFacts0 arr_whole0 c
      (pdats m) ((pdats m 0 c).share_full fun _ => rfl) (fun b => V1 m c b) (fun b => W2 m c b) ((pdats m 0 c).arrAt · cfg0.N)
      (fun w => (Pipeline.afterRegion_arr (D0 m c) (V1 m c) winFacts0.arr_inj w).symm)
      (fun b hb => Pipeline.afterRegion_of_not_arr (D0 m c) (V1 m c) fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
set_option maxHeartbeats 1600000 in
/-- Region 1 over every unscoped buffer. -/
def reg1 : RegionSeg (pcfgs (F := F)) adm (pdats m) () defs₀ Variants.none Lv lv 1 where
  win := winFacts1.to₀
  block_pos := block_pos1
  stage_whole := stage_whole1
  K := PEmpty
  osem k := k.elim
  ho := Pipeline.OwnSemFacts.none _
  hbody c := (body_obligation1 (W2 m) c).loose
  hwaits := Pipeline.hwaits_of_owed_zero _ _ _ _ Lv lv 1 fun _ _ => rfl
  pre c := iprop(StableHlo.held (c : Thread nD τ) (Pipeline.ucRefs τ sig) (W2 m c) ∗ ∃ W, owes (c : Thread nD τ) (0 : CellTallies nD τ sig Unit) W)
  post c := iprop(StableHlo.held (c : Thread nD τ) (Pipeline.ucRefs τ sig) (W3 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (fun b => W2 m c b)
  hentry c := by
    rw [Pipeline.ownSems0_none, ← Pipeline.unscopedBufs_held c (W2 m c)]
    have hsplit := Pipeline.arrays_of_unscopedBufs (p := 1) (pcfgs (F := F)) adm (pdats m) winFacts1 arr_whole1 c
      ((pdats m 1 c).share_full fun _ => rfl) (fun b => W2 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest spec1 c from rfl]
    iintro ⟨-, -, Hr⟩; iexact Hr
  hout c := by
    rw [Pipeline.ownSems0_none, show (pdats m 1 c).Φ (Fin.last _) = Pipeline.scopedRest spec1 c from rfl]
    iintro Hr
    isplitr; · iempintro
    isplitr; · iempintro
    iexact Hr
  hexit c := by
    rw [← Pipeline.unscopedBufs_held c (W3 m c)]
    have hjoin := Pipeline.unscopedBufs_of_arrays (p := 1) (pcfgs (F := F)) adm (Ix := Unit) (Name := ℕ) (U := UR sig nD τ) (Lvl := ℕ) winFacts1 arr_whole1 c
      (pdats m) ((pdats m 1 c).share_full fun _ => rfl) (fun b => W2 m c b) (fun b => W3 m c b) ((pdats m 1 c).arrAt · cfg1.N)
      (fun w => (Pipeline.afterRegion_arr (D1 m c) (W2 m c) winFacts1.arr_inj w).symm)
      (fun b hb => Pipeline.afterRegion_of_not_arr (D1 m c) (W2 m c) fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The last host stretch. -/
def segE : HostSeg (Ix := Unit) (Name := ℕ) (U := UR sig nD τ) (Lvl := ℕ) (pcfgs (F := F)) defs₀ Variants.none Lv lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) (Ow 2)

/-- The program's items on one core. -/
abbrev segsAll : List (Seg (pcfgs (F := F)) adm (pdats m) () defs₀ Variants.none Lv lv) :=
  [.host (seg0 m Variants.none Lv lv Ow), .region (reg0 m), .region (reg1 m), .host (segE m)]

set_option backward.isDefEq.respectTransparency.types false in
set_option maxHeartbeats 1600000 in
/-- THE RUN. Every weakly fair execution from memory `m` and counters at zero terminates, with every unscoped buffer at
    the contents `W4 m` and every counter at zero. -/
theorem run_all (ρ : Dev nD → PrngReg) :
    θ_run defs (onTc (τ := τ) (main (F := F))) ⟨m, fun _ => 0, ρ⟩ (fun r => (∀ c : Dev nD, ∀ b : Ref sig .tc,
      (Proc.devRef (τ := τ) .tc b).isScoped = false → r.2.mem ((c.tc : Thread nD τ).loc b) = W4 m c b) ∧ r.2.sem = fun _ => 0) := by
  refine Pipeline.θ_run_regions_kit_dev_sems (pcfgs (F := F)) adm (pdats m) () cellOf_inj emb₁ defs₀ Variants.none Lv lv m ρ main
    (fun _ => segsAll m)
    (fun c Q => by
      rewrite [main_chain c, Seg.run_eq_chain,
        show (segsAll m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segsAll, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ow 0 c))
    (Tₙ := fun c => StableHlo.held (c : Thread nD τ) (Pipeline.ucRefs τ sig) (W4 m c))
    (hch := fun c => ⟨.rfl, .rfl, .rfl, .rfl, .rfl⟩)
    (hinit := ?_) (QY := fun c s => ∀ b : Ref sig .tc, (Proc.devRef (τ := τ) .tc b).isScoped = false → s.mem ((c.tc : Thread nD τ).loc b) = W4 m c b)
    (hfin := fun c s' => ?_) (hQ := fun _ h hz => ⟨h, funext fun g => hz g (.inr (regions_no_unscoped g.2))⟩)
  · refine Pipeline.initEach _ _ fun c => ?_
    rw [Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists _; iexact HO
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by rw [hb]; decide⟩)
    · iexact HSI

end Cert.Kernel

end
-- ==== Proof.Kernel.Args.lean ====
module

public import proofs.«01_k».proof.Proof.Kernel.Run
public import Idealize.ShloMosaic.Lib.ValueIdx
public import Idealize.ShloMosaic.Lib.ValueIdxCoords
public import Idealize.ShloMosaic.Lib.Pipeline.Value

@[expose] public section

set_option maxRecDepth 65536

noncomputable section

namespace Cert.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # What the program leaves in the buffers it was given -/

variable (m : (ℓ : Loc nD τ sig) → Buf (Elt F) ℓ)

/-- A buffer no host operation and no region writes keeps its contents. -/
theorem W4_kept (c : Dev nD) (r : Ref sig .tc) (h4 : r ∉ hostOps2_W) (h3 : ∀ w, Pipeline.arrRef cfg1.spec w = r → (cfg1.win w).isOut = false)
    (h2 : ∀ w, Pipeline.arrRef cfg0.spec w = r → (cfg0.win w).isOut = false) (h1 : r ∉ hostOps0_W) :
    W4 m c (Proc.devRef .tc r) = m ((c : Thread nD τ).loc r) := by
  refine (StableHlo.after_of_writes_sub hostOps2 _ hostOps2_writes h4).trans ?_
  refine (Pipeline.afterRegion_keeps (D1 m c) (W2 m c) winFacts1.arr_inj (fun w => dat1_A (W2 m) c w) r h3).trans ?_
  refine (Pipeline.afterRegion_keeps (D0 m c) (V1 m c) winFacts0.arr_inj (fun w => dat0_A (V1 m) c w) r h2).trans ?_
  exact (V1_of m c r h1).trans rfl

theorem W4_arg0 (c : Dev nD) : W4 m c main_arg0 = m ((c : Thread nD τ).loc main_arg0) :=
  W4_kept m c main_arg0 (by decide) (by decide) (by decide) (by decide)
theorem W4_arg1 (c : Dev nD) : W4 m c main_arg1 = m ((c : Thread nD τ).loc main_arg1) :=
  W4_kept m c main_arg1 (by decide) (by decide) (by decide) (by decide)
theorem W4_arg2 (c : Dev nD) : W4 m c main_arg2 = m ((c : Thread nD τ).loc main_arg2) :=
  W4_kept m c main_arg2 (by decide) (by decide) (by decide) (by decide)
theorem W4_arg3 (c : Dev nD) : W4 m c main_arg3 = m ((c : Thread nD τ).loc main_arg3) :=
  W4_kept m c main_arg3 (by decide) (by decide) (by decide) (by decide)
theorem W4_arg4 (c : Dev nD) : W4 m c main_arg4 = m ((c : Thread nD τ).loc main_arg4) :=
  W4_kept m c main_arg4 (by decide) (by decide) (by decide) (by decide)
theorem W4_arg5 (c : Dev nD) : W4 m c main_arg5 = m ((c : Thread nD τ).loc main_arg5) :=
  W4_kept m c main_arg5 (by decide) (by decide) (by decide) (by decide)
theorem W4_arg6 (c : Dev nD) : W4 m c main_arg6 = m ((c : Thread nD τ).loc main_arg6) :=
  W4_kept m c main_arg6 (by decide) (by decide) (by decide) (by decide)
theorem W4_arg7 (c : Dev nD) : W4 m c main_arg7 = m ((c : Thread nD τ).loc main_arg7) :=
  W4_kept m c main_arg7 (by decide) (by decide) (by decide) (by decide)

/-- The program terminates with its arguments as it found them and every counter at zero. -/
theorem run_args (ρ : Dev nD → PrngReg) :
    θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run defs _ _).mono (fun r h => ⟨fun c => ⟨(h.1 c main_arg0 rfl).trans (W4_arg0 m c), (h.1 c main_arg1 rfl).trans (W4_arg1 m c), (h.1 c main_arg2 rfl).trans (W4_arg2 m c), (h.1 c main_arg3 rfl).trans (W4_arg3 m c), (h.1 c main_arg4 rfl).trans (W4_arg4 m c), (h.1 c main_arg5 rfl).trans (W4_arg5 m c), (h.1 c main_arg6 rfl).trans (W4_arg6 m c), (h.1 c main_arg7 rfl).trans (W4_arg7 m c)⟩, h.2⟩) (run_all m ρ)

end Cert.Kernel
-- ==== Proof.KernelIdeal.Conds.lean ====
module

public import proofs.«01_k».proof.Proof.Gen.KernelIdeal.Loops
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The first grid point: the condition under which the body clears the gamma accumulator. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

end Cert.KernelIdeal
-- ==== Proof.KernelIdeal.Forms.lean ====
module

public import proofs.«01_k».proof.Proof.KernelIdeal.Conds
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # What the gradient kernel's buffers hold, in closed form

The blocks a grid point reads are vectors `q` (the coded output gradient), `s` (its scales), `ws` (the weight scales), `w`, `x`, `xs`, `rstd`, `g`.
Each buffer's contents is a function of them, cut into the chunks the body works by. -/

/-! ## Chunks -/

/-- Head `h`'s 128 columns of a 256 by 7168 block. -/
abbrev hB (h : Fin 56) : Rect S256x7168 := Rect.unit ![0, 128 * h.val] S256x128.size
  (fun a => by have := h.isLt; fin_cases a <;> simp <;> omega)
/-- Head `h`'s column of the scales. -/
abbrev sB (h : Fin 56) : Rect S256x56 := Rect.unit ![0, h.val] S256x1.size
  (fun a => by have := h.isLt; fin_cases a <;> simp <;> omega)
/-- Head `h`'s 128 weight scales. -/
abbrev wB (h : Fin 56) : Rect S1x7168 := Rect.unit ![0, 128 * h.val] S1x128.size
  (fun a => by have := h.isLt; fin_cases a <;> simp <;> omega)
/-- Rows `64 k …` of a column of 256. -/
abbrev rB (k : Fin 4) : Rect S256x1 := Rect.unit ![64 * k.val, 0] S64x1.size
  (fun a => by have := k.isLt; fin_cases a <;> simp <;> omega)
/-- Rows `64 k …`, columns `128 n …` of a 256 by 5120 block. -/
abbrev cB (k : Fin 4) (n : Fin 40) : Rect S256x5120 := Rect.unit ![64 * k.val, 128 * n.val] S64x128.size
  (fun a => by have := k.isLt; have := n.isLt; fin_cases a <;> simp <;> omega)
/-- Columns `128 n …` of the gamma row. -/
abbrev gB (n : Fin 40) : Rect S1x5120 := Rect.unit ![0, 128 * n.val] S1x128.size
  (fun a => by have := n.isLt; fin_cases a <;> simp <;> omega)
/-- Columns `128 n …` of the gamma accumulator. -/
abbrev dB (n : Fin 40) : Rect S8x5120 := Rect.unit ![0, 128 * n.val] S8x128.size
  (fun a => by have := n.isLt; fin_cases a <;> simp <;> omega)
/-- Columns `1280 j …` of a 256 by 5120 block. -/
abbrev jB (j : Fin 4) : Rect S256x5120 := Rect.unit ![0, 1280 * j.val] S256x1280.size
  (fun a => by have := j.isLt; fin_cases a <;> simp <;> omega)
/-- Columns `1280 j …` of the gamma row. -/
abbrev gjB (j : Fin 4) : Rect S1x5120 := Rect.unit ![0, 1280 * j.val] S1x1280.size
  (fun a => by have := j.isLt; fin_cases a <;> simp <;> omega)

/-- The head of a column, and the place inside it. -/
def hd (y : S256x7168.Idx) : Fin 56 := ⟨(y 1).val / 128, by have := idx2_lt1 y; omega⟩
def inh (y : S256x7168.Idx) : S256x128.Idx := ix2 (y 0) ⟨(y 1).val % 128, by omega⟩
/-- The group of 64 rows, the chunk of 128 columns, and the place inside. -/
def rg (y : S256x5120.Idx) : Fin 4 := ⟨(y 0).val / 64, by have := idx2_lt0 y; omega⟩
def cl (y : S256x5120.Idx) : Fin 40 := ⟨(y 1).val / 128, by have := idx2_lt1 y; omega⟩
def inc (y : S256x5120.Idx) : S64x128.Idx := ix2 ⟨(y 0).val % 64, by omega⟩ ⟨(y 1).val % 128, by omega⟩
/-- The chunk of a column of the gamma accumulator, and the place inside. -/
def cl8 (y : S8x5120.Idx) : Fin 40 := ⟨(y 1).val / 128, by have := idx2_lt1 y; omega⟩
def in8 (y : S8x5120.Idx) : S8x128.Idx := ix2 (y 0) ⟨(y 1).val % 128, by omega⟩
/-- The block of 1280 columns, and the place inside. -/
def jc (y : S256x5120.Idx) : Fin 4 := ⟨(y 1).val / 1280, by have := idx2_lt1 y; omega⟩
def inj (y : S256x5120.Idx) : S256x1280.Idx := ix2 (y 0) ⟨(y 1).val % 1280, by omega⟩

theorem hd_emb (h : Fin 56) (z : S256x128.Idx) : hd ((hB h).emb z) = h := by
  have := idx2_lt1 z
  apply Fin.ext; show (128 * h.val + 1 * (z 1).val) / 128 = h.val; omega
theorem inh_emb (h : Fin 56) (z : S256x128.Idx) : inh ((hB h).emb z) = z := by
  have := idx2_lt1 z
  funext a; match a with
  | ⟨0, _⟩ => apply Fin.ext; show 0 + 1 * (z 0).val = (z 0).val; omega
  | ⟨1, _⟩ => apply Fin.ext; show (128 * h.val + 1 * (z 1).val) % 128 = (z 1).val; omega
theorem emb_hd (y : S256x7168.Idx) : (hB (hd y)).emb (inh y) = y := by
  funext a; match a with
  | ⟨0, _⟩ => apply Fin.ext; show 0 + 1 * (y 0).val = (y 0).val; omega
  | ⟨1, _⟩ => apply Fin.ext; show 128 * ((y 1).val / 128) + 1 * ((y 1).val % 128) = (y 1).val; omega
theorem mem_hd (y : S256x7168.Idx) : y ∈ (hB (hd y)).set :=
  (hB (hd y)).mem_set.2 (by
    intro a; refine ⟨(inh y a).val, (inh y a).isLt, ?_⟩
    exact (congrArg (fun y' => (y' a).val) (emb_hd y)).symm)

theorem rg_emb (k : Fin 4) (n : Fin 40) (z : S64x128.Idx) : rg ((cB k n).emb z) = k := by
  have := idx2_lt0 z
  apply Fin.ext; show (64 * k.val + 1 * (z 0).val) / 64 = k.val; omega
theorem cl_emb (k : Fin 4) (n : Fin 40) (z : S64x128.Idx) : cl ((cB k n).emb z) = n := by
  have := idx2_lt1 z
  apply Fin.ext; show (128 * n.val + 1 * (z 1).val) / 128 = n.val; omega
theorem inc_emb (k : Fin 4) (n : Fin 40) (z : S64x128.Idx) : inc ((cB k n).emb z) = z := by
  have := idx2_lt0 z; have := idx2_lt1 z
  funext a; match a with
  | ⟨0, _⟩ => apply Fin.ext; show (64 * k.val + 1 * (z 0).val) % 64 = (z 0).val; omega
  | ⟨1, _⟩ => apply Fin.ext; show (128 * n.val + 1 * (z 1).val) % 128 = (z 1).val; omega
theorem emb_cl (y : S256x5120.Idx) : (cB (rg y) (cl y)).emb (inc y) = y := by
  funext a; match a with
  | ⟨0, _⟩ => apply Fin.ext; show 64 * ((y 0).val / 64) + 1 * ((y 0).val % 64) = (y 0).val; omega
  | ⟨1, _⟩ => apply Fin.ext; show 128 * ((y 1).val / 128) + 1 * ((y 1).val % 128) = (y 1).val; omega
theorem mem_cl (y : S256x5120.Idx) : y ∈ (cB (rg y) (cl y)).set :=
  (cB (rg y) (cl y)).mem_set.2 (by
    intro a; refine ⟨(inc y a).val, (inc y a).isLt, ?_⟩
    exact (congrArg (fun y' => (y' a).val) (emb_cl y)).symm)

theorem cl8_emb (n : Fin 40) (z : S8x128.Idx) : cl8 ((dB n).emb z) = n := by
  have := idx2_lt1 z
  apply Fin.ext; show (128 * n.val + 1 * (z 1).val) / 128 = n.val; omega
theorem in8_emb (n : Fin 40) (z : S8x128.Idx) : in8 ((dB n).emb z) = z := by
  have := idx2_lt1 z
  funext a; match a with
  | ⟨0, _⟩ => apply Fin.ext; show 0 + 1 * (z 0).val = (z 0).val; omega
  | ⟨1, _⟩ => apply Fin.ext; show (128 * n.val + 1 * (z 1).val) % 128 = (z 1).val; omega
theorem emb_cl8 (y : S8x5120.Idx) : (dB (cl8 y)).emb (in8 y) = y := by
  funext a; match a with
  | ⟨0, _⟩ => apply Fin.ext; show 0 + 1 * (y 0).val = (y 0).val; omega
  | ⟨1, _⟩ => apply Fin.ext; show 128 * ((y 1).val / 128) + 1 * ((y 1).val % 128) = (y 1).val; omega
theorem mem_cl8 (y : S8x5120.Idx) : y ∈ (dB (cl8 y)).set :=
  (dB (cl8 y)).mem_set.2 (by
    intro a; refine ⟨(in8 y a).val, (in8 y a).isLt, ?_⟩
    exact (congrArg (fun y' => (y' a).val) (emb_cl8 y)).symm)

theorem jc_emb (j : Fin 4) (z : S256x1280.Idx) : jc ((jB j).emb z) = j := by
  have := idx2_lt1 z
  apply Fin.ext; show (1280 * j.val + 1 * (z 1).val) / 1280 = j.val; omega
theorem inj_emb (j : Fin 4) (z : S256x1280.Idx) : inj ((jB j).emb z) = z := by
  have := idx2_lt1 z
  funext a; match a with
  | ⟨0, _⟩ => apply Fin.ext; show 0 + 1 * (z 0).val = (z 0).val; omega
  | ⟨1, _⟩ => apply Fin.ext; show (1280 * j.val + 1 * (z 1).val) % 1280 = (z 1).val; omega
theorem emb_jc (y : S256x5120.Idx) : (jB (jc y)).emb (inj y) = y := by
  funext a; match a with
  | ⟨0, _⟩ => apply Fin.ext; show 0 + 1 * (y 0).val = (y 0).val; omega
  | ⟨1, _⟩ => apply Fin.ext; show 1280 * ((y 1).val / 1280) + 1 * ((y 1).val % 1280) = (y 1).val; omega

/-! ## Closed forms -/

section
variable (q : Vec F S256x7168 .fp8e5m2) (s : Vec F S256x56 .f32) (ws : Vec F S1x7168 .f32) (lhs : Vec F S256x7168 .bf16)
  (w : Vec F S1280x7168 .fp8e4m3) (x : Vec F S256x5120 .fp8e4m3) (xs : Vec F S256x1 .f32) (rstd : Vec F S256x1 .f32)
  (g : Vec F S1x5120 .f32) (acc : Vec F S256x5120 .f32)

/-- The dequantised output gradient's block. -/
def DQ : Vec F S256x7168 .bf16 := fun y => k0_pay3 (View.ld s (sB (hd y))) (View.ld q (hB (hd y))) (inh y)
/-- The product's left operand: the dequantised block, its columns scaled by the weight scales. -/
def LHS : Vec F S256x7168 .bf16 := fun y => k0_pay4 (View.ld s (sB (hd y))) (View.ld q (hB (hd y))) (View.ld ws (wB (hd y))) (inh y)
/-- One column block's rebuilt input, transposed. -/
def XT (j : Fin 4) : Vec F S1280x256 .bf16 := k0_pay305 xs rstd (View.ld x (jB j)) (View.ld g (gjB j))
/-- The reciprocal standard deviations of row group `k`. -/
def rst (k : Fin 4) : FVec F S64x1 .f32 := k0_pay132 (View.ld rstd (rB k))
/-- The scale times the reciprocal standard deviation of row group `k`. -/
def rr (k : Fin 4) : FVec F S64x1 .f32 := k0_pay133 (View.ld rstd (rB k)) (View.ld xs (rB k))
/-- One chunk's contribution to the gamma accumulator. -/
def dgC (k : Fin 4) (n : Fin 40) (d : Vec F S8x128 .f32) : FVec F S8x128 .f32 :=
  k0_pay160 (rr xs rstd k) (View.ld x (cB k n)) (View.ld acc (cB k n)) d
/-- One chunk's step of the sum whose mean the input gradient subtracts. -/
def mStep (r : FVec F S64x1 .f32) (m : FVec F S64x128 .f32) (xk : Vec F S64x128 .fp8e4m3) (ak : Vec F S64x128 .f32)
    (gk : Vec F S1x128 .f32) : FVec F S64x128 .f32 :=
  addf m (mulf (k0_pay159 r xk ak) (broadcastTo S64x128 (shapeCast S1x128 gk shapeCasts_S1x128_S1x128) broadcasts_S1x128_S64x128))
/-- That sum after the first `n` chunks. -/
def mSum (k : Fin 4) : ℕ → FVec F S64x128 .f32
  | 0 => broadcast S64x128 (Scalar.ofBits (F := F) .f32 0x00000000#32)
  | n + 1 => if h : n < 40 then mStep (rr xs rstd k) (mSum k n) (View.ld x (cB k ⟨n, h⟩)) (View.ld acc (cB k ⟨n, h⟩)) (View.ld g (gB ⟨n, h⟩)) else mSum k n
/-- The mean the input gradient of row group `k` subtracts. -/
def mean (k : Fin 4) : FVec F S64x1 .f32 := k0_pay248 (mSum x xs rstd g acc k 40)
/-- One chunk of the input gradient. -/
def dxC (k : Fin 4) (n : Fin 40) : FVec F S64x128 .bf16 :=
  k0_pay260 (rst rstd k) (rr xs rstd k) (mean x xs rstd g acc k) (View.ld x (cB k n)) (View.ld acc (cB k n)) (View.ld g (gB n))
/-- The input gradient's block. -/
def DX : Vec F S256x5120 .bf16 := fun y => dxC x xs rstd g acc (rg y) (cl y) (inc y)
/-- The gamma accumulator after row group `k`. -/
def dgTrip (k : Fin 4) (d : Vec F S8x5120 .f32) : Vec F S8x5120 .f32 :=
  fun y => dgC x xs rstd acc k (cl8 y) (View.ld d (dB (cl8 y))) (in8 y)
/-- The gamma accumulator after the first `k` row groups. -/
def dgRows (d : Vec F S8x5120 .f32) : ℕ → Vec F S8x5120 .f32
  | 0 => d
  | k + 1 => if h : k < 4 then dgTrip x xs rstd acc ⟨k, h⟩ (dgRows d k) else dgRows d k
/-- The columns of the product that one grid point computes. -/
def accJ : Vec F S256x1280 .f32 := k0_pay1 (k0_pay306 lhs w)

/-- The head pieces of the dequantised block, last first. -/
def dqPiece (h : Fin 56) : View.Piece (Elt F) S256x7168 .bf16 := ⟨hB h, k0_pay3 (View.ld s (sB h)) (View.ld q (hB h))⟩
def lhsPiece (h : Fin 56) : View.Piece (Elt F) S256x7168 .bf16 := ⟨hB h, k0_pay4 (View.ld s (sB h)) (View.ld q (hB h)) (View.ld ws (wB h))⟩
def dxPiece (k : Fin 4) (n : Fin 40) : View.Piece (Elt F) S256x5120 .bf16 := ⟨cB k n, dxC x xs rstd g acc k n⟩
def dgPiece (k : Fin 4) (d : Vec F S8x5120 .f32) (n : Fin 40) : View.Piece (Elt F) S8x5120 .f32 := ⟨dB n, dgC x xs rstd acc k n (View.ld d (dB n))⟩

end

/-- The numbers below `n`, largest first. -/
abbrev down (n : ℕ) : List (Fin n) := (List.finRange n).reverse

theorem mem_down {n : ℕ} (k : Fin n) : k ∈ down n := by simp

theorem DQ_emb (q : Vec F S256x7168 .fp8e5m2) (s : Vec F S256x56 .f32) (h : Fin 56) (z : S256x128.Idx) :
    DQ q s ((hB h).emb z) = k0_pay3 (View.ld s (sB h)) (View.ld q (hB h)) z := by
  unfold DQ; rw [hd_emb h z, inh_emb h z]
theorem LHS_emb (q : Vec F S256x7168 .fp8e5m2) (s : Vec F S256x56 .f32) (ws : Vec F S1x7168 .f32) (h : Fin 56) (z : S256x128.Idx) :
    LHS q s ws ((hB h).emb z) = k0_pay4 (View.ld s (sB h)) (View.ld q (hB h)) (View.ld ws (wB h)) z := by
  unfold LHS; rw [hd_emb h z, inh_emb h z]
theorem DX_emb (x : Vec F S256x5120 .fp8e4m3) (xs rstd : Vec F S256x1 .f32) (g : Vec F S1x5120 .f32) (acc : Vec F S256x5120 .f32)
    (k : Fin 4) (n : Fin 40) (z : S64x128.Idx) : DX x xs rstd g acc ((cB k n).emb z) = dxC x xs rstd g acc k n z := by
  unfold DX; rw [rg_emb k n z, cl_emb k n z, inc_emb k n z]
theorem dgTrip_emb (x : Vec F S256x5120 .fp8e4m3) (xs rstd : Vec F S256x1 .f32) (acc : Vec F S256x5120 .f32)
    (k : Fin 4) (d : Vec F S8x5120 .f32) (n : Fin 40) (z : S8x128.Idx) :
    dgTrip x xs rstd acc k d ((dB n).emb z) = dgC x xs rstd acc k n (View.ld d (dB n)) z := by
  unfold dgTrip; rw [cl8_emb n z, in8_emb n z]

/-! ## What the lists of pieces leave -/

section
variable {κ : Kind} {sp : Space}

theorem read_dq (v : View sig κ sp S256x7168 .bf16) (f : v.ty.Contents (Elt F)) (q : Vec F S256x7168 .fp8e5m2) (s : Vec F S256x56 .f32) :
    v.read (Elt F) (v.writes (Elt F) f ((down 56).map (dqPiece q s))) = DQ q s := by
  funext y
  refine View.read_writes_apply_of_pieces (v := v) f (DQ q s) _ ?_ y ⟨_, List.mem_map_of_mem (mem_down (hd y)), mem_hd y⟩
  intro p hp
  obtain ⟨h, -, rfl⟩ := List.mem_map.1 hp
  intro z
  exact (DQ_emb q s h z).symm

theorem read_lhs (v : View sig κ sp S256x7168 .bf16) (f : v.ty.Contents (Elt F)) (q : Vec F S256x7168 .fp8e5m2) (s : Vec F S256x56 .f32) (ws : Vec F S1x7168 .f32) :
    v.read (Elt F) (v.writes (Elt F) f ((down 56).map (lhsPiece q s ws))) = LHS q s ws := by
  funext y
  refine View.read_writes_apply_of_pieces (v := v) f (LHS q s ws) _ ?_ y ⟨_, List.mem_map_of_mem (mem_down (hd y)), mem_hd y⟩
  intro p hp
  obtain ⟨h, -, rfl⟩ := List.mem_map.1 hp
  intro z
  exact (LHS_emb q s ws h z).symm

theorem read_dg (v : View sig κ sp S8x5120 .f32) (f : v.ty.Contents (Elt F)) (x : Vec F S256x5120 .fp8e4m3) (xs rstd : Vec F S256x1 .f32)
    (acc : Vec F S256x5120 .f32) (k : Fin 4) (d : Vec F S8x5120 .f32) :
    v.read (Elt F) (v.writes (Elt F) f ((down 40).map (dgPiece x xs rstd acc k d))) = dgTrip x xs rstd acc k d := by
  funext y
  refine View.read_writes_apply_of_pieces (v := v) f (dgTrip x xs rstd acc k d) _ ?_ y ⟨_, List.mem_map_of_mem (mem_down (cl8 y)), mem_cl8 y⟩
  intro p hp
  obtain ⟨n, -, rfl⟩ := List.mem_map.1 hp
  intro z
  exact (dgTrip_emb x xs rstd acc k d n z).symm

theorem read_dx_in (v : View sig κ sp S256x5120 .bf16) (f : v.ty.Contents (Elt F)) (x : Vec F S256x5120 .fp8e4m3) (xs rstd : Vec F S256x1 .f32)
    (g : Vec F S1x5120 .f32) (acc : Vec F S256x5120 .f32) (y : S256x5120.Idx) :
    v.read (Elt F) (v.writes (Elt F) f ((down 40).map (dxPiece x xs rstd g acc (rg y)))) y = DX x xs rstd g acc y := by
  refine View.read_writes_apply_of_pieces (v := v) f (DX x xs rstd g acc) _ ?_ y ⟨_, List.mem_map_of_mem (mem_down (cl y)), mem_cl y⟩
  intro p hp
  obtain ⟨n, -, rfl⟩ := List.mem_map.1 hp
  intro z
  exact (DX_emb x xs rstd g acc (rg y) n z).symm

theorem read_dx_out (v : View sig κ sp S256x5120 .bf16) (f : v.ty.Contents (Elt F)) (x : Vec F S256x5120 .fp8e4m3) (xs rstd : Vec F S256x1 .f32)
    (g : Vec F S1x5120 .f32) (acc : Vec F S256x5120 .f32) (k : Fin 4) (y : S256x5120.Idx) (hk : rg y ≠ k) (l : List (Fin 40)) :
    v.read (Elt F) (v.writes (Elt F) f (l.map (dxPiece x xs rstd g acc k))) y = v.read (Elt F) f y := by
  induction l with
  | nil => rfl
  | cons n l ih =>
    have hy : y ∉ Finset.univ.map (cB k n).emb := by
      intro hm
      obtain ⟨z, -, rfl⟩ := Finset.mem_map.1 hm
      exact hk (rg_emb k n z)
    rw [List.map_cons]
    refine Eq.trans ?_ ih
    exact View.read_slice_write_of_not_mem (cB k n) _ _ _ hy

end

end Cert.KernelIdeal
-- ==== Proof.KernelIdeal.TripMean.lean ====
module

public import proofs.«01_k».proof.Proof.KernelIdeal.Forms
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000

/-! # One trip of the loop over the rows, in closed form -/

theorem tripLt (k : Fin k0_t1_loop.trips) : k.val < 4 := Nat.lt_of_lt_of_le k.isLt k0_t1_abs.2.1

section
variable  (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (k0_h3 : k0_cond3 i = 1#1) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg15 : BufTy.Contents (Elt F) arg15.view.ty) (k : Fin k0_t1_loop.trips)

theorem piece_eq {S : Shape} {e : EltTy} {off off' size : Fin S.rank → ℕ} (h : off = off') (inb inb') {p p' : (Rect.unit (s := S) off size inb).shape.Idx → Elt F e}
    (hp : p = p') : (⟨Rect.unit off size inb, p⟩ : View.Piece (Elt F) S e) = ⟨Rect.unit off' size inb', p'⟩ := by
  subst h; subst hp; rfl

/-- A load of a chunk, its offset the one of row group `k`, chunk `n`. -/
theorem load_eq {κ : Kind} {sp : Space} {e : EltTy} (v : View sig κ sp S256x5120 e) (X : v.ty.Contents (Elt F)) (k : Fin 4) (n : Fin 40)
    {off : Fin 2 → ℕ} (h : off = ![64 * k.val, 128 * n.val]) (inb) :
    v.readAt (Elt F) (Rect.unit (s := S256x5120) off S64x128.size inb).toLoadRect X = View.ld (v.read (Elt F) X) (cB k n) := by
  subst h; rfl

/-- A load of a row group of a column. -/
theorem load1_eq {κ : Kind} {sp : Space} {e : EltTy} (v : View sig κ sp S256x1 e) (X : v.ty.Contents (Elt F)) (k : Fin 4)
    {off : Fin 2 → ℕ} (h : off = ![64 * k.val, 0]) (inb) :
    v.readAt (Elt F) (Rect.unit (s := S256x1) off S64x1.size inb).toLoadRect X = View.ld (v.read (Elt F) X) (rB k) := by
  subst h; rfl

theorem rst_eq : k0_pay132 (arg8.view.readAt (Elt F) (Rect.unit (s := S256x1) (k0_off3 k) S64x1.size (k0_off3_inb i k k0_h3)).toLoadRect X_arg8)
    = rst (arg8.view.read (Elt F) X_arg8) ⟨k.val, tripLt k⟩ := by
  rw [load1_eq arg8.view X_arg8 ⟨k.val, tripLt k⟩ (k0_off3_eq k)]; rfl
theorem rr_eq : k0_pay133 (arg8.view.readAt (Elt F) (Rect.unit (s := S256x1) (k0_off3 k) S64x1.size (k0_off3_inb i k k0_h3)).toLoadRect X_arg8)
      (arg7.view.readAt (Elt F) (Rect.unit (s := S256x1) (k0_off3 k) S64x1.size (k0_off3_inb i k k0_h3)).toLoadRect X_arg7)
    = rr (arg7.view.read (Elt F) X_arg7) (arg8.view.read (Elt F) X_arg8) ⟨k.val, tripLt k⟩ := by
  rw [load1_eq arg8.view X_arg8 ⟨k.val, tripLt k⟩ (k0_off3_eq k), load1_eq arg7.view X_arg7 ⟨k.val, tripLt k⟩ (k0_off3_eq k)]; rfl

theorem mstep_eq {x : Vec F S256x5120 .fp8e4m3} {xs rstd : Vec F S256x1 .f32} {g : Vec F S1x5120 .f32} {acc : Vec F S256x5120 .f32} {k : Fin 4}
    (n : ℕ) (hn : n < 40) {R : FVec F S64x1 .f32} {m : FVec F S64x128 .f32} {xk : Vec F S64x128 .fp8e4m3} {ak : Vec F S64x128 .f32} {gk : Vec F S1x128 .f32}
    (hm : m = mSum x xs rstd g acc k n) (hR : R = rr xs rstd k) (hx : xk = View.ld x (cB k ⟨n, hn⟩)) (ha : ak = View.ld acc (cB k ⟨n, hn⟩))
    (hg : gk = View.ld g (gB ⟨n, hn⟩)) : mStep R m xk ak gk = mSum x xs rstd g acc k (n + 1) := by
  subst hm hR hx ha hg
  rw [mSum, dif_pos hn]

/-- The sum the mean is taken of, chunk by chunk. -/
theorem msum_eq : trip_k0_t1.sl.v896 i arg6 arg7 arg8 arg9 arg15 k0_h3 X_arg6 X_arg7 X_arg8 X_arg9 X_arg15 k = mSum (arg6.view.read (Elt F) X_arg6) (arg7.view.read (Elt F) X_arg7) (arg8.view.read (Elt F) X_arg8) (arg9.view.read (Elt F) X_arg9) (arg15.view.read (Elt F) X_arg15) ⟨k.val, tripLt k⟩ 40 := by
  have hR : (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) = rr (arg7.view.read (Elt F) X_arg7) (arg8.view.read (Elt F) X_arg8) ⟨k.val, tripLt k⟩ := rr_eq i arg7 arg8 k0_h3 X_arg7 X_arg8 k
  have T : ∀ (n : ℕ) (hn : n < 40) {off : Fin 2 → ℕ} (h : off = ![64 * k.val, 128 * n]) (inb) {s : FVec F S64x128 .f32}
      (hs : s = mSum (arg6.view.read (Elt F) X_arg6) (arg7.view.read (Elt F) X_arg7) (arg8.view.read (Elt F) X_arg8) (arg9.view.read (Elt F) X_arg9) (arg15.view.read (Elt F) X_arg15) ⟨k.val, tripLt k⟩ n),
      mStep (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) s (arg6.view.readAt (Elt F) (Rect.unit (s := S256x5120) off S64x128.size inb).toLoadRect X_arg6)
        (arg15.view.readAt (Elt F) (Rect.unit (s := S256x5120) off S64x128.size inb).toLoadRect X_arg15) (View.ld (arg9.view.read (Elt F) X_arg9) (gB ⟨n, hn⟩))
      = mSum (arg6.view.read (Elt F) X_arg6) (arg7.view.read (Elt F) X_arg7) (arg8.view.read (Elt F) X_arg8) (arg9.view.read (Elt F) X_arg9) (arg15.view.read (Elt F) X_arg15) ⟨k.val, tripLt k⟩ (n + 1) :=
    fun n hn _ h _ _ hs => mstep_eq n hn hs hR (load_eq _ _ ⟨k.val, tripLt k⟩ ⟨n, hn⟩ h _) (load_eq _ _ ⟨k.val, tripLt k⟩ ⟨n, hn⟩ h _) rfl
  exact T 39 (by decide) (k0_off43_eq k) (k0_off43_inb i k k0_h3) <|
    T 38 (by decide) (k0_off42_eq k) (k0_off42_inb i k k0_h3) <|
    T 37 (by decide) (k0_off41_eq k) (k0_off41_inb i k k0_h3) <|
    T 36 (by decide) (k0_off40_eq k) (k0_off40_inb i k k0_h3) <|
    T 35 (by decide) (k0_off39_eq k) (k0_off39_inb i k k0_h3) <|
    T 34 (by decide) (k0_off38_eq k) (k0_off38_inb i k k0_h3) <|
    T 33 (by decide) (k0_off37_eq k) (k0_off37_inb i k k0_h3) <|
    T 32 (by decide) (k0_off36_eq k) (k0_off36_inb i k k0_h3) <|
    T 31 (by decide) (k0_off35_eq k) (k0_off35_inb i k k0_h3) <|
    T 30 (by decide) (k0_off34_eq k) (k0_off34_inb i k k0_h3) <|
    T 29 (by decide) (k0_off33_eq k) (k0_off33_inb i k k0_h3) <|
    T 28 (by decide) (k0_off32_eq k) (k0_off32_inb i k k0_h3) <|
    T 27 (by decide) (k0_off31_eq k) (k0_off31_inb i k k0_h3) <|
    T 26 (by decide) (k0_off30_eq k) (k0_off30_inb i k k0_h3) <|
    T 25 (by decide) (k0_off29_eq k) (k0_off29_inb i k k0_h3) <|
    T 24 (by decide) (k0_off28_eq k) (k0_off28_inb i k k0_h3) <|
    T 23 (by decide) (k0_off27_eq k) (k0_off27_inb i k k0_h3) <|
    T 22 (by decide) (k0_off26_eq k) (k0_off26_inb i k k0_h3) <|
    T 21 (by decide) (k0_off25_eq k) (k0_off25_inb i k k0_h3) <|
    T 20 (by decide) (k0_off24_eq k) (k0_off24_inb i k k0_h3) <|
    T 19 (by decide) (k0_off23_eq k) (k0_off23_inb i k k0_h3) <|
    T 18 (by decide) (k0_off22_eq k) (k0_off22_inb i k k0_h3) <|
    T 17 (by decide) (k0_off21_eq k) (k0_off21_inb i k k0_h3) <|
    T 16 (by decide) (k0_off20_eq k) (k0_off20_inb i k k0_h3) <|
    T 15 (by decide) (k0_off19_eq k) (k0_off19_inb i k k0_h3) <|
    T 14 (by decide) (k0_off18_eq k) (k0_off18_inb i k k0_h3) <|
    T 13 (by decide) (k0_off17_eq k) (k0_off17_inb i k k0_h3) <|
    T 12 (by decide) (k0_off16_eq k) (k0_off16_inb i k k0_h3) <|
    T 11 (by decide) (k0_off15_eq k) (k0_off15_inb i k k0_h3) <|
    T 10 (by decide) (k0_off14_eq k) (k0_off14_inb i k k0_h3) <|
    T 9 (by decide) (k0_off13_eq k) (k0_off13_inb i k k0_h3) <|
    T 8 (by decide) (k0_off12_eq k) (k0_off12_inb i k k0_h3) <|
    T 7 (by decide) (k0_off11_eq k) (k0_off11_inb i k k0_h3) <|
    T 6 (by decide) (k0_off10_eq k) (k0_off10_inb i k k0_h3) <|
    T 5 (by decide) (k0_off9_eq k) (k0_off9_inb i k k0_h3) <|
    T 4 (by decide) (k0_off8_eq k) (k0_off8_inb i k k0_h3) <|
    T 3 (by decide) (k0_off7_eq k) (k0_off7_inb i k k0_h3) <|
    T 2 (by decide) (k0_off6_eq k) (k0_off6_inb i k k0_h3) <|
    T 1 (by decide) (k0_off5_eq k) (k0_off5_inb i k k0_h3) <|
    T 0 (by decide) (k0_off4_eq k) (k0_off4_inb i k k0_h3) <|
    rfl

theorem mean_eq : k0_pay248 (trip_k0_t1.sl.v896 i arg6 arg7 arg8 arg9 arg15 k0_h3 X_arg6 X_arg7 X_arg8 X_arg9 X_arg15 k) = mean (arg6.view.read (Elt F) X_arg6) (arg7.view.read (Elt F) X_arg7) (arg8.view.read (Elt F) X_arg8) (arg9.view.read (Elt F) X_arg9) (arg15.view.read (Elt F) X_arg15) ⟨k.val, tripLt k⟩ :=
  congrArg k0_pay248 (msum_eq i arg6 arg7 arg8 arg9 arg15 k0_h3 X_arg6 X_arg7 X_arg8 X_arg9 X_arg15 k)

end

end Cert.KernelIdeal
-- ==== Proof.KernelIdeal.TripValue.lean ====
module

public import proofs.«01_k».proof.Proof.KernelIdeal.TripMean
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000

/-! # The pieces one trip of the loop writes, in closed form -/

section
variable  (𝒱 : Variants) (c : Dev nD) (bd : Option 𝒱.V) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (k0_h3 : k0_cond3 i = 1#1) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg15 : BufTy.Contents (Elt F) arg15.view.ty) (k : Fin k0_t1_loop.trips)

theorem dx_pay {x : Vec F S256x5120 .fp8e4m3} {xs rstd : Vec F S256x1 .f32} {g : Vec F S1x5120 .f32} {acc : Vec F S256x5120 .f32} {k : Fin 4}
    (n : Fin 40) {off : Fin 2 → ℕ} (h : off = ![64 * k.val, 128 * n.val]) {inb} {S R M : FVec F S64x1 .f32} {xk : Vec F S64x128 .fp8e4m3} {ak : Vec F S64x128 .f32}
    {p : (Rect.unit (s := S256x5120) off S64x128.size inb).shape.Idx → Elt F .bf16}
    (hp : p = k0_pay260 S R M xk ak (View.ld g (gB n)))
    (hS : S = rst rstd k) (hR : R = rr xs rstd k) (hM : M = mean x xs rstd g acc k) (hx : xk = View.ld x (cB k n)) (ha : ak = View.ld acc (cB k n)) :
    (⟨Rect.unit (s := S256x5120) off S64x128.size inb, p⟩ : View.Piece (Elt F) S256x5120 .bf16) = dxPiece x xs rstd g acc k n := by
  subst h hp hS hR hM hx ha; rfl

theorem dg_pay {x : Vec F S256x5120 .fp8e4m3} {xs rstd : Vec F S256x1 .f32} {acc : Vec F S256x5120 .f32} {k : Fin 4} {d : Vec F S8x5120 .f32}
    (n : Fin 40) {R : FVec F S64x1 .f32} {xk : Vec F S64x128 .fp8e4m3} {ak : Vec F S64x128 .f32} {p : S8x128.Idx → Elt F .f32}
    (hp : p = k0_pay160 R xk ak (View.ld d (dB n)))
    (hR : R = rr xs rstd k) (hx : xk = View.ld x (cB k n)) (ha : ak = View.ld acc (cB k n)) :
    (⟨dB n, p⟩ : View.Piece (Elt F) S8x5120 .f32) = dgPiece x xs rstd acc k d n := by
  subst hp hR hx ha; rfl

theorem down40 : down 40 = [39, 38, 37, 36, 35, 34, 33, 32, 31, 30, 29, 28, 27, 26, 25, 24, 23, 22, 21, 20, 19, 18, 17, 16, 15, 14, 13, 12, 11, 10, 9, 8, 7, 6, 5, 4, 3, 2, 1, 0] := by decide

/-- The pieces of the input gradient one trip writes. -/
theorem trip_dx (f10 : BufTy.Contents (Elt F) arg10.view.ty) (f16 : BufTy.Contents (Elt F) arg16.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 k).1 f10 f16 = (down 40).map (dxPiece (arg6.view.read (Elt F) X_arg6) (arg7.view.read (Elt F) X_arg7) (arg8.view.read (Elt F) X_arg8) (arg9.view.read (Elt F) X_arg9) (arg15.view.read (Elt F) X_arg15) ⟨k.val, tripLt k⟩) := by
  have hS : (k0_pay132 (arg8.view.readAt (Elt F) (Rect.unit (s := S256x1) (k0_off3 k) S64x1.size (k0_off3_inb i k k0_h3)).toLoadRect X_arg8)) = rst (arg8.view.read (Elt F) X_arg8) ⟨k.val, tripLt k⟩ := rst_eq i arg8 k0_h3 X_arg8 k
  have hR : (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) = rr (arg7.view.read (Elt F) X_arg7) (arg8.view.read (Elt F) X_arg8) ⟨k.val, tripLt k⟩ := rr_eq i arg7 arg8 k0_h3 X_arg7 X_arg8 k
  rw [down40]; unfold trip_k0_t1; dsimp only [List.map]
  have D : ∀ (n : Fin 40) {off : Fin 2 → ℕ} (h : off = ![64 * k.val, 128 * n.val]) (inb),
      (⟨Rect.unit (s := S256x5120) off S64x128.size inb, k0_pay260 (k0_pay132 (arg8.view.readAt (Elt F) (Rect.unit (s := S256x1) (k0_off3 k) S64x1.size (k0_off3_inb i k k0_h3)).toLoadRect X_arg8)) (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) ((k0_pay248 (trip_k0_t1.sl.v896 i arg6 arg7 arg8 arg9 arg15 k0_h3 X_arg6 X_arg7 X_arg8 X_arg9 X_arg15 k))) (arg6.view.readAt (Elt F) (Rect.unit (s := S256x5120) off S64x128.size inb).toLoadRect X_arg6)
        (arg15.view.readAt (Elt F) (Rect.unit (s := S256x5120) off S64x128.size inb).toLoadRect X_arg15) (View.ld (arg9.view.read (Elt F) X_arg9) (gB n))⟩ : View.Piece (Elt F) S256x5120 .bf16) = dxPiece (arg6.view.read (Elt F) X_arg6) (arg7.view.read (Elt F) X_arg7) (arg8.view.read (Elt F) X_arg8) (arg9.view.read (Elt F) X_arg9) (arg15.view.read (Elt F) X_arg15) ⟨k.val, tripLt k⟩ n :=
    fun n _ h _ => dx_pay n h rfl hS hR (mean_eq i arg6 arg7 arg8 arg9 arg15 k0_h3 X_arg6 X_arg7 X_arg8 X_arg9 X_arg15 k) (load_eq _ _ ⟨k.val, tripLt k⟩ n h _) (load_eq _ _ ⟨k.val, tripLt k⟩ n h _)
  exact (congrArg₂ List.cons (D 39 (k0_off43_eq k) (k0_off43_inb i k k0_h3))
    (congrArg₂ List.cons (D 38 (k0_off42_eq k) (k0_off42_inb i k k0_h3))
    (congrArg₂ List.cons (D 37 (k0_off41_eq k) (k0_off41_inb i k k0_h3))
    (congrArg₂ List.cons (D 36 (k0_off40_eq k) (k0_off40_inb i k k0_h3))
    (congrArg₂ List.cons (D 35 (k0_off39_eq k) (k0_off39_inb i k k0_h3))
    (congrArg₂ List.cons (D 34 (k0_off38_eq k) (k0_off38_inb i k k0_h3))
    (congrArg₂ List.cons (D 33 (k0_off37_eq k) (k0_off37_inb i k k0_h3))
    (congrArg₂ List.cons (D 32 (k0_off36_eq k) (k0_off36_inb i k k0_h3))
    (congrArg₂ List.cons (D 31 (k0_off35_eq k) (k0_off35_inb i k k0_h3))
    (congrArg₂ List.cons (D 30 (k0_off34_eq k) (k0_off34_inb i k k0_h3))
    (congrArg₂ List.cons (D 29 (k0_off33_eq k) (k0_off33_inb i k k0_h3))
    (congrArg₂ List.cons (D 28 (k0_off32_eq k) (k0_off32_inb i k k0_h3))
    (congrArg₂ List.cons (D 27 (k0_off31_eq k) (k0_off31_inb i k k0_h3))
    (congrArg₂ List.cons (D 26 (k0_off30_eq k) (k0_off30_inb i k k0_h3))
    (congrArg₂ List.cons (D 25 (k0_off29_eq k) (k0_off29_inb i k k0_h3))
    (congrArg₂ List.cons (D 24 (k0_off28_eq k) (k0_off28_inb i k k0_h3))
    (congrArg₂ List.cons (D 23 (k0_off27_eq k) (k0_off27_inb i k k0_h3))
    (congrArg₂ List.cons (D 22 (k0_off26_eq k) (k0_off26_inb i k k0_h3))
    (congrArg₂ List.cons (D 21 (k0_off25_eq k) (k0_off25_inb i k k0_h3))
    (congrArg₂ List.cons (D 20 (k0_off24_eq k) (k0_off24_inb i k k0_h3))
    (congrArg₂ List.cons (D 19 (k0_off23_eq k) (k0_off23_inb i k k0_h3))
    (congrArg₂ List.cons (D 18 (k0_off22_eq k) (k0_off22_inb i k k0_h3))
    (congrArg₂ List.cons (D 17 (k0_off21_eq k) (k0_off21_inb i k k0_h3))
    (congrArg₂ List.cons (D 16 (k0_off20_eq k) (k0_off20_inb i k k0_h3))
    (congrArg₂ List.cons (D 15 (k0_off19_eq k) (k0_off19_inb i k k0_h3))
    (congrArg₂ List.cons (D 14 (k0_off18_eq k) (k0_off18_inb i k k0_h3))
    (congrArg₂ List.cons (D 13 (k0_off17_eq k) (k0_off17_inb i k k0_h3))
    (congrArg₂ List.cons (D 12 (k0_off16_eq k) (k0_off16_inb i k k0_h3))
    (congrArg₂ List.cons (D 11 (k0_off15_eq k) (k0_off15_inb i k k0_h3))
    (congrArg₂ List.cons (D 10 (k0_off14_eq k) (k0_off14_inb i k k0_h3))
    (congrArg₂ List.cons (D 9 (k0_off13_eq k) (k0_off13_inb i k k0_h3))
    (congrArg₂ List.cons (D 8 (k0_off12_eq k) (k0_off12_inb i k k0_h3))
    (congrArg₂ List.cons (D 7 (k0_off11_eq k) (k0_off11_inb i k k0_h3))
    (congrArg₂ List.cons (D 6 (k0_off10_eq k) (k0_off10_inb i k k0_h3))
    (congrArg₂ List.cons (D 5 (k0_off9_eq k) (k0_off9_inb i k k0_h3))
    (congrArg₂ List.cons (D 4 (k0_off8_eq k) (k0_off8_inb i k k0_h3))
    (congrArg₂ List.cons (D 3 (k0_off7_eq k) (k0_off7_inb i k k0_h3))
    (congrArg₂ List.cons (D 2 (k0_off6_eq k) (k0_off6_inb i k k0_h3))
    (congrArg₂ List.cons (D 1 (k0_off5_eq k) (k0_off5_inb i k k0_h3))
    (congrArg₂ List.cons (D 0 (k0_off4_eq k) (k0_off4_inb i k k0_h3))
    rfl))))))))))))))))))))))))))))))))))))))))

/-- The pieces of the gamma accumulator one trip writes. -/
theorem trip_dg (f10 : BufTy.Contents (Elt F) arg10.view.ty) (f16 : BufTy.Contents (Elt F) arg16.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 k).2.1 f10 f16 = (down 40).map (dgPiece (arg6.view.read (Elt F) X_arg6) (arg7.view.read (Elt F) X_arg7) (arg8.view.read (Elt F) X_arg8) (arg15.view.read (Elt F) X_arg15) ⟨k.val, tripLt k⟩ (arg16.view.read (Elt F) f16)) := by
  have hR : (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) = rr (arg7.view.read (Elt F) X_arg7) (arg8.view.read (Elt F) X_arg8) ⟨k.val, tripLt k⟩ := rr_eq i arg7 arg8 k0_h3 X_arg7 X_arg8 k
  rw [down40]; unfold trip_k0_t1; dsimp only [List.map]
  have D : ∀ (n : Fin 40) {off : Fin 2 → ℕ} (h : off = ![64 * k.val, 128 * n.val]) (inb),
      (⟨dB n, k0_pay160 (k0_pay133 (arg8.view.readAt (Elt F) (Rect.unit (s := S256x1) (k0_off3 k) S64x1.size (k0_off3_inb i k k0_h3)).toLoadRect X_arg8) (arg7.view.readAt (Elt F) (Rect.unit (s := S256x1) (k0_off3 k) S64x1.size (k0_off3_inb i k k0_h3)).toLoadRect X_arg7)) (arg6.view.readAt (Elt F) (Rect.unit (s := S256x5120) off S64x128.size inb).toLoadRect X_arg6)
        (arg15.view.readAt (Elt F) (Rect.unit (s := S256x5120) off S64x128.size inb).toLoadRect X_arg15) (View.ld (arg16.view.read (Elt F) f16) (dB n))⟩ : View.Piece (Elt F) S8x5120 .f32) = dgPiece (arg6.view.read (Elt F) X_arg6) (arg7.view.read (Elt F) X_arg7) (arg8.view.read (Elt F) X_arg8) (arg15.view.read (Elt F) X_arg15) ⟨k.val, tripLt k⟩ (arg16.view.read (Elt F) f16) n :=
    fun n _ h _ => dg_pay n rfl hR (load_eq _ _ ⟨k.val, tripLt k⟩ n h _) (load_eq _ _ ⟨k.val, tripLt k⟩ n h _)
  exact (congrArg₂ List.cons (D 39 (k0_off43_eq k) (k0_off43_inb i k k0_h3))
    (congrArg₂ List.cons (D 38 (k0_off42_eq k) (k0_off42_inb i k k0_h3))
    (congrArg₂ List.cons (D 37 (k0_off41_eq k) (k0_off41_inb i k k0_h3))
    (congrArg₂ List.cons (D 36 (k0_off40_eq k) (k0_off40_inb i k k0_h3))
    (congrArg₂ List.cons (D 35 (k0_off39_eq k) (k0_off39_inb i k k0_h3))
    (congrArg₂ List.cons (D 34 (k0_off38_eq k) (k0_off38_inb i k k0_h3))
    (congrArg₂ List.cons (D 33 (k0_off37_eq k) (k0_off37_inb i k k0_h3))
    (congrArg₂ List.cons (D 32 (k0_off36_eq k) (k0_off36_inb i k k0_h3))
    (congrArg₂ List.cons (D 31 (k0_off35_eq k) (k0_off35_inb i k k0_h3))
    (congrArg₂ List.cons (D 30 (k0_off34_eq k) (k0_off34_inb i k k0_h3))
    (congrArg₂ List.cons (D 29 (k0_off33_eq k) (k0_off33_inb i k k0_h3))
    (congrArg₂ List.cons (D 28 (k0_off32_eq k) (k0_off32_inb i k k0_h3))
    (congrArg₂ List.cons (D 27 (k0_off31_eq k) (k0_off31_inb i k k0_h3))
    (congrArg₂ List.cons (D 26 (k0_off30_eq k) (k0_off30_inb i k k0_h3))
    (congrArg₂ List.cons (D 25 (k0_off29_eq k) (k0_off29_inb i k k0_h3))
    (congrArg₂ List.cons (D 24 (k0_off28_eq k) (k0_off28_inb i k k0_h3))
    (congrArg₂ List.cons (D 23 (k0_off27_eq k) (k0_off27_inb i k k0_h3))
    (congrArg₂ List.cons (D 22 (k0_off26_eq k) (k0_off26_inb i k k0_h3))
    (congrArg₂ List.cons (D 21 (k0_off25_eq k) (k0_off25_inb i k k0_h3))
    (congrArg₂ List.cons (D 20 (k0_off24_eq k) (k0_off24_inb i k k0_h3))
    (congrArg₂ List.cons (D 19 (k0_off23_eq k) (k0_off23_inb i k k0_h3))
    (congrArg₂ List.cons (D 18 (k0_off22_eq k) (k0_off22_inb i k k0_h3))
    (congrArg₂ List.cons (D 17 (k0_off21_eq k) (k0_off21_inb i k k0_h3))
    (congrArg₂ List.cons (D 16 (k0_off20_eq k) (k0_off20_inb i k k0_h3))
    (congrArg₂ List.cons (D 15 (k0_off19_eq k) (k0_off19_inb i k k0_h3))
    (congrArg₂ List.cons (D 14 (k0_off18_eq k) (k0_off18_inb i k k0_h3))
    (congrArg₂ List.cons (D 13 (k0_off17_eq k) (k0_off17_inb i k k0_h3))
    (congrArg₂ List.cons (D 12 (k0_off16_eq k) (k0_off16_inb i k k0_h3))
    (congrArg₂ List.cons (D 11 (k0_off15_eq k) (k0_off15_inb i k k0_h3))
    (congrArg₂ List.cons (D 10 (k0_off14_eq k) (k0_off14_inb i k k0_h3))
    (congrArg₂ List.cons (D 9 (k0_off13_eq k) (k0_off13_inb i k k0_h3))
    (congrArg₂ List.cons (D 8 (k0_off12_eq k) (k0_off12_inb i k k0_h3))
    (congrArg₂ List.cons (D 7 (k0_off11_eq k) (k0_off11_inb i k k0_h3))
    (congrArg₂ List.cons (D 6 (k0_off10_eq k) (k0_off10_inb i k k0_h3))
    (congrArg₂ List.cons (D 5 (k0_off9_eq k) (k0_off9_inb i k k0_h3))
    (congrArg₂ List.cons (D 4 (k0_off8_eq k) (k0_off8_inb i k k0_h3))
    (congrArg₂ List.cons (D 3 (k0_off7_eq k) (k0_off7_inb i k k0_h3))
    (congrArg₂ List.cons (D 2 (k0_off6_eq k) (k0_off6_inb i k k0_h3))
    (congrArg₂ List.cons (D 1 (k0_off5_eq k) (k0_off5_inb i k k0_h3))
    (congrArg₂ List.cons (D 0 (k0_off4_eq k) (k0_off4_inb i k k0_h3))
    rfl))))))))))))))))))))))))))))))))))))))))

end

end Cert.KernelIdeal
-- ==== Proof.KernelIdeal.SpecBase.lean ====
module

public import proofs.«01_k».proof.Proof.KernelIdeal.TripValue
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # What the pieces of a run leave, and the whole loop -/

/-- Column block `j` of the accumulator replaced by `v`. -/
def accPut (j : Fin 4) (a : Vec F S256x5120 .f32) (v : Vec F S256x1280 .f32) : Vec F S256x5120 .f32 :=
  fun y => if jc y = j then v (inj y) else a y

section
variable {κ : Kind} {sp : Space}

theorem zero2 : (![0, 0] : Fin 2 → ℕ) = fun _ => 0 := by funext a; fin_cases a <;> rfl

theorem load_whole {n0 n1 : ℕ} {e : EltTy} (v : View sig κ sp ⟨2, ![n0, n1]⟩ e) (X : v.ty.Contents (Elt F)) (inb) :
    v.readAt (Elt F) (Rect.unit (s := ⟨2, ![n0, n1]⟩) ![0, 0] ![n0, n1] inb).toLoadRect X = v.read (Elt F) X :=
  View.ld_unit_zero (S := ⟨2, ![n0, n1]⟩) zero2 inb _

theorem read_store_whole {n0 n1 : ℕ} {e : EltTy} (v : View sig κ sp ⟨2, ![n0, n1]⟩ e) (X : v.ty.Contents (Elt F)) (inb)
    (p : (⟨2, ![n0, n1]⟩ : Shape).Idx → Elt F e) (L : List (View.Piece (Elt F) ⟨2, ![n0, n1]⟩ e)) :
    v.read (Elt F) (v.writes (Elt F) X (⟨Rect.unit (s := ⟨2, ![n0, n1]⟩) ![0, 0] ![n0, n1] inb, p⟩ :: L)) = p := by
  funext y
  have e : (Rect.unit (s := ⟨2, ![n0, n1]⟩) ![0, 0] ![n0, n1] inb).emb y = y := by
    funext a; apply Fin.ext
    match a with
    | ⟨0, _⟩ => show 0 + 1 * (y 0).val = (y 0).val; omega
    | ⟨1, _⟩ => show 0 + 1 * (y 1).val = (y 1).val; omega
  conv_lhs => rw [← e]
  exact View.read_writes_cons_emb v X _ _ _ _

theorem read_accPut (v : View sig κ sp S256x5120 .f32) (X : v.ty.Contents (Elt F)) (j : Fin 4) {off : Fin 2 → ℕ}
    (h : off = ![0, 1280 * j.val]) (inb) (p : Vec F S256x1280 .f32) :
    v.read (Elt F) (v.writes (Elt F) X [⟨Rect.unit (s := S256x5120) off S256x1280.size inb, p⟩]) = accPut j (v.read (Elt F) X) p := by
  subst h
  funext y
  unfold accPut
  split
  next hy =>
    have hz := emb_jc y
    rw [hy] at hz
    obtain ⟨z, hz'⟩ : ∃ z : S256x1280.Idx, z = inj y := ⟨_, rfl⟩
    rw [← hz'] at hz ⊢
    rw [← hz]
    exact View.read_writes_cons_emb v X (jB j) p [] z
  next hy =>
    refine View.read_slice_write_of_not_mem (jB j) _ _ _ ?_
    intro hm
    obtain ⟨z, -, rfl⟩ := Finset.mem_map.1 hm
    exact hy (jc_emb j z)

theorem xt_eq (v7 v8 : View sig κ sp S256x1 .f32) (v6 : View sig κ sp S256x5120 .fp8e4m3) (v9 : View sig κ sp S1x5120 .f32)
    (X6 : v6.ty.Contents (Elt F)) (X7 : v7.ty.Contents (Elt F)) (X8 : v8.ty.Contents (Elt F)) (X9 : v9.ty.Contents (Elt F)) (i : grid0.Coords) :
    k0_pay305 (v7.readAt (Elt F) (Rect.unit (s := S256x1) ![0, 0] S256x1.size inb_S256x1_S256x1_0_0).toLoadRect X7)
      (v8.readAt (Elt F) (Rect.unit (s := S256x1) ![0, 0] S256x1.size inb_S256x1_S256x1_0_0).toLoadRect X8)
      (v6.readAt (Elt F) (Rect.unit (s := S256x5120) (k0_off1 i) S256x1280.size (k0_off1_inb i)).toLoadRect X6)
      (v9.readAt (Elt F) (Rect.unit (s := S1x5120) (k0_off2 i) S1x1280.size (k0_off2_inb i)).toLoadRect X9)
    = XT (v6.read (Elt F) X6) (v7.read (Elt F) X7) (v8.read (Elt F) X8) (v9.read (Elt F) X9) (i 1) := by
  have h6 : ∀ (o : Fin 2 → ℕ) (ho : o = ![0, 1280 * (i 1).val]) (inb), v6.readAt (Elt F) (Rect.unit (s := S256x5120) o S256x1280.size inb).toLoadRect X6 = View.ld (v6.read (Elt F) X6) (jB (i 1)) := by
    intro o ho inb; subst ho; rfl
  have h9 : ∀ (o : Fin 2 → ℕ) (ho : o = ![0, 1280 * (i 1).val]) (inb), v9.readAt (Elt F) (Rect.unit (s := S1x5120) o S1x1280.size inb).toLoadRect X9 = View.ld (v9.read (Elt F) X9) (gjB (i 1)) := by
    intro o ho inb; subst ho; rfl
  rw [h6 _ (k0_off1_eq i), h9 _ (k0_off2_eq i), load_whole v7 X7, load_whole v8 X8]; rfl

end

theorem trips_eq : k0_t1_loop.trips = 4 := by decide +kernel

/-- What the whole loop leaves: the first `n` row groups of the input gradient, and the gamma accumulator after them. -/
theorem pb_read  (𝒱 : Variants) (c : Dev nD) (bd : Option 𝒱.V) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (k0_h3 : k0_cond3 i = 1#1) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg15 : BufTy.Contents (Elt F) arg15.view.ty) (G10 : BufTy.Contents (Elt F) arg10.view.ty) (G16 : BufTy.Contents (Elt F) arg16.view.ty) :
    ∀ n : ℕ, n ≤ 4 →
      (∀ y : S256x5120.Idx, (rg y).val < n →
        arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 G10 G16 n).1) y = DX (arg6.view.read (Elt F) X_arg6) (arg7.view.read (Elt F) X_arg7) (arg8.view.read (Elt F) X_arg8) (arg9.view.read (Elt F) X_arg9) (arg15.view.read (Elt F) X_arg15) y)
      ∧ arg16.view.read (Elt F) (arg16.view.writes (Elt F) G16 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 G10 G16 n).2)
          = dgRows (arg6.view.read (Elt F) X_arg6) (arg7.view.read (Elt F) X_arg7) (arg8.view.read (Elt F) X_arg8) (arg15.view.read (Elt F) X_arg15) (arg16.view.read (Elt F) G16) n
  | 0, _ => ⟨fun y h => absurd h (Nat.not_lt_zero _), rfl⟩
  | n + 1, hn => by
    obtain ⟨ih10, ih16⟩ := pb_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 G10 G16 n (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 G10 G16 ⟨n, by rw [trips_eq]; omega⟩
    constructor
    · intro y hy
      rw [hs]
      show arg10.view.read (Elt F) (arg10.view.writes (Elt F) G10 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 ⟨n, _⟩).1 _ _ ++ _)) y = _
      rw [View.writes_append, trip_dx]
      by_cases h : (rg y).val = n
      · obtain rfl : n = (rg y).val := h.symm
        exact read_dx_in arg10.view _ _ _ _ _ _ y
      · rw [read_dx_out _ _ _ _ _ _ _ _ y (fun e => h (congrArg Fin.val e))]
        exact ih10 y (by omega)
    · rw [hs]
      show arg16.view.read (Elt F) (arg16.view.writes (Elt F) G16 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg6 X_arg7 X_arg8 X_arg9 X_arg15 ⟨n, _⟩).2.1 _ _ ++ _)) = _
      rw [View.writes_append, trip_dg, read_dg, ih16, dgRows, dif_pos (by omega)]

end Cert.KernelIdeal
-- ==== Proof.KernelIdeal.RunC.lean ====
module

public import proofs.«01_k».proof.Proof.KernelIdeal.Conds
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at the middle columns of a row block: one product and one block of the rebuilt input. -/
@[irreducible] def runC (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : ¬ k0_cond3 i = 1#1) (hc4 : ¬ k0_cond4 i = 1#1)
    (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) :
    Σ' (L11 : (BufTy.Contents (Elt F) arg11.view.ty → BufTy.Contents (Elt F) arg15.view.ty → List (View.Piece (Elt F) S1280x256 .bf16))), { L15 : (BufTy.Contents (Elt F) arg11.view.ty → BufTy.Contents (Elt F) arg15.view.ty → List (View.Piece (Elt F) S256x5120 .f32)) //
      ∀ (E : Set ℕ) (K : PUnit → sProp 𝕄) (f11 : BufTy.Contents (Elt F) arg11.view.ty) (f15 : BufTy.Contents (Elt F) arg15.view.ty),
        iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg11.view.loc (c : Thread nD τ) ↦[arg11.view.set]{fullShare} f11) ∗ (arg15.view.loc (c : Thread nD τ) ↦[arg15.view.set]{fullShare} f15)
          ∗ (iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg11.view.loc (c : Thread nD τ) ↦[arg11.view.set]{fullShare} (arg11.view.writes (Elt F) f11 (L11 f11 f15))) ∗ (arg15.view.loc (c : Thread nD τ) ↦[arg15.view.set]{fullShare} (arg15.view.writes (Elt F) f15 (L15 f11 f15)))) -∗ K ⟨⟩))
          ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K f11 f15 => ?run⟩
  case run =>
    simp only [cc0_dx_call_eq_skeleton]; unfold cc0_dx_call_skel
    iintro ⟨H5, H6, H7, H8, H9, H14, H11, H15, Hk⟩
    sl_exec (disch := first | sl_exact hc1 | sl_exact hc2 | sl_exact hc3 | sl_exact hc4)
    sl_step
    iapply Hk
    sl_close

end Cert.KernelIdeal
-- ==== Proof.KernelIdeal.RunD.lean ====
module

public import proofs.«01_k».proof.Proof.KernelIdeal.Conds
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at the last column of a row block that is not the last: the product, the rebuilt input, and the loop over the rows. -/
@[irreducible] def runD (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1)
    (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) :
    Σ' (L10 : (BufTy.Contents (Elt F) arg10.view.ty → BufTy.Contents (Elt F) arg11.view.ty → BufTy.Contents (Elt F) arg15.view.ty → BufTy.Contents (Elt F) arg16.view.ty → List (View.Piece (Elt F) S256x5120 .bf16))), Σ' (L11 : (BufTy.Contents (Elt F) arg10.view.ty → BufTy.Contents (Elt F) arg11.view.ty → BufTy.Contents (Elt F) arg15.view.ty → BufTy.Contents (Elt F) arg16.view.ty → BufTy.Contents (Elt F) arg11.view.ty)), Σ' (L15 : (BufTy.Contents (Elt F) arg10.view.ty → BufTy.Contents (Elt F) arg11.view.ty → BufTy.Contents (Elt F) arg15.view.ty → BufTy.Contents (Elt F) arg16.view.ty → List (View.Piece (Elt F) S256x5120 .f32))), { L16 : (BufTy.Contents (Elt F) arg10.view.ty → BufTy.Contents (Elt F) arg11.view.ty → BufTy.Contents (Elt F) arg15.view.ty → BufTy.Contents (Elt F) arg16.view.ty → List (View.Piece (Elt F) S8x5120 .f32)) //
      ∀ (E : Set ℕ) (K : PUnit → sProp 𝕄) (f10 : BufTy.Contents (Elt F) arg10.view.ty) (f11 : BufTy.Contents (Elt F) arg11.view.ty) (f15 : BufTy.Contents (Elt F) arg15.view.ty) (f16 : BufTy.Contents (Elt F) arg16.view.ty),
        iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg10.view.loc (c : Thread nD τ) ↦[arg10.view.set]{fullShare} f10) ∗ (arg11.view.loc (c : Thread nD τ) ↦[arg11.view.set]{fullShare} f11) ∗ (arg15.view.loc (c : Thread nD τ) ↦[arg15.view.set]{fullShare} f15) ∗ (arg16.view.loc (c : Thread nD τ) ↦[arg16.view.set]{fullShare} f16)
          ∗ (iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg10.view.loc (c : Thread nD τ) ↦[arg10.view.set]{fullShare} (arg10.view.writes (Elt F) f10 (L10 f10 f11 f15 f16))) ∗ (arg11.view.loc (c : Thread nD τ) ↦[arg11.view.set]{fullShare} (L11 f10 f11 f15 f16)) ∗ (arg15.view.loc (c : Thread nD τ) ↦[arg15.view.set]{fullShare} (arg15.view.writes (Elt F) f15 (L15 f10 f11 f15 f16))) ∗ (arg16.view.loc (c : Thread nD τ) ↦[arg16.view.set]{fullShare} (arg16.view.writes (Elt F) f16 (L16 f10 f11 f15 f16)))) -∗ K ⟨⟩))
          ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K f10 f11 f15 f16 => ?run⟩
  case run =>
    simp only [cc0_dx_call_eq_skeleton]; unfold cc0_dx_call_skel
    iintro ⟨H5, H6, H7, H8, H9, H14, H10, H11, H15, H16, Hk⟩
    sl_exec (disch := first | sl_exact hc1 | sl_exact hc2 | sl_exact hc3 | sl_exact hc4)
    sl_step
    iapply Hk
    sl_close

end Cert.KernelIdeal
-- ==== Proof.KernelIdeal.RunE.lean ====
module

public import proofs.«01_k».proof.Proof.KernelIdeal.Conds
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at the last grid point: as at every last column, and the gamma accumulator is summed into its output. -/
@[irreducible] def runE (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1)
    (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) :
    Σ' (L10 : (BufTy.Contents (Elt F) arg10.view.ty → BufTy.Contents (Elt F) arg11.view.ty → BufTy.Contents (Elt F) arg13.view.ty → BufTy.Contents (Elt F) arg15.view.ty → BufTy.Contents (Elt F) arg16.view.ty → List (View.Piece (Elt F) S256x5120 .bf16))), Σ' (L11 : (BufTy.Contents (Elt F) arg10.view.ty → BufTy.Contents (Elt F) arg11.view.ty → BufTy.Contents (Elt F) arg13.view.ty → BufTy.Contents (Elt F) arg15.view.ty → BufTy.Contents (Elt F) arg16.view.ty → BufTy.Contents (Elt F) arg11.view.ty)), Σ' (L13 : (BufTy.Contents (Elt F) arg10.view.ty → BufTy.Contents (Elt F) arg11.view.ty → BufTy.Contents (Elt F) arg13.view.ty → BufTy.Contents (Elt F) arg15.view.ty → BufTy.Contents (Elt F) arg16.view.ty → List (View.Piece (Elt F) S1x5120 .f32))), Σ' (L15 : (BufTy.Contents (Elt F) arg10.view.ty → BufTy.Contents (Elt F) arg11.view.ty → BufTy.Contents (Elt F) arg13.view.ty → BufTy.Contents (Elt F) arg15.view.ty → BufTy.Contents (Elt F) arg16.view.ty → List (View.Piece (Elt F) S256x5120 .f32))), { L16 : (BufTy.Contents (Elt F) arg10.view.ty → BufTy.Contents (Elt F) arg11.view.ty → BufTy.Contents (Elt F) arg13.view.ty → BufTy.Contents (Elt F) arg15.view.ty → BufTy.Contents (Elt F) arg16.view.ty → List (View.Piece (Elt F) S8x5120 .f32)) //
      ∀ (E : Set ℕ) (K : PUnit → sProp 𝕄) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty),
        iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg15.view.loc (c : Thread nD τ) ↦[arg15.view.set]{fullShare} f15) ∗ (arg16.view.loc (c : Thread nD τ) ↦[arg16.view.set]{fullShare} f16)
          ∗ (iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg10.view.loc (c : Thread nD τ) ↦[arg10.view.set]{fullShare} (arg10.view.writes (Elt F) f10 (L10 f10 f11 f13 f15 f16))) ∗ (arg11.view.loc (c : Thread nD τ) ↦[arg11.view.set]{fullShare} (L11 f10 f11 f13 f15 f16)) ∗ (arg13.view.loc (c : Thread nD τ) ↦[arg13.view.set]{fullShare} (arg13.view.writes (Elt F) f13 (L13 f10 f11 f13 f15 f16))) ∗ (arg15.view.loc (c : Thread nD τ) ↦[arg15.view.set]{fullShare} (arg15.view.writes (Elt F) f15 (L15 f10 f11 f13 f15 f16))) ∗ (arg16.view.loc (c : Thread nD τ) ↦[arg16.view.set]{fullShare} (arg16.view.writes (Elt F) f16 (L16 f10 f11 f13 f15 f16)))) -∗ K ⟨⟩))
          ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K f10 f11 f13 f15 f16 => ?run⟩
  case run =>
    simp only [cc0_dx_call_eq_skeleton]; unfold cc0_dx_call_skel
    iintro ⟨H5, H6, H7, H8, H9, H14, H10, H11, H13, H15, H16, Hk⟩
    sl_exec (disch := first | sl_exact hc1 | sl_exact hc2 | sl_exact hc3 | sl_exact hc4)
    sl_step
    iapply Hk
    sl_close

end Cert.KernelIdeal
-- ==== Proof.KernelIdeal.SpecTail.lean ====
module

public import proofs.«01_k».proof.Proof.KernelIdeal.SpecBase
public import proofs.«01_k».proof.Proof.KernelIdeal.RunC
public import proofs.«01_k».proof.Proof.KernelIdeal.RunD
public import proofs.«01_k».proof.Proof.KernelIdeal.RunE
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000

/-! # What the body leaves away from the first column of a row block -/

theorem runC_xt (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : ¬ k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f11 : BufTy.Contents (Elt F) arg11.view.ty) (f15 : BufTy.Contents (Elt F) arg15.view.ty) :
    arg11.view.read (Elt F) (arg11.view.writes (Elt F) f11 ((runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).1 f11 f15)) = XT (arg6.view.read (Elt F) X6) (arg7.view.read (Elt F) X7) (arg8.view.read (Elt F) X8) (arg9.view.read (Elt F) X9) (i 1) := by
  unfold runC
  refine (read_store_whole arg11.view _ _ _ _).trans ?_
  exact xt_eq arg7.view arg8.view arg6.view arg9.view X6 X7 X8 X9 i

theorem runC_acc (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : ¬ k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f11 : BufTy.Contents (Elt F) arg11.view.ty) (f15 : BufTy.Contents (Elt F) arg15.view.ty) :
    arg15.view.read (Elt F) (arg15.view.writes (Elt F) f15 ((runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.1 f11 f15)) = (accPut (i 1) (arg15.view.read (Elt F) f15) (accJ (arg14.view.read (Elt F) X14) (arg5.view.read (Elt F) X5))) := by
  unfold runC
  refine (read_accPut arg15.view f15 (i 1) (k0_off1_eq i) _ _).trans ?_
  refine congrArg (accPut (i 1) _) (congrArg k0_pay1 ?_)
  exact congrArg₂ k0_pay306 (load_whole arg14.view X14 _) (load_whole arg5.view X5 _)

set_option maxHeartbeats 1000000 in
/-- The body at the middle columns of a row block: one product and one block of the rebuilt input. -/
theorem runC_spec (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : ¬ k0_cond3 i = 1#1) (hc4 : ¬ k0_cond4 i = 1#1)
    (w : Vec F S1280x7168 .fp8e4m3) (x : Vec F S256x5120 .fp8e4m3) (xs : Vec F S256x1 .f32) (rstd : Vec F S256x1 .f32) (g : Vec F S1x5120 .f32) (lhs : Vec F S256x7168 .bf16) (a : Vec F S256x5120 .f32) (E : Set ℕ) (K : PUnit → sProp 𝕄) :
    iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ (∃ d11, owns (c : Thread nD τ) arg11 fullShare d11) ∗ owns (c : Thread nD τ) arg15 fullShare a
        ∗ (iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ owns (c : Thread nD τ) arg11 fullShare (XT x xs rstd g (i 1)) ∗ owns (c : Thread nD τ) arg15 fullShare (accPut (i 1) a (accJ lhs w))) -∗ K ⟨⟩))
      ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%X5, %h5, H5⟩, ⟨%X6, %h6, H6⟩, ⟨%X7, %h7, H7⟩, ⟨%X8, %h8, H8⟩, ⟨%X9, %h9, H9⟩, ⟨%X14, %h14, H14⟩, ⟨%d11, %f11, -, H11⟩, ⟨%f15, %h15, H15⟩, Hk⟩
  subst h5 h6 h7 h8 h9 h14 h15
  iapply ((runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2 E K f11 f15)
  isplitl [H5]; · iexact H5
  isplitl [H6]; · iexact H6
  isplitl [H7]; · iexact H7
  isplitl [H8]; · iexact H8
  isplitl [H9]; · iexact H9
  isplitl [H14]; · iexact H14
  isplitl [H11]; · iexact H11
  isplitl [H15]; · iexact H15
  iintro ⟨H5, H6, H7, H8, H9, H14, H11, H15⟩
  iapply Hk
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H14]
  · iexists _; isplitr; swap; · iexact H14
    ipureintro; rfl
  isplitl [H11]
  · iexists _; isplitr; swap; · iexact H11
    ipureintro; exact runC_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f11 f15
  iexists _; isplitr; swap; · iexact H15
  ipureintro; exact runC_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f11 f15

theorem runD_xt (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f15 : BufTy.Contents (Elt F) arg15.view.ty) (f16 : BufTy.Contents (Elt F) arg16.view.ty) :
    arg11.view.read (Elt F) ((runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.1 f10 f11 f15 f16) = XT (arg6.view.read (Elt F) X6) (arg7.view.read (Elt F) X7) (arg8.view.read (Elt F) X8) (arg9.view.read (Elt F) X9) (i 1) := by
  unfold runD
  refine (read_store_whole arg11.view _ _ _ _).trans ?_
  exact xt_eq arg7.view arg8.view arg6.view arg9.view X6 X7 X8 X9 i

theorem runD_acc (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f15 : BufTy.Contents (Elt F) arg15.view.ty) (f16 : BufTy.Contents (Elt F) arg16.view.ty) :
    arg15.view.read (Elt F) (arg15.view.writes (Elt F) f15 ((runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.1 f10 f11 f15 f16)) = (accPut (i 1) (arg15.view.read (Elt F) f15) (accJ (arg14.view.read (Elt F) X14) (arg5.view.read (Elt F) X5))) := by
  unfold runD
  refine (read_accPut arg15.view f15 (i 1) (k0_off1_eq i) _ _).trans ?_
  refine congrArg (accPut (i 1) _) (congrArg k0_pay1 ?_)
  exact congrArg₂ k0_pay306 (load_whole arg14.view X14 _) (load_whole arg5.view X5 _)

theorem runD_dx (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f15 : BufTy.Contents (Elt F) arg15.view.ty) (f16 : BufTy.Contents (Elt F) arg16.view.ty) :
    arg10.view.read (Elt F) (arg10.view.writes (Elt F) f10 ((runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).1 f10 f11 f15 f16)) = DX (arg6.view.read (Elt F) X6) (arg7.view.read (Elt F) X7) (arg8.view.read (Elt F) X8) (arg9.view.read (Elt F) X9) (accPut (i 1) (arg15.view.read (Elt F) f15) (accJ (arg14.view.read (Elt F) X14) (arg5.view.read (Elt F) X5))) := by
  have ha := runD_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16
  rw [← ha]
  unfold runD
  funext y
  exact (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc3 X6 X7 X8 X9 _ f10 f16 _ (le_of_eq trips_eq)).1 y
    (lt_of_lt_of_eq (rg y).isLt trips_eq.symm)

theorem runD_dg (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f15 : BufTy.Contents (Elt F) arg15.view.ty) (f16 : BufTy.Contents (Elt F) arg16.view.ty) :
    arg16.view.read (Elt F) (arg16.view.writes (Elt F) f16 ((runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.2.1 f10 f11 f15 f16)) = dgRows (arg6.view.read (Elt F) X6) (arg7.view.read (Elt F) X7) (arg8.view.read (Elt F) X8) (accPut (i 1) (arg15.view.read (Elt F) f15) (accJ (arg14.view.read (Elt F) X14) (arg5.view.read (Elt F) X5))) (arg16.view.read (Elt F) f16) 4 := by
  have ha := runD_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16
  rw [← ha]
  unfold runD
  refine (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc3 X6 X7 X8 X9 _ f10 f16 _ (le_of_eq trips_eq)).2.trans ?_
  exact congrArg _ trips_eq

set_option maxHeartbeats 1000000 in
/-- The body at the last column of a row block that is not the last: the product, the rebuilt input, and the loop over the rows. -/
theorem runD_spec (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : ¬ k0_cond4 i = 1#1)
    (w : Vec F S1280x7168 .fp8e4m3) (x : Vec F S256x5120 .fp8e4m3) (xs : Vec F S256x1 .f32) (rstd : Vec F S256x1 .f32) (g : Vec F S1x5120 .f32) (lhs : Vec F S256x7168 .bf16) (a : Vec F S256x5120 .f32) (d : Vec F S8x5120 .f32) (E : Set ℕ) (K : PUnit → sProp 𝕄) :
    iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ (∃ d10, owns (c : Thread nD τ) arg10 fullShare d10) ∗ (∃ d11, owns (c : Thread nD τ) arg11 fullShare d11) ∗ owns (c : Thread nD τ) arg15 fullShare a ∗ owns (c : Thread nD τ) arg16 fullShare d
        ∗ (iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ owns (c : Thread nD τ) arg10 fullShare (DX x xs rstd g (accPut (i 1) a (accJ lhs w))) ∗ owns (c : Thread nD τ) arg11 fullShare (XT x xs rstd g (i 1)) ∗ owns (c : Thread nD τ) arg15 fullShare (accPut (i 1) a (accJ lhs w)) ∗ owns (c : Thread nD τ) arg16 fullShare (dgRows x xs rstd (accPut (i 1) a (accJ lhs w)) d 4)) -∗ K ⟨⟩))
      ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%X5, %h5, H5⟩, ⟨%X6, %h6, H6⟩, ⟨%X7, %h7, H7⟩, ⟨%X8, %h8, H8⟩, ⟨%X9, %h9, H9⟩, ⟨%X14, %h14, H14⟩, ⟨%d10, %f10, -, H10⟩, ⟨%d11, %f11, -, H11⟩, ⟨%f15, %h15, H15⟩, ⟨%f16, %h16, H16⟩, Hk⟩
  subst h5 h6 h7 h8 h9 h14 h15 h16
  iapply ((runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.2.2 E K f10 f11 f15 f16)
  isplitl [H5]; · iexact H5
  isplitl [H6]; · iexact H6
  isplitl [H7]; · iexact H7
  isplitl [H8]; · iexact H8
  isplitl [H9]; · iexact H9
  isplitl [H14]; · iexact H14
  isplitl [H10]; · iexact H10
  isplitl [H11]; · iexact H11
  isplitl [H15]; · iexact H15
  isplitl [H16]; · iexact H16
  iintro ⟨H5, H6, H7, H8, H9, H14, H10, H11, H15, H16⟩
  iapply Hk
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H14]
  · iexists _; isplitr; swap; · iexact H14
    ipureintro; rfl
  isplitl [H10]
  · iexists _; isplitr; swap; · iexact H10
    ipureintro; exact runD_dx c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16
  isplitl [H11]
  · iexists _; isplitr; swap; · iexact H11
    ipureintro; exact runD_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16
  isplitl [H15]
  · iexists _; isplitr; swap; · iexact H15
    ipureintro; exact runD_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16
  iexists _; isplitr; swap; · iexact H16
  ipureintro; exact runD_dg c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f15 f16

theorem runE_xt (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty) :
    arg11.view.read (Elt F) ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.1 f10 f11 f13 f15 f16) = XT (arg6.view.read (Elt F) X6) (arg7.view.read (Elt F) X7) (arg8.view.read (Elt F) X8) (arg9.view.read (Elt F) X9) (i 1) := by
  unfold runE
  refine (read_store_whole arg11.view _ _ _ _).trans ?_
  exact xt_eq arg7.view arg8.view arg6.view arg9.view X6 X7 X8 X9 i

theorem runE_acc (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty) :
    arg15.view.read (Elt F) (arg15.view.writes (Elt F) f15 ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.2.1 f10 f11 f13 f15 f16)) = (accPut (i 1) (arg15.view.read (Elt F) f15) (accJ (arg14.view.read (Elt F) X14) (arg5.view.read (Elt F) X5))) := by
  unfold runE
  refine (read_accPut arg15.view f15 (i 1) (k0_off1_eq i) _ _).trans ?_
  refine congrArg (accPut (i 1) _) (congrArg k0_pay1 ?_)
  exact congrArg₂ k0_pay306 (load_whole arg14.view X14 _) (load_whole arg5.view X5 _)

theorem runE_dx (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty) :
    arg10.view.read (Elt F) (arg10.view.writes (Elt F) f10 ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).1 f10 f11 f13 f15 f16)) = DX (arg6.view.read (Elt F) X6) (arg7.view.read (Elt F) X7) (arg8.view.read (Elt F) X8) (arg9.view.read (Elt F) X9) (accPut (i 1) (arg15.view.read (Elt F) f15) (accJ (arg14.view.read (Elt F) X14) (arg5.view.read (Elt F) X5))) := by
  have ha := runE_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  rw [← ha]
  unfold runE
  funext y
  exact (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc3 X6 X7 X8 X9 _ f10 f16 _ (le_of_eq trips_eq)).1 y
    (lt_of_lt_of_eq (rg y).isLt trips_eq.symm)

theorem runE_dg (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty) :
    arg16.view.read (Elt F) (arg16.view.writes (Elt F) f16 ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.2.2.1 f10 f11 f13 f15 f16)) = dgRows (arg6.view.read (Elt F) X6) (arg7.view.read (Elt F) X7) (arg8.view.read (Elt F) X8) (accPut (i 1) (arg15.view.read (Elt F) f15) (accJ (arg14.view.read (Elt F) X14) (arg5.view.read (Elt F) X5))) (arg16.view.read (Elt F) f16) 4 := by
  have ha := runE_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  rw [← ha]
  unfold runE
  refine (pb_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc3 X6 X7 X8 X9 _ f10 f16 _ (le_of_eq trips_eq)).2.trans ?_
  exact congrArg _ trips_eq

theorem runE_gamma (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (f10 : BufTy.Contents (Elt F) arg10.view.ty) (f11 : BufTy.Contents (Elt F) arg11.view.ty) (f13 : BufTy.Contents (Elt F) arg13.view.ty) (f15 : BufTy.Contents (Elt F) arg15.view.ty) (f16 : BufTy.Contents (Elt F) arg16.view.ty) :
    arg13.view.read (Elt F) (arg13.view.writes (Elt F) f13 ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.1 f10 f11 f13 f15 f16)) = k0_pay2 (dgRows (arg6.view.read (Elt F) X6) (arg7.view.read (Elt F) X7) (arg8.view.read (Elt F) X8) (accPut (i 1) (arg15.view.read (Elt F) f15) (accJ (arg14.view.read (Elt F) X14) (arg5.view.read (Elt F) X5))) (arg16.view.read (Elt F) f16) 4) := by
  have hd := runE_dg c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  rw [← hd]
  unfold runE
  refine (read_store_whole arg13.view _ _ _ _).trans ?_
  exact congrArg k0_pay2 (load_whole arg16.view _ _)

set_option maxHeartbeats 1000000 in
/-- The body at the last grid point: as at every last column, and the gamma accumulator is summed into its output. -/
theorem runE_spec (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : ¬ k0_cond2 i = 1#1) (hc3 : k0_cond3 i = 1#1) (hc4 : k0_cond4 i = 1#1)
    (w : Vec F S1280x7168 .fp8e4m3) (x : Vec F S256x5120 .fp8e4m3) (xs : Vec F S256x1 .f32) (rstd : Vec F S256x1 .f32) (g : Vec F S1x5120 .f32) (lhs : Vec F S256x7168 .bf16) (a : Vec F S256x5120 .f32) (d : Vec F S8x5120 .f32) (E : Set ℕ) (K : PUnit → sProp 𝕄) :
    iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ (∃ d10, owns (c : Thread nD τ) arg10 fullShare d10) ∗ (∃ d11, owns (c : Thread nD τ) arg11 fullShare d11) ∗ (∃ d13, owns (c : Thread nD τ) arg13 fullShare d13) ∗ owns (c : Thread nD τ) arg15 fullShare a ∗ owns (c : Thread nD τ) arg16 fullShare d
        ∗ (iprop(owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg14 fullShare lhs ∗ owns (c : Thread nD τ) arg10 fullShare (DX x xs rstd g (accPut (i 1) a (accJ lhs w))) ∗ owns (c : Thread nD τ) arg11 fullShare (XT x xs rstd g (i 1)) ∗ owns (c : Thread nD τ) arg13 fullShare (k0_pay2 (dgRows x xs rstd (accPut (i 1) a (accJ lhs w)) d 4)) ∗ owns (c : Thread nD τ) arg15 fullShare (accPut (i 1) a (accJ lhs w)) ∗ owns (c : Thread nD τ) arg16 fullShare (dgRows x xs rstd (accPut (i 1) a (accJ lhs w)) d 4)) -∗ K ⟨⟩))
      ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%X5, %h5, H5⟩, ⟨%X6, %h6, H6⟩, ⟨%X7, %h7, H7⟩, ⟨%X8, %h8, H8⟩, ⟨%X9, %h9, H9⟩, ⟨%X14, %h14, H14⟩, ⟨%d10, %f10, -, H10⟩, ⟨%d11, %f11, -, H11⟩, ⟨%d13, %f13, -, H13⟩, ⟨%f15, %h15, H15⟩, ⟨%f16, %h16, H16⟩, Hk⟩
  subst h5 h6 h7 h8 h9 h14 h15 h16
  iapply ((runE (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14).2.2.2.2.2 E K f10 f11 f13 f15 f16)
  isplitl [H5]; · iexact H5
  isplitl [H6]; · iexact H6
  isplitl [H7]; · iexact H7
  isplitl [H8]; · iexact H8
  isplitl [H9]; · iexact H9
  isplitl [H14]; · iexact H14
  isplitl [H10]; · iexact H10
  isplitl [H11]; · iexact H11
  isplitl [H13]; · iexact H13
  isplitl [H15]; · iexact H15
  isplitl [H16]; · iexact H16
  iintro ⟨H5, H6, H7, H8, H9, H14, H10, H11, H13, H15, H16⟩
  iapply Hk
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H14]
  · iexists _; isplitr; swap; · iexact H14
    ipureintro; rfl
  isplitl [H10]
  · iexists _; isplitr; swap; · iexact H10
    ipureintro; exact runE_dx c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  isplitl [H11]
  · iexists _; isplitr; swap; · iexact H11
    ipureintro; exact runE_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  isplitl [H13]
  · iexists _; isplitr; swap; · iexact H13
    ipureintro; exact runE_gamma c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  isplitl [H15]
  · iexists _; isplitr; swap; · iexact H15
    ipureintro; exact runE_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16
  iexists _; isplitr; swap; · iexact H16
  ipureintro; exact runE_dg c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X5 X6 X7 X8 X9 X14 f10 f11 f13 f15 f16

end Cert.KernelIdeal
-- ==== Proof.KernelIdeal.RunA.lean ====
module

public import proofs.«01_k».proof.Proof.KernelIdeal.Conds
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at the first grid point: it clears the gamma accumulator, fills the left operand and the dequantised block, and writes its columns of the product and of the rebuilt input. -/
@[irreducible] def runA (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) :
    Σ' (L11 : (BufTy.Contents (Elt F) arg11.view.ty → BufTy.Contents (Elt F) arg12.view.ty → BufTy.Contents (Elt F) arg14.view.ty → BufTy.Contents (Elt F) arg15.view.ty → BufTy.Contents (Elt F) arg16.view.ty → List (View.Piece (Elt F) S1280x256 .bf16))), Σ' (L12 : (BufTy.Contents (Elt F) arg11.view.ty → BufTy.Contents (Elt F) arg12.view.ty → BufTy.Contents (Elt F) arg14.view.ty → BufTy.Contents (Elt F) arg15.view.ty → BufTy.Contents (Elt F) arg16.view.ty → List (View.Piece (Elt F) S256x7168 .bf16))), Σ' (L14 : (BufTy.Contents (Elt F) arg11.view.ty → BufTy.Contents (Elt F) arg12.view.ty → BufTy.Contents (Elt F) arg14.view.ty → BufTy.Contents (Elt F) arg15.view.ty → BufTy.Contents (Elt F) arg16.view.ty → List (View.Piece (Elt F) S256x7168 .bf16))), Σ' (L15 : (BufTy.Contents (Elt F) arg11.view.ty → BufTy.Contents (Elt F) arg12.view.ty → BufTy.Contents (Elt F) arg14.view.ty → BufTy.Contents (Elt F) arg15.view.ty → BufTy.Contents (Elt F) arg16.view.ty → List (View.Piece (Elt F) S256x5120 .f32))), { L16 : (BufTy.Contents (Elt F) arg11.view.ty → BufTy.Contents (Elt F) arg12.view.ty → BufTy.Contents (Elt F) arg14.view.ty → BufTy.Contents (Elt F) arg15.view.ty → BufTy.Contents (Elt F) arg16.view.ty → List (View.Piece (Elt F) S8x5120 .f32)) //
      ∀ (E : Set ℕ) (K : PUnit → sProp 𝕄) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)
          ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} (arg11.view.writes (Elt F) f11 (L11 f11 f12 f14 f15 f16))) ∗ (arg12.view.loc (c : Thread nD τ) ↦[arg12.view.set]{fullShare} (arg12.view.writes (Elt F) f12 (L12 f11 f12 f14 f15 f16))) ∗ (arg14.view.loc (c : Thread nD τ) ↦[arg14.view.set]{fullShare} (arg14.view.writes (Elt F) f14 (L14 f11 f12 f14 f15 f16))) ∗ (arg15.view.loc (c : Thread nD τ) ↦[arg15.view.set]{fullShare} (arg15.view.writes (Elt F) f15 (L15 f11 f12 f14 f15 f16))) ∗ (arg16.view.loc (c : Thread nD τ) ↦[arg16.view.set]{fullShare} (arg16.view.writes (Elt F) f16 (L16 f11 f12 f14 f15 f16)))) -∗ K ⟨⟩))
          ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K f11 f12 f14 f15 f16 => ?run⟩
  case run =>
    simp only [cc0_dx_call_eq_skeleton]; unfold cc0_dx_call_skel
    iintro ⟨H2, H3, H4, H5, H6, H7, H8, H9, H11, H12, H14, H15, H16, Hk⟩
    sl_exec (disch := first | sl_exact hc1 | sl_exact hc2 | sl_exact hc3 | sl_exact hc4)
    sl_step
    iapply Hk
    sl_close

end Cert.KernelIdeal
-- ==== Proof.KernelIdeal.HeadsA.lean ====
module

public import proofs.«01_k».proof.Proof.KernelIdeal.SpecBase
public import proofs.«01_k».proof.Proof.KernelIdeal.RunA
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

namespace HeadsA

set_option maxHeartbeats 4000000

theorem down56 : down 56 = [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] := by decide

theorem runA_dq (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.1 f11 f12 f14 f15 f16 = (down 56).map (dqPiece (arg2.view.read (Elt F) X2) (arg3.view.read (Elt F) X3)) := by
  rw [down56]; unfold runA; rfl

theorem runA_lhs (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.1 f11 f12 f14 f15 f16 = (down 56).map (lhsPiece (arg2.view.read (Elt F) X2) (arg3.view.read (Elt F) X3) (arg4.view.read (Elt F) X4)) := by
  rw [down56]; unfold runA; rfl

theorem runA_xt (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) :
    arg11.view.read (Elt F) (arg11.view.writes (Elt F) f11 ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).1 f11 f12 f14 f15 f16)) = XT (arg6.view.read (Elt F) X6) (arg7.view.read (Elt F) X7) (arg8.view.read (Elt F) X8) (arg9.view.read (Elt F) X9) (i 1) := by
  unfold runA
  refine (read_store_whole arg11.view f11 _ _ _).trans ?_
  exact xt_eq arg7.view arg8.view arg6.view arg9.view X6 X7 X8 X9 i

theorem runA_acc (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) :
    arg15.view.read (Elt F) (arg15.view.writes (Elt F) f15 ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.2.1 f11 f12 f14 f15 f16))
      = accPut (i 1) (arg15.view.read (Elt F) f15) (accJ (LHS (arg2.view.read (Elt F) X2) (arg3.view.read (Elt F) X3) (arg4.view.read (Elt F) X4)) (arg5.view.read (Elt F) X5)) := by
  have hl := runA_lhs c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16
  revert hl
  unfold runA
  intro hl
  refine (read_accPut arg15.view f15 (i 1) (k0_off1_eq i) _ _).trans ?_
  refine congrArg (accPut (i 1) _) (congrArg k0_pay1 ?_)
  refine congrArg₂ k0_pay306 ?_ (load_whole arg5.view X5 _)
  have h2 := read_lhs arg14.view arg14.view.junk (arg2.view.read (Elt F) X2) (arg3.view.read (Elt F) X3) (arg4.view.read (Elt F) X4)
  rw [← hl] at h2
  exact (load_whole arg14.view _ _).trans h2

theorem runA_dg (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) (f16 : BufTy.Contents (Elt F) arg16.view.ty) :
    arg16.view.read (Elt F) (arg16.view.writes (Elt F) f16 ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.2.2.1 f11 f12 f14 f15 f16)) = k0_pay303 := by
  unfold runA
  exact read_store_whole arg16.view f16 _ _ _

end HeadsA

end Cert.KernelIdeal
-- ==== Proof.KernelIdeal.RunB.lean ====
module

public import proofs.«01_k».proof.Proof.KernelIdeal.Conds
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at the first column of every later row block: as at the first grid point, the gamma accumulator left alone. -/
@[irreducible] def runB (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) :
    Σ' (L11 : (BufTy.Contents (Elt F) arg11.view.ty → BufTy.Contents (Elt F) arg12.view.ty → BufTy.Contents (Elt F) arg14.view.ty → BufTy.Contents (Elt F) arg15.view.ty → List (View.Piece (Elt F) S1280x256 .bf16))), Σ' (L12 : (BufTy.Contents (Elt F) arg11.view.ty → BufTy.Contents (Elt F) arg12.view.ty → BufTy.Contents (Elt F) arg14.view.ty → BufTy.Contents (Elt F) arg15.view.ty → List (View.Piece (Elt F) S256x7168 .bf16))), Σ' (L14 : (BufTy.Contents (Elt F) arg11.view.ty → BufTy.Contents (Elt F) arg12.view.ty → BufTy.Contents (Elt F) arg14.view.ty → BufTy.Contents (Elt F) arg15.view.ty → List (View.Piece (Elt F) S256x7168 .bf16))), { L15 : (BufTy.Contents (Elt F) arg11.view.ty → BufTy.Contents (Elt F) arg12.view.ty → BufTy.Contents (Elt F) arg14.view.ty → BufTy.Contents (Elt F) arg15.view.ty → List (View.Piece (Elt F) S256x5120 .f32)) //
      ∀ (E : Set ℕ) (K : PUnit → sProp 𝕄) (f11 : BufTy.Contents (Elt F) arg11.view.ty) (f12 : BufTy.Contents (Elt F) arg12.view.ty) (f14 : BufTy.Contents (Elt F) arg14.view.ty) (f15 : BufTy.Contents (Elt F) arg15.view.ty),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15)
          ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} (arg11.view.writes (Elt F) f11 (L11 f11 f12 f14 f15))) ∗ (arg12.view.loc (c : Thread nD τ) ↦[arg12.view.set]{fullShare} (arg12.view.writes (Elt F) f12 (L12 f11 f12 f14 f15))) ∗ (arg14.view.loc (c : Thread nD τ) ↦[arg14.view.set]{fullShare} (arg14.view.writes (Elt F) f14 (L14 f11 f12 f14 f15))) ∗ (arg15.view.loc (c : Thread nD τ) ↦[arg15.view.set]{fullShare} (arg15.view.writes (Elt F) f15 (L15 f11 f12 f14 f15)))) -∗ K ⟨⟩))
          ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K f11 f12 f14 f15 => ?run⟩
  case run =>
    simp only [cc0_dx_call_eq_skeleton]; unfold cc0_dx_call_skel
    iintro ⟨H2, H3, H4, H5, H6, H7, H8, H9, H11, H12, H14, H15, Hk⟩
    sl_exec (disch := first | sl_exact hc1 | sl_exact hc2 | sl_exact hc3 | sl_exact hc4)
    sl_step
    iapply Hk
    sl_close

end Cert.KernelIdeal
-- ==== Proof.KernelIdeal.HeadsB.lean ====
module

public import proofs.«01_k».proof.Proof.KernelIdeal.SpecBase
public import proofs.«01_k».proof.Proof.KernelIdeal.RunB
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

namespace HeadsB

set_option maxHeartbeats 4000000

theorem down56 : down 56 = [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] := by decide

theorem runB_dq (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.1 f11 f12 f14 f15 = (down 56).map (dqPiece (arg2.view.read (Elt F) X2) (arg3.view.read (Elt F) X3)) := by
  rw [down56]; unfold runB; rfl

theorem runB_lhs (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.1 f11 f12 f14 f15 = (down 56).map (lhsPiece (arg2.view.read (Elt F) X2) (arg3.view.read (Elt F) X3) (arg4.view.read (Elt F) X4)) := by
  rw [down56]; unfold runB; rfl

theorem runB_xt (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) :
    arg11.view.read (Elt F) (arg11.view.writes (Elt F) f11 ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).1 f11 f12 f14 f15)) = XT (arg6.view.read (Elt F) X6) (arg7.view.read (Elt F) X7) (arg8.view.read (Elt F) X8) (arg9.view.read (Elt F) X9) (i 1) := by
  unfold runB
  refine (read_store_whole arg11.view f11 _ _ _).trans ?_
  exact xt_eq arg7.view arg8.view arg6.view arg9.view X6 X7 X8 X9 i

theorem runB_acc (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f11 : BufTy.Contents (Elt F) arg11.view.ty) (f12 : BufTy.Contents (Elt F) arg12.view.ty) (f14 : BufTy.Contents (Elt F) arg14.view.ty) (f15 : BufTy.Contents (Elt F) arg15.view.ty) :
    arg15.view.read (Elt F) (arg15.view.writes (Elt F) f15 ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.2.1 f11 f12 f14 f15))
      = accPut (i 1) (arg15.view.read (Elt F) f15) (accJ (LHS (arg2.view.read (Elt F) X2) (arg3.view.read (Elt F) X3) (arg4.view.read (Elt F) X4)) (arg5.view.read (Elt F) X5)) := by
  have hl := runB_lhs c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15
  revert hl
  unfold runB
  intro hl
  refine (read_accPut arg15.view f15 (i 1) (k0_off1_eq i) _ _).trans ?_
  refine congrArg (accPut (i 1) _) (congrArg k0_pay1 ?_)
  refine congrArg₂ k0_pay306 ?_ (load_whole arg5.view X5 _)
  have h2 := read_lhs arg14.view arg14.view.junk (arg2.view.read (Elt F) X2) (arg3.view.read (Elt F) X3) (arg4.view.read (Elt F) X4)
  rw [← hl] at h2
  exact (load_whole arg14.view _ _).trans h2

end HeadsB

end Cert.KernelIdeal
-- ==== Proof.KernelIdeal.SpecHead.lean ====
module

public import proofs.«01_k».proof.Proof.KernelIdeal.HeadsA
public import proofs.«01_k».proof.Proof.KernelIdeal.HeadsB
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # What the body leaves at the first column of a row block -/

set_option maxHeartbeats 1000000 in
/-- The body at the first grid point: it clears the gamma accumulator, fills the left operand and the dequantised block, and writes its columns of the product and of the rebuilt input. -/
theorem runA_spec (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : cond1 i) (hc2 : k0_cond2 i = 1#1) (hc3 : ¬ k0_cond3 i = 1#1) (hc4 : ¬ k0_cond4 i = 1#1)
    (q : Vec F S256x7168 .fp8e5m2) (s : Vec F S256x56 .f32) (ws : Vec F S1x7168 .f32) (w : Vec F S1280x7168 .fp8e4m3) (x : Vec F S256x5120 .fp8e4m3) (xs : Vec F S256x1 .f32) (rstd : Vec F S256x1 .f32) (g : Vec F S1x5120 .f32) (a : Vec F S256x5120 .f32) (E : Set ℕ) (K : PUnit → sProp 𝕄) :
    iprop(owns (c : Thread nD τ) arg2 fullShare q ∗ owns (c : Thread nD τ) arg3 fullShare s ∗ owns (c : Thread nD τ) arg4 fullShare ws ∗ owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ (∃ d11, owns (c : Thread nD τ) arg11 fullShare d11) ∗ (∃ d12, owns (c : Thread nD τ) arg12 fullShare d12) ∗ (∃ d14, owns (c : Thread nD τ) arg14 fullShare d14) ∗ owns (c : Thread nD τ) arg15 fullShare a ∗ (∃ d16, owns (c : Thread nD τ) arg16 fullShare d16)
        ∗ (iprop(owns (c : Thread nD τ) arg2 fullShare q ∗ owns (c : Thread nD τ) arg3 fullShare s ∗ owns (c : Thread nD τ) arg4 fullShare ws ∗ owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg11 fullShare (XT x xs rstd g (i 1)) ∗ owns (c : Thread nD τ) arg12 fullShare (DQ q s) ∗ owns (c : Thread nD τ) arg14 fullShare (LHS q s ws) ∗ owns (c : Thread nD τ) arg15 fullShare (accPut (i 1) a (accJ (LHS q s ws) w)) ∗ owns (c : Thread nD τ) arg16 fullShare k0_pay303) -∗ K ⟨⟩))
      ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%d11, %f11, -, H11⟩, ⟨%d12, %f12, -, H12⟩, ⟨%d14, %f14, -, H14⟩, ⟨%f15, %h15, H15⟩, ⟨%d16, %f16, -, H16⟩, Hk⟩
  subst h2 h3 h4 h5 h6 h7 h8 h9 h15
  iapply ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.2.2.2 E K f11 f12 f14 f15 f16)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H14]; · iexact H14
  isplitl [H15]; · iexact H15
  isplitl [H16]; · iexact H16
  iintro ⟨H2, H3, H4, H5, H6, H7, H8, H9, H11, H12, H14, H15, H16⟩
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H11]
  · iexists _; isplitr; swap; · iexact H11
    ipureintro; exact HeadsA.runA_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16
  isplitl [H12]
  · iexists _; isplitr; swap; · iexact H12
    ipureintro; exact (congrArg (fun L => arg12.view.read (Elt F) (arg12.view.writes (Elt F) f12 L)) (HeadsA.runA_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16)).trans (read_dq arg12.view f12 _ _)
  isplitl [H14]
  · iexists _; isplitr; swap; · iexact H14
    ipureintro; exact (congrArg (fun L => arg14.view.read (Elt F) (arg14.view.writes (Elt F) f14 L)) (HeadsA.runA_lhs c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16)).trans (read_lhs arg14.view f14 _ _ _)
  isplitl [H15]
  · iexists _; isplitr; swap; · iexact H15
    ipureintro; exact HeadsA.runA_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16
  iexists _; isplitr; swap; · iexact H16
  ipureintro; exact HeadsA.runA_dg c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15 f16

set_option maxHeartbeats 1000000 in
/-- The body at the first column of every later row block: as at the first grid point, the gamma accumulator left alone. -/
theorem runB_spec (c : Dev nD) (i : grid0.Coords) (arg2 : Memref sig .tc .vmem S256x7168 .fp8e5m2) (harg2 : arg2.IsWhole) (arg3 : Memref sig .tc .vmem S256x56 .f32) (harg3 : arg3.IsWhole) (arg4 : Memref sig .tc .vmem S1x7168 .f32) (harg4 : arg4.IsWhole) (arg5 : Memref sig .tc .vmem S1280x7168 .fp8e4m3) (harg5 : arg5.IsWhole) (arg6 : Memref sig .tc .vmem S256x5120 .fp8e4m3) (harg6 : arg6.IsWhole) (arg7 : Memref sig .tc .vmem S256x1 .f32) (harg7 : arg7.IsWhole) (arg8 : Memref sig .tc .vmem S256x1 .f32) (harg8 : arg8.IsWhole) (arg9 : Memref sig .tc .vmem S1x5120 .f32) (harg9 : arg9.IsWhole) (arg10 : Memref sig .tc .vmem S256x5120 .bf16) (harg10 : arg10.IsWhole) (arg11 : Memref sig .tc .vmem S1280x256 .bf16) (harg11 : arg11.IsWhole) (arg12 : Memref sig .tc .vmem S256x7168 .bf16) (harg12 : arg12.IsWhole) (arg13 : Memref sig .tc .vmem S1x5120 .f32) (harg13 : arg13.IsWhole) (arg14 : Memref sig .tc .vmem S256x7168 .bf16) (harg14 : arg14.IsWhole) (arg15 : Memref sig .tc .vmem S256x5120 .f32) (harg15 : arg15.IsWhole) (arg16 : Memref sig .tc .vmem S8x5120 .f32) (harg16 : arg16.IsWhole) (hc1 : ¬ cond1 i) (hc2 : k0_cond2 i = 1#1) (hc3 : ¬ k0_cond3 i = 1#1) (hc4 : ¬ k0_cond4 i = 1#1)
    (q : Vec F S256x7168 .fp8e5m2) (s : Vec F S256x56 .f32) (ws : Vec F S1x7168 .f32) (w : Vec F S1280x7168 .fp8e4m3) (x : Vec F S256x5120 .fp8e4m3) (xs : Vec F S256x1 .f32) (rstd : Vec F S256x1 .f32) (g : Vec F S1x5120 .f32) (a : Vec F S256x5120 .f32) (E : Set ℕ) (K : PUnit → sProp 𝕄) :
    iprop(owns (c : Thread nD τ) arg2 fullShare q ∗ owns (c : Thread nD τ) arg3 fullShare s ∗ owns (c : Thread nD τ) arg4 fullShare ws ∗ owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ (∃ d11, owns (c : Thread nD τ) arg11 fullShare d11) ∗ (∃ d12, owns (c : Thread nD τ) arg12 fullShare d12) ∗ (∃ d14, owns (c : Thread nD τ) arg14 fullShare d14) ∗ owns (c : Thread nD τ) arg15 fullShare a
        ∗ (iprop(owns (c : Thread nD τ) arg2 fullShare q ∗ owns (c : Thread nD τ) arg3 fullShare s ∗ owns (c : Thread nD τ) arg4 fullShare ws ∗ owns (c : Thread nD τ) arg5 fullShare w ∗ owns (c : Thread nD τ) arg6 fullShare x ∗ owns (c : Thread nD τ) arg7 fullShare xs ∗ owns (c : Thread nD τ) arg8 fullShare rstd ∗ owns (c : Thread nD τ) arg9 fullShare g ∗ owns (c : Thread nD τ) arg11 fullShare (XT x xs rstd g (i 1)) ∗ owns (c : Thread nD τ) arg12 fullShare (DQ q s) ∗ owns (c : Thread nD τ) arg14 fullShare (LHS q s ws) ∗ owns (c : Thread nD τ) arg15 fullShare (accPut (i 1) a (accJ (LHS q s ws) w))) -∗ K ⟨⟩))
      ⊢ wp frame (wpE (defs₀ (F := F)) Variants.none (c : Thread nD τ) none) E (cc0_dx_call (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%d11, %f11, -, H11⟩, ⟨%d12, %f12, -, H12⟩, ⟨%d14, %f14, -, H14⟩, ⟨%f15, %h15, H15⟩, Hk⟩
  subst h2 h3 h4 h5 h6 h7 h8 h9 h15
  iapply ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9).2.2.2.2 E K f11 f12 f14 f15)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H14]; · iexact H14
  isplitl [H15]; · iexact H15
  iintro ⟨H2, H3, H4, H5, H6, H7, H8, H9, H11, H12, H14, H15⟩
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H11]
  · iexists _; isplitr; swap; · iexact H11
    ipureintro; exact HeadsB.runB_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15
  isplitl [H12]
  · iexists _; isplitr; swap; · iexact H12
    ipureintro; exact (congrArg (fun L => arg12.view.read (Elt F) (arg12.view.writes (Elt F) f12 L)) (HeadsB.runB_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15)).trans (read_dq arg12.view f12 _ _)
  isplitl [H14]
  · iexists _; isplitr; swap; · iexact H14
    ipureintro; exact (congrArg (fun L => arg14.view.read (Elt F) (arg14.view.writes (Elt F) f14 L)) (HeadsB.runB_lhs c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15)).trans (read_lhs arg14.view f14 _ _ _)
  iexists _; isplitr; swap; · iexact H15
  ipureintro; exact HeadsB.runB_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 X2 X3 X4 X5 X6 X7 X8 X9 f11 f12 f14 f15

end Cert.KernelIdeal
-- ==== Proof.KernelIdeal.Region0.lean ====
module

public import proofs.«01_k».proof.Proof.KernelIdeal.SpecTail
public import proofs.«01_k».proof.Proof.KernelIdeal.SpecHead
public import proofs.«01_k».proof.Proof.Gen.KernelIdeal.Launch
public import proofs.«01_k».proof.Proof.Gen.KernelIdeal.Points
public import Idealize.ShloMosaic.Lib.Pipeline.FrameBody
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # The first region: proof data and body obligation -/

/-- Grid point number `n` of the first region, counted round the grid. -/
def gp (n : ℕ) : Fin cfg0.N := ⟨n % 192, lt_of_lt_of_eq (Nat.mod_lt _ (by decide)) N_0.symm⟩

theorem gp_self (t : Fin cfg0.N) (n : ℕ) (h : n = t.val) : gp n = t := by
  have ht : t.val < 192 := Nat.lt_of_lt_of_eq t.isLt N_0
  apply Fin.ext; show n % 192 = t.val; omega

section
variable (V : Dev nD → Valuation τ sig (Elt F)) (c : Dev nD)

/-- Window `w`'s block at point `t`, read off its array as the region finds it. -/
def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The block of the gradient codes at point `t`. -/
abbrev b_q (t : Fin cfg0.N) : Vec F S256x7168 .fp8e5m2 := iblk0 V c 0 t
/-- The block of the gradient scales at point `t`. -/
abbrev b_s (t : Fin cfg0.N) : Vec F S256x56 .f32 := iblk0 V c 1 t
/-- The block of the weight scales at point `t`. -/
abbrev b_ws (t : Fin cfg0.N) : Vec F S1x7168 .f32 := iblk0 V c 2 t
/-- The block of the weight codes at point `t`. -/
abbrev b_w (t : Fin cfg0.N) : Vec F S1280x7168 .fp8e4m3 := iblk0 V c 3 t
/-- The block of the input codes at point `t`. -/
abbrev b_x (t : Fin cfg0.N) : Vec F S256x5120 .fp8e4m3 := iblk0 V c 4 t
/-- The block of the input scales at point `t`. -/
abbrev b_xs (t : Fin cfg0.N) : Vec F S256x1 .f32 := iblk0 V c 5 t
/-- The block of the reciprocal standard deviations at point `t`. -/
abbrev b_rs (t : Fin cfg0.N) : Vec F S256x1 .f32 := iblk0 V c 6 t
/-- The block of the gammas at point `t`. -/
abbrev b_g (t : Fin cfg0.N) : Vec F S1x5120 .f32 := iblk0 V c 7 t

/-- The left operand of row block `i`. -/
def LHSv (i : ℕ) : Vec F S256x7168 .bf16 := LHS (b_q V c (gp (4 * i))) (b_s V c (gp (4 * i))) (b_ws V c (gp (4 * i)))
/-- The dequantised gradient of row block `i`. -/
def DQv (i : ℕ) : Vec F S256x7168 .bf16 := DQ (b_q V c (gp (4 * i))) (b_s V c (gp (4 * i)))
/-- The product of row block `i`: column block `j` is computed at point `4 i + j`. -/
def ACCv (i : ℕ) : Vec F S256x5120 .f32 := fun y => accJ (LHSv V c i) (b_w V c (gp (4 * i + (jc y).val))) (inj y)
/-- The gamma accumulator after the first `i` row blocks. -/
def DGv : ℕ → Vec F S8x5120 .f32
  | 0 => k0_pay303
  | i + 1 => dgRows (b_x V c (gp (4 * i + 3))) (b_xs V c (gp (4 * i + 3))) (b_rs V c (gp (4 * i + 3))) (ACCv V c i) (DGv i) 4

/-- What the scratch buffers hold before point `n`: the left operand once its row block has begun, the product's columns
    computed so far, the gamma accumulator of the row blocks finished. -/
def inv0 (n : ℕ) (l : Vec F S256x7168 .bf16) (a : Vec F S256x5120 .f32) (g : Vec F S8x5120 .f32) : Prop :=
  (n % 4 ≠ 0 → l = LHSv V c (n / 4)) ∧ (∀ y, (jc y).val < n % 4 → a y = ACCv V c (n / 4) y) ∧ (n ≠ 0 → g = DGv V c (n / 4))

/-- The invariant before point `n`. -/
def Φ0 (n : ℕ) : sProp 𝕄 :=
  iprop(∃ l : Vec F S256x7168 .bf16, ∃ a : Vec F S256x5120 .f32, ∃ g : Vec F S8x5120 .f32, ⌜inv0 V c n l a g⌝
    ∗ owns (c : Thread nD τ) (Memref.whole cc0_scratch0) fullShare l ∗ owns (c : Thread nD τ) (Memref.whole cc0_scratch1) fullShare a
    ∗ owns (c : Thread nD τ) (Memref.whole cc0_scratch2) fullShare g
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The first region's proof data from the valuation `V`. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => DX (b_x V c t) (b_xs V c t) (b_rs V c t) (b_g V c t) (ACCv V c (t.val / 4))
    | ⟨9, _⟩ => XT (b_x V c t) (b_xs V c t) (b_rs V c t) (b_g V c t) (grid0.coords t 1)
    | ⟨10, _⟩ => DQv V c (t.val / 4)
    | ⟨11, _⟩ => k0_pay2 (DGv V c 48)
  Φ t := Φ0 V c t.val
  q _ := fullShare
  owed _ := 0

theorem dat0_A (w : Fin cfg0.W) : (dat0 V c).A w = V c (Pipeline.arrRef spec0 w) := by dsimp only [dat0]
theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = iblk0 V c 3 t := by dsimp only [dat0]
theorem after0_4 (t : Fin cfg0.N) : (dat0 V c).after 4 t = iblk0 V c 4 t := by dsimp only [dat0]
theorem after0_5 (t : Fin cfg0.N) : (dat0 V c).after 5 t = iblk0 V c 5 t := by dsimp only [dat0]
theorem after0_6 (t : Fin cfg0.N) : (dat0 V c).after 6 t = iblk0 V c 6 t := by dsimp only [dat0]
theorem after0_7 (t : Fin cfg0.N) : (dat0 V c).after 7 t = iblk0 V c 7 t := by dsimp only [dat0]
theorem after0_8 (t : Fin cfg0.N) : (dat0 V c).after 8 t = DX (b_x V c t) (b_xs V c t) (b_rs V c t) (b_g V c t) (ACCv V c (t.val / 4)) := by dsimp only [dat0]
theorem after0_9 (t : Fin cfg0.N) : (dat0 V c).after 9 t = XT (b_x V c t) (b_xs V c t) (b_rs V c t) (b_g V c t) (grid0.coords t 1) := by dsimp only [dat0]
theorem after0_10 (t : Fin cfg0.N) : (dat0 V c).after 10 t = DQv V c (t.val / 4) := by dsimp only [dat0]
theorem after0_11 (t : Fin cfg0.N) : (dat0 V c).after 11 t = k0_pay2 (DGv V c 48) := by dsimp only [dat0]

theorem before0_0 (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)
theorem before0_2 (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [dat0_A]; try rfl) t d).trans
    (by unfold Dat.fetched Dat.blockOf iblk0; rw [dat0_A]; try rfl)
theorem before0_3 (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [dat0_A]; try rfl) t d).trans
    (by unfold Dat.fetched Dat.blockOf iblk0; rw [dat0_A]; try rfl)
theorem before0_4 (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [dat0_A]; try rfl) t d).trans
    (by unfold Dat.fetched Dat.blockOf iblk0; rw [dat0_A]; try rfl)
theorem before0_5 (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [dat0_A]; try rfl) t d).trans
    (by unfold Dat.fetched Dat.blockOf iblk0; rw [dat0_A]; try rfl)
theorem before0_6 (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [dat0_A]; try rfl) t d).trans
    (by unfold Dat.fetched Dat.blockOf iblk0; rw [dat0_A]; try rfl)
theorem before0_7 (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [dat0_A]; try rfl) t d).trans
    (by unfold Dat.fetched Dat.blockOf iblk0; rw [dat0_A]; try rfl)

end

/-! ## The conditions in closed form -/

theorem hco0 (t : Fin cfg0.N) : (grid0.coords t 0).val = t.val / 4 := by
  have ht : t.val < 192 := Nat.lt_of_lt_of_eq t.isLt N_0
  have e0 : (grid0.coords t 0).val = t.val / 4 % 48 := Pipeline.Grid.coords_val t 0 (by decide) rfl
  omega
theorem hco1 (t : Fin cfg0.N) : (grid0.coords t 1).val = t.val % 4 := by
  have e1 : (grid0.coords t 1).val = t.val / 1 % 4 := Pipeline.Grid.coords_val t 1 (by decide) rfl
  omega
theorem hcond1 : ∀ t : Fin cfg0.N, cond1 (grid0.coords t) ↔ t.val = 0 := (by decide +kernel : ∀ t : Fin grid0.N, cond1 (grid0.coords t) ↔ t.val = 0)
theorem hcond2 : ∀ t : Fin cfg0.N, k0_cond2 (grid0.coords t) = 1#1 ↔ t.val % 4 = 0 := (by decide +kernel : ∀ t : Fin grid0.N, k0_cond2 (grid0.coords t) = 1#1 ↔ t.val % 4 = 0)
theorem hcond3 : ∀ t : Fin cfg0.N, k0_cond3 (grid0.coords t) = 1#1 ↔ t.val % 4 = 3 := (by decide +kernel : ∀ t : Fin grid0.N, k0_cond3 (grid0.coords t) = 1#1 ↔ t.val % 4 = 3)
theorem hcond4 : ∀ t : Fin cfg0.N, k0_cond4 (grid0.coords t) = 1#1 ↔ t.val = 191 := (by decide +kernel : ∀ t : Fin grid0.N, k0_cond4 (grid0.coords t) = 1#1 ↔ t.val = 191)

theorem idle8 (t : Fin cfg0.N) : cfg0.idle 8 (cfg0.grid.coords t) = !(decide (t.val % 4 = 3)) := by
  show (!(k0_cond3 (grid0.coords t) == 1#1)) = _
  rw [show (k0_cond3 (grid0.coords t) == 1#1) = decide (t.val % 4 = 3) from by rw [beq_eq_decide]; exact decide_eq_decide.mpr (hcond3 t)]
theorem idle10 (t : Fin cfg0.N) : cfg0.idle 10 (cfg0.grid.coords t) = !(decide (t.val % 4 = 0)) := by
  show (!(k0_cond2 (grid0.coords t) == 1#1)) = _
  rw [show (k0_cond2 (grid0.coords t) == 1#1) = decide (t.val % 4 = 0) from by rw [beq_eq_decide]; exact decide_eq_decide.mpr (hcond2 t)]
theorem idle11 (t : Fin cfg0.N) : cfg0.idle 11 (cfg0.grid.coords t) = !(decide (t.val = 191)) := by
  show (!(k0_cond4 (grid0.coords t) == 1#1)) = _
  rw [show (k0_cond4 (grid0.coords t) == 1#1) = decide (t.val = 191) from by rw [beq_eq_decide]; exact decide_eq_decide.mpr (hcond4 t)]

section
variable (V : Dev nD → Valuation τ sig (Elt F)) (c : Dev nD)

/-! ## The output windows after a point -/

theorem leaves_live {w : Fin cfg0.W} {t : Fin cfg0.N} (hi : cfg0.idle w (cfg0.grid.coords t) = false) :
    (dat0 V c).leavesExact w t = owns (c : Thread nD τ) ((cfg0.win w).stage (cfg0.slots t w)) fullShare ((dat0 V c).after w t) := by
  unfold Dat.leavesExact; rw [hi]
theorem leaves_flush {w : Fin cfg0.W} {t : Fin cfg0.N} (hf : (cfg0.win w).flush t = true) :
    (dat0 V c).leavesExact w t = owns (c : Thread nD τ) ((cfg0.win w).stage (cfg0.slots t w)) fullShare ((dat0 V c).after w t) := by
  unfold Dat.leavesExact; rw [hf]; cases cfg0.idle w (cfg0.grid.coords t) <;> rfl

/-- The dequantised block stays in its buffer through its row block. -/
theorem before0_10 (t : Fin cfg0.N) (h : t.val % 4 ≠ 0) (d) : (dat0 V c).before 10 t d = DQv V c (t.val / 4) := by
  obtain ⟨n, hn⟩ := t
  induction n with
  | zero => exact absurd rfl h
  | succ n ih =>
    have hN : n + 1 < 192 := lt_of_lt_of_eq hn (show cfg0.N = 192 from N_0)
    have hfl : (cfg0.win 10).flush ⟨n, Nat.lt_of_succ_lt hn⟩ = false := Bool.eq_false_iff.mpr fun hf => by
      have := (flush0_10 _).mp hf; dsimp only at this h; omega
    rw [Dat.before_of_pos (dat0 V c) 10 ⟨n + 1, hn⟩ (Nat.succ_ne_zero n) (by unfold Window.fetch; rfl) d]
    rw [show (⟨(⟨n + 1, hn⟩ : Fin cfg0.N).val - 1, Nat.lt_of_le_of_lt (Nat.sub_le _ _) (⟨n + 1, hn⟩ : Fin cfg0.N).isLt⟩ : Fin cfg0.N) = ⟨n, Nat.lt_of_succ_lt hn⟩ from rfl]
    rw [hfl]
    unfold Dat.left
    rw [idle10]
    by_cases h0 : n % 4 = 0
    · rw [show (!(decide ((⟨n, Nat.lt_of_succ_lt hn⟩ : Fin cfg0.N).val % 4 = 0))) = false from by simp [h0]]
      show (dat0 V c).kept 10 _ d = _
      have hk : (dat0 V c).kept 10 ⟨n, Nat.lt_of_succ_lt hn⟩ d = (dat0 V c).after 10 ⟨n, Nat.lt_of_succ_lt hn⟩ := rfl
      rw [hk, after0_10]
      congr 1
      show n / 4 = (n + 1) / 4; omega
    · rw [show (!(decide ((⟨n, Nat.lt_of_succ_lt hn⟩ : Fin cfg0.N).val % 4 = 0))) = true from by simp [h0]]
      show (dat0 V c).before 10 ⟨n, Nat.lt_of_succ_lt hn⟩ d = _
      rw [ih (Nat.lt_of_succ_lt hn) h0]
      congr 1
      show n / 4 = (n + 1) / 4; dsimp only at h; omega

/-! ## The scratch buffers across a point -/

theorem acc_step (t : Fin cfg0.N) (a : Vec F S256x5120 .f32) (h : ∀ y, (jc y).val < t.val % 4 → a y = ACCv V c (t.val / 4) y) (y : S256x5120.Idx)
    (hy : (jc y).val < t.val % 4 + 1) :
    accPut (grid0.coords t 1) a (accJ (LHSv V c (t.val / 4)) (b_w V c t)) y = ACCv V c (t.val / 4) y := by
  unfold accPut
  by_cases e : jc y = grid0.coords t 1
  · rw [if_pos e]
    have e' : (jc y).val = t.val % 4 := (congrArg Fin.val e).trans (hco1 t)
    unfold ACCv
    rw [gp_self t (4 * (t.val / 4) + (jc y).val) (by omega)]
  · rw [if_neg e]
    apply h
    have e' : (jc y).val ≠ t.val % 4 := fun h' => e (Fin.ext (h'.trans (hco1 t).symm))
    omega

theorem acc_full (t : Fin cfg0.N) (h3 : t.val % 4 = 3) (a : Vec F S256x5120 .f32) (h : ∀ y, (jc y).val < t.val % 4 → a y = ACCv V c (t.val / 4) y) :
    accPut (grid0.coords t 1) a (accJ (LHSv V c (t.val / 4)) (b_w V c t)) = ACCv V c (t.val / 4) :=
  funext fun y => acc_step V c t a h y (by have := (jc y).isLt; omega)

theorem LHSv_at (t : Fin cfg0.N) (h : t.val % 4 = 0) : LHSv V c (t.val / 4) = LHS (b_q V c t) (b_s V c t) (b_ws V c t) := by
  unfold LHSv; rw [gp_self t (4 * (t.val / 4)) (by omega)]
theorem DQv_at (t : Fin cfg0.N) (h : t.val % 4 = 0) : DQv V c (t.val / 4) = DQ (b_q V c t) (b_s V c t) := by
  unfold DQv; rw [gp_self t (4 * (t.val / 4)) (by omega)]
theorem DGv_at (t : Fin cfg0.N) (h : t.val % 4 = 3) : DGv V c (t.val / 4 + 1) = dgRows (b_x V c t) (b_xs V c t) (b_rs V c t) (ACCv V c (t.val / 4)) (DGv V c (t.val / 4)) 4 := by
  rw [DGv, gp_self t (4 * (t.val / 4) + 3) (by omega)]

end

end Cert.KernelIdeal

end
-- ==== Proof.KernelIdeal.Body0.lean ====
module

public import proofs.«01_k».proof.Proof.KernelIdeal.Region0
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # The first region's body obligation -/

section
variable (V : Dev nD → Valuation τ sig (Elt F)) (c : Dev nD)

/-- What the body is called with at point `t`. -/
def bodyPre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What it returns. -/
def bodyPost0 (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ (dat0 V c).leavesExact 8 t
    ∗ owns (c : Thread nD τ) (st0_9 t) fullShare ((dat0 V c).after 9 t)
    ∗ (dat0 V c).leavesExact 10 t
    ∗ (dat0 V c).leavesExact 11 t)

/-- The invariant before and after a point. -/
theorem Φ0_start (t : Fin cfg0.N) : (dat0 V c).Φ t.castSucc = Φ0 V c t.val := by
  dsimp only [dat0]; exact Pipeline.Dat.Φ_castSucc (fun n _ => Φ0 V c n) t
theorem Φ0_end (t : Fin cfg0.N) : (dat0 V c).Φ t.succ = Φ0 V c (t.val + 1) := by
  dsimp only [dat0]; rfl

set_option maxHeartbeats 1600000 in
/-- The first point. -/
theorem sound0_A (t : Fin cfg0.N) (h0 : t.val = 0) :
    bodyPre0 V c t ⊢ wp frame (wpE (defs₀ (F := F)) Variants.none (c : Thread nD τ) none) Set.univ (bodyAt0 t) (fun _ => bodyPost0 V c t) := by
  have ht : t.val < 192 := Nat.lt_of_lt_of_eq t.isLt N_0
  unfold bodyPre0 bodyPost0 bodyAt0
  simp only [before0_0, before0_1, before0_2, before0_3, before0_4, before0_5, before0_6, before0_7]
  rw [Φ0_start, Φ0_end, show (dat0 V c).owesAt () t.succ = (dat0 V c).owesAt () t.castSucc from rfl,
    after0_0, after0_1, after0_2, after0_3, after0_4, after0_5, after0_6, after0_7, after0_9]
  rw [Dat.leavesExact_idle (dat0 V c) 8 t (by rw [idle8]; simp; omega) (Bool.eq_false_iff.mpr fun h => by have := (flush0_8 _).mp h; omega)]
  rw [leaves_live V c (w := 10) (t := t) (by rw [idle10]; simp; omega), after0_10]
  rw [Dat.leavesExact_idle (dat0 V c) 11 t (by rw [idle11]; simp; omega) (Bool.eq_false_iff.mpr fun h => by have := (flush0_11 _).mp h; omega)]
  rw [DQv_at V c t (by omega)]
  unfold Φ0
  iintro ⟨⟨%l, %a, %g, %hinv, Hl, Ha, Hg, S0, S1, S2, S3, S4, S5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hl, ha, hg⟩ := hinv
  iapply (runA_spec (F := F) c (grid0.coords t) _ _ _ _ _ _ _ _ _ _ _ _ _ _ _ _ _ _ _ _ _ _ _ _ _ _ _ _ _ _ ((hcond1 t).mpr (by omega)) ((hcond2 t).mpr (by omega)) (fun h => absurd ((hcond3 t).mp h) (by omega)) (fun h => absurd ((hcond4 t).mp h) (by omega)) (b_q V c t) (b_s V c t) (b_ws V c t) (b_w V c t) (b_x V c t) (b_xs V c t) (b_rs V c t) (b_g V c t) a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  isplitl [Hl]; · iexists _; iexact Hl
  isplitl [Ha]; · iexact Ha
  isplitl [Hg]; · iexists _; iexact Hg
  iintro ⟨H0, H1, H2, H3, H4, H5, H6, H7, H9, H10, Hl, Ha, Hg⟩
  isplitl [Hl Ha Hg S0 S1 S2 S3 S4 S5]
  · iexists _, _, _; isplitr; swap
    · isplitl [Hl]; · iexact Hl
      isplitl [Ha]; · iexact Ha
      isplitl [Hg]; · iexact Hg
      isplitl [S0]; · iexact S0
      isplitl [S1]; · iexact S1
      isplitl [S2]; · iexact S2
      isplitl [S3]; · iexact S3
      isplitl [S4]; · iexact S4
      iexact S5
    ipureintro
    exact ⟨fun _ => by rw [show (t.val + 1) / 4 = t.val / 4 from by omega, LHSv_at V c t (by omega)], fun y hy => by rw [← LHSv_at V c t (by omega), show (t.val + 1) / 4 = t.val / 4 from by omega]; exact acc_step V c t a ha y (by omega), fun _ => by rw [show (t.val + 1) / 4 = 0 from by omega]; rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  iexists _; iexact H11

set_option maxHeartbeats 1600000 in
/-- The first point of a later row block. -/
theorem sound0_B (t : Fin cfg0.N) (h0 : t.val ≠ 0) (h1 : t.val % 4 = 0) :
    bodyPre0 V c t ⊢ wp frame (wpE (defs₀ (F := F)) Variants.none (c : Thread nD τ) none) Set.univ (bodyAt0 t) (fun _ => bodyPost0 V c t) := by
  have ht : t.val < 192 := Nat.lt_of_lt_of_eq t.isLt N_0
  unfold bodyPre0 bodyPost0 bodyAt0
  simp only [before0_0, before0_1, before0_2, before0_3, before0_4, before0_5, before0_6, before0_7]
  rw [Φ0_start, Φ0_end, show (dat0 V c).owesAt () t.succ = (dat0 V c).owesAt () t.castSucc from rfl,
    after0_0, after0_1, after0_2, after0_3, after0_4, after0_5, after0_6, after0_7, after0_9]
  rw [Dat.leavesExact_idle (dat0 V c) 8 t (by rw [idle8]; simp; omega) (Bool.eq_false_iff.mpr fun h => by have := (flush0_8 _).mp h; omega)]
  rw [leaves_live V c (w := 10) (t := t) (by rw [idle10]; simp; omega), after0_10]
  rw [Dat.leavesExact_idle (dat0 V c) 11 t (by rw [idle11]; simp; omega) (Bool.eq_false_iff.mpr fun h => by have := (flush0_11 _).mp h; omega)]
  rw [DQv_at V c t (by omega)]
  unfold Φ0
  iintro ⟨⟨%l, %a, %g, %hinv, Hl, Ha, Hg, S0, S1, S2, S3, S4, S5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hl, ha, hg⟩ := hinv
  iapply (runB_spec (F := F) c (grid0.coords t) _ _ _ _ _ _ _ _ _ _ _ _ _ _ _ _ _ _ _ _ _ _ _ _ _ _ _ _ _ _ (fun h => absurd ((hcond1 t).mp h) (by omega)) ((hcond2 t).mpr (by omega)) (fun h => absurd ((hcond3 t).mp h) (by omega)) (fun h => absurd ((hcond4 t).mp h) (by omega)) (b_q V c t) (b_s V c t) (b_ws V c t) (b_w V c t) (b_x V c t) (b_xs V c t) (b_rs V c t) (b_g V c t) a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  isplitl [Hl]; · iexists _; iexact Hl
  isplitl [Ha]; · iexact Ha
  iintro ⟨H0, H1, H2, H3, H4, H5, H6, H7, H9, H10, Hl, Ha⟩
  isplitl [Hl Ha Hg S0 S1 S2 S3 S4 S5]
  · iexists _, _, _; isplitr; swap
    · isplitl [Hl]; · iexact Hl
      isplitl [Ha]; · iexact Ha
      isplitl [Hg]; · iexact Hg
      isplitl [S0]; · iexact S0
      isplitl [S1]; · iexact S1
      isplitl [S2]; · iexact S2
      isplitl [S3]; · iexact S3
      isplitl [S4]; · iexact S4
      iexact S5
    ipureintro
    exact ⟨fun _ => by rw [show (t.val + 1) / 4 = t.val / 4 from by omega, LHSv_at V c t (by omega)], fun y hy => by rw [← LHSv_at V c t (by omega), show (t.val + 1) / 4 = t.val / 4 from by omega]; exact acc_step V c t a ha y (by omega), fun _ => (hg (by omega)).trans (by rw [show (t.val + 1) / 4 = t.val / 4 from by omega])⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  iexists _; iexact H11

set_option maxHeartbeats 1600000 in
/-- A middle point of a row block. -/
theorem sound0_C (t : Fin cfg0.N) (h0 : t.val % 4 ≠ 0) (h1 : t.val % 4 ≠ 3) :
    bodyPre0 V c t ⊢ wp frame (wpE (defs₀ (F := F)) Variants.none (c : Thread nD τ) none) Set.univ (bodyAt0 t) (fun _ => bodyPost0 V c t) := by
  have ht : t.val < 192 := Nat.lt_of_lt_of_eq t.isLt N_0
  unfold bodyPre0 bodyPost0 bodyAt0
  simp only [before0_0, before0_1, before0_2, before0_3, before0_4, before0_5, before0_6, before0_7]
  rw [Φ0_start, Φ0_end, show (dat0 V c).owesAt () t.succ = (dat0 V c).owesAt () t.castSucc from rfl,
    after0_0, after0_1, after0_2, after0_3, after0_4, after0_5, after0_6, after0_7, after0_9]
  rw [Dat.leavesExact_idle (dat0 V c) 8 t (by rw [idle8]; simp; omega) (Bool.eq_false_iff.mpr fun h => by have := (flush0_8 _).mp h; omega)]
  rw [Dat.leavesExact_idle (dat0 V c) 10 t (by rw [idle10]; simp; omega) (Bool.eq_false_iff.mpr fun h => by have := (flush0_10 _).mp h; omega)]
  rw [Dat.leavesExact_idle (dat0 V c) 11 t (by rw [idle11]; simp; omega) (Bool.eq_false_iff.mpr fun h => by have := (flush0_11 _).mp h; omega)]
  unfold Φ0
  iintro ⟨⟨%l, %a, %g, %hinv, Hl, Ha, Hg, S0, S1, S2, S3, S4, S5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hl, ha, hg⟩ := hinv
  obtain rfl := hl (by omega)
  iapply (runC_spec (F := F) c (grid0.coords t) _ _ _ _ _ _ _ _ _ _ _ _ _ _ _ _ _ _ _ _ _ _ _ _ _ _ _ _ _ _ (fun h => absurd ((hcond1 t).mp h) (by omega)) (fun h => absurd ((hcond2 t).mp h) (by omega)) (fun h => absurd ((hcond3 t).mp h) (by omega)) (fun h => absurd ((hcond4 t).mp h) (by omega)) (b_w V c t) (b_x V c t) (b_xs V c t) (b_rs V c t) (b_g V c t) (LHSv V c (t.val / 4)) a Set.univ _)
  isplitl [H3]; · iexact H3
  isplitl [H4]; · iexact H4
  isplitl [H5]; · iexact H5
  isplitl [H6]; · iexact H6
  isplitl [H7]; · iexact H7
  isplitl [Hl]; · iexact Hl
  isplitl [H9]; · iexists _; iexact H9
  isplitl [Ha]; · iexact Ha
  iintro ⟨H3, H4, H5, H6, H7, Hl, H9, Ha⟩
  isplitl [Hl Ha Hg S0 S1 S2 S3 S4 S5]
  · iexists _, _, _; isplitr; swap
    · isplitl [Hl]; · iexact Hl
      isplitl [Ha]; · iexact Ha
      isplitl [Hg]; · iexact Hg
      isplitl [S0]; · iexact S0
      isplitl [S1]; · iexact S1
      isplitl [S2]; · iexact S2
      isplitl [S3]; · iexact S3
      isplitl [S4]; · iexact S4
      iexact S5
    ipureintro
    exact ⟨fun _ => by rw [show (t.val + 1) / 4 = t.val / 4 from by omega], fun y hy => (acc_step V c t a ha y (by omega)).trans (by rw [show (t.val + 1) / 4 = t.val / 4 from by omega]), fun _ => (hg (by omega)).trans (by rw [show (t.val + 1) / 4 = t.val / 4 from by omega])⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  iexists _; iexact H11

set_option maxHeartbeats 1600000 in
/-- The last point of a row block but the last. -/
theorem sound0_D (t : Fin cfg0.N) (h0 : t.val % 4 = 3) (h1 : t.val ≠ 191) :
    bodyPre0 V c t ⊢ wp frame (wpE (defs₀ (F := F)) Variants.none (c : Thread nD τ) none) Set.univ (bodyAt0 t) (fun _ => bodyPost0 V c t) := by
  have ht : t.val < 192 := Nat.lt_of_lt_of_eq t.isLt N_0
  unfold bodyPre0 bodyPost0 bodyAt0
  simp only [before0_0, before0_1, before0_2, before0_3, before0_4, before0_5, before0_6, before0_7]
  rw [Φ0_start, Φ0_end, show (dat0 V c).owesAt () t.succ = (dat0 V c).owesAt () t.castSucc from rfl,
    after0_0, after0_1, after0_2, after0_3, after0_4, after0_5, after0_6, after0_7, after0_9]
  rw [leaves_live V c (w := 8) (t := t) (by rw [idle8]; simp; omega), after0_8]
  rw [leaves_flush V c (w := 10) (t := t) ((flush0_10 t).mpr (by omega)), after0_10]
  rw [Dat.leavesExact_idle (dat0 V c) 11 t (by rw [idle11]; simp; omega) (Bool.eq_false_iff.mpr fun h => by have := (flush0_11 _).mp h; omega)]
  unfold Φ0
  iintro ⟨⟨%l, %a, %g, %hinv, Hl, Ha, Hg, S0, S1, S2, S3, S4, S5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hl, ha, hg⟩ := hinv
  obtain rfl := hl (by omega)
  obtain rfl := hg (by omega)
  rw [before0_10 V c t (by omega)]
  have hacc := acc_full V c t (by omega) a ha
  iapply (runD_spec (F := F) c (grid0.coords t) _ _ _ _ _ _ _ _ _ _ _ _ _ _ _ _ _ _ _ _ _ _ _ _ _ _ _ _ _ _ (fun h => absurd ((hcond1 t).mp h) (by omega)) (fun h => absurd ((hcond2 t).mp h) (by omega)) ((hcond3 t).mpr (by omega)) (fun h => absurd ((hcond4 t).mp h) (by omega)) (b_w V c t) (b_x V c t) (b_xs V c t) (b_rs V c t) (b_g V c t) (LHSv V c (t.val / 4)) a (DGv V c (t.val / 4)) Set.univ _)
  isplitl [H3]; · iexact H3
  isplitl [H4]; · iexact H4
  isplitl [H5]; · iexact H5
  isplitl [H6]; · iexact H6
  isplitl [H7]; · iexact H7
  isplitl [Hl]; · iexact Hl
  isplitl [H8]; · iexists _; iexact H8
  isplitl [H9]; · iexists _; iexact H9
  isplitl [Ha]; · iexact Ha
  isplitl [Hg]; · iexact Hg
  rw [hacc]
  iintro ⟨H3, H4, H5, H6, H7, Hl, H8, H9, Ha, Hg⟩
  isplitl [Hl Ha Hg S0 S1 S2 S3 S4 S5]
  · iexists _, _, _; isplitr; swap
    · isplitl [Hl]; · iexact Hl
      isplitl [Ha]; · iexact Ha
      isplitl [Hg]; · iexact Hg
      isplitl [S0]; · iexact S0
      isplitl [S1]; · iexact S1
      isplitl [S2]; · iexact S2
      isplitl [S3]; · iexact S3
      isplitl [S4]; · iexact S4
      iexact S5
    ipureintro
    exact ⟨fun h => absurd h (by omega), fun y hy => absurd hy (by omega), fun _ => by rw [show (t.val + 1) / 4 = t.val / 4 + 1 from by omega, DGv_at V c t (by omega)]⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

set_option maxHeartbeats 1600000 in
/-- The last point. -/
theorem sound0_E (t : Fin cfg0.N) (h0 : t.val = 191) :
    bodyPre0 V c t ⊢ wp frame (wpE (defs₀ (F := F)) Variants.none (c : Thread nD τ) none) Set.univ (bodyAt0 t) (fun _ => bodyPost0 V c t) := by
  have ht : t.val < 192 := Nat.lt_of_lt_of_eq t.isLt N_0
  unfold bodyPre0 bodyPost0 bodyAt0
  simp only [before0_0, before0_1, before0_2, before0_3, before0_4, before0_5, before0_6, before0_7]
  rw [Φ0_start, Φ0_end, show (dat0 V c).owesAt () t.succ = (dat0 V c).owesAt () t.castSucc from rfl,
    after0_0, after0_1, after0_2, after0_3, after0_4, after0_5, after0_6, after0_7, after0_9]
  rw [leaves_live V c (w := 8) (t := t) (by rw [idle8]; simp; omega), after0_8]
  rw [leaves_flush V c (w := 10) (t := t) ((flush0_10 t).mpr (by omega)), after0_10]
  rw [leaves_live V c (w := 11) (t := t) (by rw [idle11]; simp; omega), after0_11]
  unfold Φ0
  iintro ⟨⟨%l, %a, %g, %hinv, Hl, Ha, Hg, S0, S1, S2, S3, S4, S5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hl, ha, hg⟩ := hinv
  obtain rfl := hl (by omega)
  obtain rfl := hg (by omega)
  rw [before0_10 V c t (by omega)]
  have hacc := acc_full V c t (by omega) a ha
  have hdg : DGv V c 48 = dgRows (b_x V c t) (b_xs V c t) (b_rs V c t) (ACCv V c (t.val / 4)) (DGv V c (t.val / 4)) 4 := by
    rw [← DGv_at V c t (by omega), h0]
  rw [hdg]
  iapply (runE_spec (F := F) c (grid0.coords t) _ _ _ _ _ _ _ _ _ _ _ _ _ _ _ _ _ _ _ _ _ _ _ _ _ _ _ _ _ _ (fun h => absurd ((hcond1 t).mp h) (by omega)) (fun h => absurd ((hcond2 t).mp h) (by omega)) ((hcond3 t).mpr (by omega)) ((hcond4 t).mpr (by omega)) (b_w V c t) (b_x V c t) (b_xs V c t) (b_rs V c t) (b_g V c t) (LHSv V c (t.val / 4)) a (DGv V c (t.val / 4)) Set.univ _)
  isplitl [H3]; · iexact H3
  isplitl [H4]; · iexact H4
  isplitl [H5]; · iexact H5
  isplitl [H6]; · iexact H6
  isplitl [H7]; · iexact H7
  isplitl [Hl]; · iexact Hl
  isplitl [H8]; · iexists _; iexact H8
  isplitl [H9]; · iexists _; iexact H9
  isplitl [H11]; · iexists _; iexact H11
  isplitl [Ha]; · iexact Ha
  isplitl [Hg]; · iexact Hg
  rw [hacc]
  iintro ⟨H3, H4, H5, H6, H7, Hl, H8, H9, H11, Ha, Hg⟩
  isplitl [Hl Ha Hg S0 S1 S2 S3 S4 S5]
  · iexists _, _, _; isplitr; swap
    · isplitl [Hl]; · iexact Hl
      isplitl [Ha]; · iexact Ha
      isplitl [Hg]; · iexact Hg
      isplitl [S0]; · iexact S0
      isplitl [S1]; · iexact S1
      isplitl [S2]; · iexact S2
      isplitl [S3]; · iexact S3
      isplitl [S4]; · iexact S4
      iexact S5
    ipureintro
    exact ⟨fun h => absurd h (by omega), fun y hy => absurd hy (by omega), fun _ => by rw [show (t.val + 1) / 4 = t.val / 4 + 1 from by omega, DGv_at V c t (by omega)]⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound0 (t : Fin cfg0.N) :
    bodyPre0 V c t ⊢ wp frame (wpE (defs₀ (F := F)) Variants.none (c : Thread nD τ) none) Set.univ (bodyAt0 t) (fun _ => bodyPost0 V c t) := by
  by_cases h0 : t.val = 0
  · exact sound0_A V c t h0
  by_cases h1 : t.val % 4 = 0
  · exact sound0_B V c t h0 h1
  by_cases h3 : t.val % 4 = 3
  · by_cases h4 : t.val = 191
    · exact sound0_E V c t h4
    · exact sound0_D V c t h3 h4
  · exact sound0_C V c t h1 h3

theorem defs₀_row0 (t : Fin cfg0.N) :
    defs₀ (F := F) .tc cfg0.body (cfg0.bodyArgs t (cfg0.slots t)) = bodyAt0 t := by
  unfold defs₀; rw [Defs.onTc_tc]

/-- The first region's body obligation. -/
theorem body_obligation0 : BodyObligation (dat0 (F := F) V c) (defs₀ (F := F)) Variants.none () Set.univ := fun t => by
  rw [bigSep_W0, bigSep_W0, defs₀_row0]
  exact triple_restated (sound0 V c t) rfl .rfl fun _ => .rfl

end

end Cert.KernelIdeal

end
-- ==== Proof.KernelIdeal.Region1.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # The second region: proof data and body obligation -/

/-- The condition of the body's branch: the first slab. -/
abbrev cond5 (i : grid1.Coords) : Prop := (Scalar.cmpi .ne (Scalar.extui (Scalar.cmpi .eq (BitVec.ofNat 32 (i 2).val) 0#32)) 0#32) = 1#1
theorem hcond5 : ∀ t : Fin cfg1.N, cond5 (grid1.coords t) ↔ t.val % 6 = 0 :=
  (by decide +kernel : ∀ t : Fin grid1.N, cond5 (grid1.coords t) ↔ t.val % 6 = 0)
theorem hz2 : (![0, 0] : Fin 2 → Nat) = fun _ => 0 := funext fun a => by fin_cases a <;> rfl

set_option maxHeartbeats 1000000 in
/-- The body at the first slab: what it stores in the result's buffer, with the proof that it runs. -/
noncomputable def dwRunA (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : cond5 i)
    (x : Vec F S1024x2048 .bf16) (y : Vec F S2048x1792 .bf16) :
    { L2 : List (View.Piece (Elt F) S1024x1792 .f32) //
      ∀ (E : Set ℕ) (K : PUnit → sProp 𝕄),
        iprop(owns (c : Thread nD τ) arg3 fullShare x ∗ owns (c : Thread nD τ) arg4 fullShare y ∗ (∃ d, owns (c : Thread nD τ) arg5 fullShare d)
            ∗ (iprop(owns (c : Thread nD τ) arg3 fullShare x ∗ owns (c : Thread nD τ) arg4 fullShare y ∗ (∃ f, arg5.view.loc (c : Thread nD τ) ↦[arg5.view.set]{fullShare} arg5.view.writes (Elt F) f L2)) -∗ K ⟨⟩))
          ⊢ wp frame (wpE (defs₀ (F := F)) Variants.none (c : Thread nD τ) none) E (cc1_dw_call (F := F) i arg3 harg3 arg4 harg4 arg5 harg5) K } := by
  refine ⟨?_, fun E K => ?run⟩
  case run =>
    simp only [cc1_dw_call_eq_skeleton]; unfold cc1_dw_call_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

theorem dwCoverA (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : cond5 i)
    (x : Vec F S1024x2048 .bf16) (y : Vec F S2048x1792 .bf16) (z : S1024x1792.Idx) :
    ∃ pc ∈ (dwRunA c i arg3 harg3 arg4 harg4 arg5 harg5 hc0 x y).1, z ∈ pc.1.set :=
  View.cover_of_tiledL (dwRunA c i arg3 harg3 arg4 harg4 arg5 harg5 hc0 x y).1 S1024x1792.size (by sl_kernel_rfl) z

/-- What it stores, as a term. -/
theorem dwReadA (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : cond5 i)
    (x : Vec F S1024x2048 .bf16) (y : Vec F S2048x1792 .bf16) (f) :
    arg5.view.read (Elt F) (arg5.view.writes (Elt F) f (dwRunA c i arg3 harg3 arg4 harg4 arg5 harg5 hc0 x y).1) = k1_pay2 (k1_pay1 (F := F)) x y := by
  rw [View.read_writes_eq_canon _ _ _ (dwCoverA c i arg3 harg3 arg4 harg4 arg5 harg5 hc0 x y)]
  unfold dwRunA
  dsimp only
  try sl_unfold_words
  rw [View.canon_cons_unit_zero (S := S1024x1792) hz2, View.readCov_unit_zero (S := S1024x1792) _ hz2]
  simp only [View.readAt_eq_ld, harg3.read_unread, harg4.read_unread, harg5.read_unread, View.ld_unit_zero (S := S1024x1792) hz2, View.ld_unit_zero (S := S1024x2048) hz2, View.ld_unit_zero (S := S2048x1792) hz2, shapeCast_self]

set_option maxHeartbeats 1000000 in
/-- The body at a later slab: what it stores in the result's buffer, with the proof that it runs. -/
noncomputable def dwRunB (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : ¬cond5 i)
    (x : Vec F S1024x2048 .bf16) (y : Vec F S2048x1792 .bf16) (xo : Vec F S1024x1792 .f32) :
    { L2 : List (View.Piece (Elt F) S1024x1792 .f32) //
      ∀ (E : Set ℕ) (K : PUnit → sProp 𝕄),
        iprop(owns (c : Thread nD τ) arg3 fullShare x ∗ owns (c : Thread nD τ) arg4 fullShare y ∗ owns (c : Thread nD τ) arg5 fullShare xo
            ∗ (iprop(owns (c : Thread nD τ) arg3 fullShare x ∗ owns (c : Thread nD τ) arg4 fullShare y ∗ (∃ f, arg5.view.loc (c : Thread nD τ) ↦[arg5.view.set]{fullShare} arg5.view.writes (Elt F) f L2)) -∗ K ⟨⟩))
          ⊢ wp frame (wpE (defs₀ (F := F)) Variants.none (c : Thread nD τ) none) E (cc1_dw_call (F := F) i arg3 harg3 arg4 harg4 arg5 harg5) K } := by
  refine ⟨?_, fun E K => ?run⟩
  case run =>
    simp only [cc1_dw_call_eq_skeleton]; unfold cc1_dw_call_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

theorem dwCoverB (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : ¬cond5 i)
    (x : Vec F S1024x2048 .bf16) (y : Vec F S2048x1792 .bf16) (xo : Vec F S1024x1792 .f32) (z : S1024x1792.Idx) :
    ∃ pc ∈ (dwRunB c i arg3 harg3 arg4 harg4 arg5 harg5 hc0 x y xo).1, z ∈ pc.1.set :=
  View.cover_of_tiledL (dwRunB c i arg3 harg3 arg4 harg4 arg5 harg5 hc0 x y xo).1 S1024x1792.size (by sl_kernel_rfl) z

/-- What it stores, as a term. -/
theorem dwReadB (c : Dev nD) (i : grid1.Coords) (arg3 : Memref sig .tc .vmem S1024x2048 .bf16) (harg3 : arg3.IsWhole) (arg4 : Memref sig .tc .vmem S2048x1792 .bf16) (harg4 : arg4.IsWhole) (arg5 : Memref sig .tc .vmem S1024x1792 .f32) (harg5 : arg5.IsWhole) (hc0 : ¬cond5 i)
    (x : Vec F S1024x2048 .bf16) (y : Vec F S2048x1792 .bf16) (xo : Vec F S1024x1792 .f32) (f) :
    arg5.view.read (Elt F) (arg5.view.writes (Elt F) f (dwRunB c i arg3 harg3 arg4 harg4 arg5 harg5 hc0 x y xo).1) = k1_pay2 xo x y := by
  rw [View.read_writes_eq_canon _ _ _ (dwCoverB c i arg3 harg3 arg4 harg4 arg5 harg5 hc0 x y xo)]
  unfold dwRunB
  dsimp only
  try sl_unfold_words
  rw [View.canon_unit_zero hz2]
  simp only [View.readAt_eq_ld, harg3.read_unread, harg4.read_unread, harg5.read_unread, View.ld_unit_zero (S := S1024x1792) hz2, View.ld_unit_zero (S := S1024x2048) hz2, View.ld_unit_zero (S := S2048x1792) hz2, shapeCast_self]

/-- Grid point number `n` of the second region, counted round the grid. -/
def gp1 (n : ℕ) : Fin cfg1.N := ⟨n % 120, lt_of_lt_of_eq (Nat.mod_lt _ (by decide)) N_1.symm⟩
theorem gp1_self (t : Fin cfg1.N) (n : ℕ) (h : n = t.val) : gp1 n = t := by
  have ht : t.val < 120 := Nat.lt_of_lt_of_eq t.isLt N_1
  apply Fin.ext; show n % 120 = t.val; omega

section
variable (V : Dev nD → Valuation τ sig (Elt F)) (c : Dev nD)

/-- Window `w`'s block at point `t`, read off its array as the region finds it. -/
def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The block of the transposed input at point `t`. -/
abbrev b_xt (t : Fin cfg1.N) : Vec F S1024x2048 .bf16 := iblk1 V c 0 t
/-- The block of the dequantised gradient at point `t`. -/
abbrev b_dq (t : Fin cfg1.N) : Vec F S2048x1792 .bf16 := iblk1 V c 1 t

/-- The result block number `r` after its slabs `0 … s`. -/
def DWv (r : ℕ) : ℕ → Vec F S1024x1792 .f32
  | 0 => k1_pay2 (k1_pay1 (F := F)) (b_xt V c (gp1 (6 * r))) (b_dq V c (gp1 (6 * r)))
  | s + 1 => k1_pay2 (DWv r s) (b_xt V c (gp1 (6 * r + (s + 1)))) (b_dq V c (gp1 (6 * r + (s + 1))))

theorem DWv_zero (t : Fin cfg1.N) (h : t.val % 6 = 0) : DWv V c (t.val / 6) (t.val % 6) = k1_pay2 (k1_pay1 (F := F)) (b_xt V c t) (b_dq V c t) := by
  rw [h, DWv, gp1_self t (6 * (t.val / 6)) (by omega)]
theorem DWv_succ (t : Fin cfg1.N) (h : t.val % 6 ≠ 0) :
    DWv V c (t.val / 6) (t.val % 6) = k1_pay2 (DWv V c ((t.val - 1) / 6) ((t.val - 1) % 6)) (b_xt V c t) (b_dq V c t) := by
  rw [show t.val % 6 = (t.val - 1) % 6 + 1 from by omega, DWv, show (t.val - 1) / 6 = t.val / 6 from by omega,
    gp1_self t (6 * (t.val / 6) + ((t.val - 1) % 6 + 1)) (by omega)]

/-- The second region's proof data from the valuation `V`. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => DWv V c (t.val / 6) (t.val % 6)
  Φ _ := Pipeline.scopedRest spec1 c
  q _ := fullShare
  owed _ := 0

theorem dat1_A (w : Fin cfg1.W) : (dat1 V c).A w = V c (Pipeline.arrRef spec1 w) := by dsimp only [dat1]
theorem after1_0 (t : Fin cfg1.N) : (dat1 V c).after 0 t = iblk1 V c 0 t := by dsimp only [dat1]
theorem after1_1 (t : Fin cfg1.N) : (dat1 V c).after 1 t = iblk1 V c 1 t := by dsimp only [dat1]
theorem after1_2 (t : Fin cfg1.N) : (dat1 V c).after 2 t = DWv V c (t.val / 6) (t.val % 6) := by dsimp only [dat1]
theorem before1_0 (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (t : Fin cfg1.N) (h0 : ¬t.val % 6 = 0) (d) : (dat1 V c).before 2 t d = DWv V c ((t.val - 1) / 6) ((t.val - 1) % 6) := by
  have hN : t.val < 120 := lt_of_lt_of_eq t.isLt (show cfg1.N = 120 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, and what it returns. -/
def bodyPre1 (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point. -/
theorem sound1 (t : Fin cfg1.N) :
    bodyPre1 V c t ⊢ wp frame (wpE (defs₀ (F := F)) Variants.none (c : Thread nD τ) none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 6 = 0
  · rw [DWv_zero V c t h0]
    iintro ⟨HΦ, Ho, ⟨%d0, H0⟩, ⟨%d1, H1⟩, ⟨%d2, H2⟩⟩
    iapply ((dwRunA (F := F) c (grid1.coords t) _ _ _ _ _ _ ((hcond5 t).mpr h0) (b_xt V c t) (b_dq V c t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact dwReadA c _ _ _ _ _ _ _ _ _ _ _
  · rw [DWv_succ V c t h0]
    simp only [before1_2 V c t h0]
    iintro ⟨HΦ, Ho, ⟨%d0, H0⟩, ⟨%d1, H1⟩, ⟨%d2, H2⟩⟩
    iapply ((dwRunB (F := F) c (grid1.coords t) _ _ _ _ _ _ (fun h => h0 ((hcond5 t).mp h)) (b_xt V c t) (b_dq V c t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact dwReadB c _ _ _ _ _ _ _ _ _ _ _ _

theorem defs₀_row1 (t : Fin cfg1.N) :
    defs₀ (F := F) .tc cfg1.body (cfg1.bodyArgs t (cfg1.slots t)) = bodyAt1 t := by
  unfold defs₀; rw [Defs.onTc_tc]

/-- The second region's body obligation. -/
theorem body_obligation1 : BodyObligation (dat1 (F := F) V c) (defs₀ (F := F)) Variants.none () Set.univ := fun t => by
  rw [bigSep_W1, bigSep_W1, defs₀_row1]
  exact triple_restated (sound1 V c t) rfl .rfl fun _ => .rfl

end

end Cert.KernelIdeal

end
-- ==== Proof.KernelIdeal.Run.lean ====
module

public import proofs.«01_k».proof.Proof.KernelIdeal.Body0
public import proofs.«01_k».proof.Proof.KernelIdeal.Region1
public import proofs.«01_k».proof.Proof.Gen.KernelIdeal.Regions
public import Idealize.ShloMosaic.Lib.Pipeline.FrameTail
public import Idealize.ShloMosaic.Lib.Pipeline.RegionArraysS
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # The whole program: its host stretches and its two regions one after the other -/

open Idealize.ShloMosaic.Pipeline (Seg HostSeg RegionSeg afterRegion)

variable (m : (ℓ : Loc nD τ sig) → Buf (Elt F) ℓ)

/-- The first region's proof data at the contents the first host stretch leaves. -/
abbrev D0 (c : Dev nD) : Dat τ (Elt F) Unit ℕ (UR sig nD τ) ℕ cfg0 c := dat0 (V1 m) c
/-- The contents after the first region. -/
def W2 (c : Dev nD) : Valuation τ sig (Elt F) := afterRegion (D0 m c) (V1 m c)
/-- The second region's proof data at those contents. -/
abbrev D1 (c : Dev nD) : Dat τ (Elt F) Unit ℕ (UR sig nD τ) ℕ cfg1 c := dat1 (W2 m) c
/-- The contents after the second region. -/
def W3 (c : Dev nD) : Valuation τ sig (Elt F) := afterRegion (D1 m c) (W2 m c)
/-- The contents at the end. -/
def W4 (c : Dev nD) : Valuation τ sig (Elt F) := StableHlo.after hostOps2 (W3 m c)

/-- The proof data of both regions. -/
def pdats : (p : Fin 2) → (c : Dev nD) → Dat τ (Elt F) Unit ℕ (UR sig nD τ) ℕ (cfgs p) c
  | ⟨0, _⟩ => fun c => D0 m c
  | ⟨1, _⟩ => fun c => D1 m c

/-- Nothing is assigned a level. -/
abbrev Lv : GSem nD τ sig → Finset Unit := fun _ => ∅
abbrev lv : GSem nD τ sig → Unit → ℕ := fun _ _ => 0
/-- What rides along: the core owes nothing. -/
abbrev Ow : Fin 3 → Dev nD → sProp 𝕄 := fun _ c => iprop(∃ W, owes (c : Thread nD τ) (0 : CellTallies nD τ sig Unit) W)

theorem Φ0_in (V : Dev nD → Valuation τ sig (Elt F)) (c : Dev nD) :
    (Pipeline.scopedRest (Ix := Unit) (Name := ℕ) (U := UR sig nD τ) (Lvl := ℕ) (Val := Elt F) spec0 c : sProp 𝕄) ⊢ Φ0 V c 0 := by
  rw [scopedRest0_eq]; unfold Φ0
  simp only [owns_whole_eq]
  iintro ⟨⟨%l, Hl⟩, ⟨%a, Ha⟩, ⟨%g, Hg⟩, HS⟩
  iexists l; iexists a; iexists g
  isplitr
  · ipureintro; unfold inv0; simp
  isplitl [Hl]; · iexists l; isplitr; swap; (· iexact Hl); ipureintro; rfl
  isplitl [Ha]; · iexists a; isplitr; swap; (· iexact Ha); ipureintro; rfl
  isplitl [Hg]; · iexists g; isplitr; swap; (· iexact Hg); ipureintro; rfl
  iexact HS

theorem Φ0_out (V : Dev nD → Valuation τ sig (Elt F)) (c : Dev nD) (n : ℕ) :
    Φ0 V c n ⊢ (Pipeline.scopedRest (Ix := Unit) (Name := ℕ) (U := UR sig nD τ) (Lvl := ℕ) (Val := Elt F) spec0 c : sProp 𝕄) := by
  rw [scopedRest0_eq]; unfold Φ0
  simp only [owns_whole_eq]
  iintro ⟨%l, %a, %g, -, ⟨%fl, -, Hl⟩, ⟨%fa, -, Ha⟩, ⟨%fg, -, Hg⟩, HS⟩
  isplitl [Hl]; · iexists _; iexact Hl
  isplitl [Ha]; · iexists _; iexact Ha
  isplitl [Hg]; · iexists _; iexact Hg
  iexact HS

set_option backward.isDefEq.respectTransparency.types false in
set_option maxHeartbeats 1600000 in
/-- Region 0 over every unscoped buffer. -/
def reg0 : RegionSeg (pcfgs (F := F)) adm (pdats m) () defs₀ Variants.none Lv lv 0 where
  win := winFacts0.to₀
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ Lv lv 0 fun _ _ => rfl
  pre c := iprop(StableHlo.held (c : Thread nD τ) (Pipeline.ucRefs τ sig) (V1 m c) ∗ ∃ W, owes (c : Thread nD τ) (0 : CellTallies nD τ sig Unit) W)
  post c := iprop(StableHlo.held (c : Thread nD τ) (Pipeline.ucRefs τ sig) (W2 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none, ← Pipeline.unscopedBufs_held c (V1 m c)]
    have hsplit := Pipeline.arrays_of_unscopedBufs (p := 0) (pcfgs (F := F)) adm (pdats m) winFacts0 arr_whole0 c
      ((pdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Φ0 (V1 m) c 0 from rfl]
    iintro ⟨-, -, Hr⟩; iapply (Φ0_in (V1 m) c); iexact Hr
  hout c := by
    rw [Pipeline.ownSems0_none, show (pdats m 0 c).Φ (Fin.last _) = Φ0 (V1 m) c cfg0.N from rfl]
    iintro Hr
    isplitr; · iempintro
    isplitr; · iempintro
    iapply (Φ0_out (V1 m) c _); iexact Hr
  hexit c := by
    rw [← Pipeline.unscopedBufs_held c (W2 m c)]
    have hjoin := Pipeline.unscopedBufs_of_arrays (p := 0) (pcfgs (F := F)) adm (Ix := Unit) (Name := ℕ) (U := UR sig nD τ) (Lvl := ℕ) winFacts0 arr_whole0 c
      (pdats m) ((pdats m 0 c).share_full fun _ => rfl) (fun b => V1 m c b) (fun b => W2 m c b) ((pdats m 0 c).arrAt · cfg0.N)
      (fun w => (Pipeline.afterRegion_arr (D0 m c) (V1 m c) winFacts0.arr_inj w).symm)
      (fun b hb => Pipeline.afterRegion_of_not_arr (D0 m c) (V1 m c) fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
set_option maxHeartbeats 1600000 in
/-- Region 1 over every unscoped buffer. -/
def reg1 : RegionSeg (pcfgs (F := F)) adm (pdats m) () defs₀ Variants.none Lv lv 1 where
  win := winFacts1.to₀
  block_pos := block_pos1
  stage_whole := stage_whole1
  K := PEmpty
  osem k := k.elim
  ho := Pipeline.OwnSemFacts.none _
  hbody c := (body_obligation1 (W2 m) c).loose
  hwaits := Pipeline.hwaits_of_owed_zero _ _ _ _ Lv lv 1 fun _ _ => rfl
  pre c := iprop(StableHlo.held (c : Thread nD τ) (Pipeline.ucRefs τ sig) (W2 m c) ∗ ∃ W, owes (c : Thread nD τ) (0 : CellTallies nD τ sig Unit) W)
  post c := iprop(StableHlo.held (c : Thread nD τ) (Pipeline.ucRefs τ sig) (W3 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (fun b => W2 m c b)
  hentry c := by
    rw [Pipeline.ownSems0_none, ← Pipeline.unscopedBufs_held c (W2 m c)]
    have hsplit := Pipeline.arrays_of_unscopedBufs (p := 1) (pcfgs (F := F)) adm (pdats m) winFacts1 arr_whole1 c
      ((pdats m 1 c).share_full fun _ => rfl) (fun b => W2 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest spec1 c from rfl]
    iintro ⟨-, -, Hr⟩; iexact Hr
  hout c := by
    rw [Pipeline.ownSems0_none, show (pdats m 1 c).Φ (Fin.last _) = Pipeline.scopedRest spec1 c from rfl]
    iintro Hr
    isplitr; · iempintro
    isplitr; · iempintro
    iexact Hr
  hexit c := by
    rw [← Pipeline.unscopedBufs_held c (W3 m c)]
    have hjoin := Pipeline.unscopedBufs_of_arrays (p := 1) (pcfgs (F := F)) adm (Ix := Unit) (Name := ℕ) (U := UR sig nD τ) (Lvl := ℕ) winFacts1 arr_whole1 c
      (pdats m) ((pdats m 1 c).share_full fun _ => rfl) (fun b => W2 m c b) (fun b => W3 m c b) ((pdats m 1 c).arrAt · cfg1.N)
      (fun w => (Pipeline.afterRegion_arr (D1 m c) (W2 m c) winFacts1.arr_inj w).symm)
      (fun b hb => Pipeline.afterRegion_of_not_arr (D1 m c) (W2 m c) fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The last host stretch. -/
def segE : HostSeg (Ix := Unit) (Name := ℕ) (U := UR sig nD τ) (Lvl := ℕ) (pcfgs (F := F)) defs₀ Variants.none Lv lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) (Ow 2)

/-- The program's items on one core. -/
abbrev segsAll : List (Seg (pcfgs (F := F)) adm (pdats m) () defs₀ Variants.none Lv lv) :=
  [.host (seg0 m Variants.none Lv lv Ow), .region (reg0 m), .region (reg1 m), .host (segE m)]

set_option backward.isDefEq.respectTransparency.types false in
set_option maxHeartbeats 1600000 in
/-- THE RUN. Every weakly fair execution from memory `m` and counters at zero terminates, with every unscoped buffer at
    the contents `W4 m` and every counter at zero. -/
theorem run_all (ρ : Dev nD → PrngReg) :
    θ_run defs (onTc (τ := τ) (main (F := F))) ⟨m, fun _ => 0, ρ⟩ (fun r => (∀ c : Dev nD, ∀ b : Ref sig .tc,
      (Proc.devRef (τ := τ) .tc b).isScoped = false → r.2.mem ((c.tc : Thread nD τ).loc b) = W4 m c b) ∧ r.2.sem = fun _ => 0) := by
  refine Pipeline.θ_run_regions_kit_dev_sems (pcfgs (F := F)) adm (pdats m) () cellOf_inj emb₁ defs₀ Variants.none Lv lv m ρ main
    (fun _ => segsAll m)
    (fun c Q => by
      rewrite [main_chain c, Seg.run_eq_chain,
        show (segsAll m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segsAll, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ow 0 c))
    (Tₙ := fun c => StableHlo.held (c : Thread nD τ) (Pipeline.ucRefs τ sig) (W4 m c))
    (hch := fun c => ⟨.rfl, .rfl, .rfl, .rfl, .rfl⟩)
    (hinit := ?_) (QY := fun c s => ∀ b : Ref sig .tc, (Proc.devRef (τ := τ) .tc b).isScoped = false → s.mem ((c.tc : Thread nD τ).loc b) = W4 m c b)
    (hfin := fun c s' => ?_) (hQ := fun _ h hz => ⟨h, funext fun g => hz g (.inr (regions_no_unscoped g.2))⟩)
  · refine Pipeline.initEach _ _ fun c => ?_
    rw [Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists _; iexact HO
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by rw [hb]; decide⟩)
    · iexact HSI

end Cert.KernelIdeal

end
-- ==== Proof.KernelIdeal.Args.lean ====
module

public import proofs.«01_k».proof.Proof.KernelIdeal.Run
public import Idealize.ShloMosaic.Lib.ValueIdx
public import Idealize.ShloMosaic.Lib.ValueIdxCoords
public import Idealize.ShloMosaic.Lib.Pipeline.Value

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # What the program leaves in the buffers it was given -/

variable (m : (ℓ : Loc nD τ sig) → Buf (Elt F) ℓ)

/-- A buffer no host operation and no region writes keeps its contents. -/
theorem W4_kept (c : Dev nD) (r : Ref sig .tc) (h4 : r ∉ hostOps2_W) (h3 : ∀ w, Pipeline.arrRef cfg1.spec w = r → (cfg1.win w).isOut = false)
    (h2 : ∀ w, Pipeline.arrRef cfg0.spec w = r → (cfg0.win w).isOut = false) (h1 : r ∉ hostOps0_W) :
    W4 m c (Proc.devRef .tc r) = m ((c : Thread nD τ).loc r) := by
  refine (StableHlo.after_of_writes_sub hostOps2 _ hostOps2_writes h4).trans ?_
  refine (Pipeline.afterRegion_keeps (D1 m c) (W2 m c) winFacts1.arr_inj (fun w => dat1_A (W2 m) c w) r h3).trans ?_
  refine (Pipeline.afterRegion_keeps (D0 m c) (V1 m c) winFacts0.arr_inj (fun w => dat0_A (V1 m) c w) r h2).trans ?_
  exact (V1_of m c r h1).trans rfl

theorem W4_arg0 (c : Dev nD) : W4 m c main_arg0 = m ((c : Thread nD τ).loc main_arg0) :=
  W4_kept m c main_arg0 (by decide) (by decide) (by decide) (by decide)
theorem W4_arg1 (c : Dev nD) : W4 m c main_arg1 = m ((c : Thread nD τ).loc main_arg1) :=
  W4_kept m c main_arg1 (by decide) (by decide) (by decide) (by decide)
theorem W4_arg2 (c : Dev nD) : W4 m c main_arg2 = m ((c : Thread nD τ).loc main_arg2) :=
  W4_kept m c main_arg2 (by decide) (by decide) (by decide) (by decide)
theorem W4_arg3 (c : Dev nD) : W4 m c main_arg3 = m ((c : Thread nD τ).loc main_arg3) :=
  W4_kept m c main_arg3 (by decide) (by decide) (by decide) (by decide)
theorem W4_arg4 (c : Dev nD) : W4 m c main_arg4 = m ((c : Thread nD τ).loc main_arg4) :=
  W4_kept m c main_arg4 (by decide) (by decide) (by decide) (by decide)
theorem W4_arg5 (c : Dev nD) : W4 m c main_arg5 = m ((c : Thread nD τ).loc main_arg5) :=
  W4_kept m c main_arg5 (by decide) (by decide) (by decide) (by decide)
theorem W4_arg6 (c : Dev nD) : W4 m c main_arg6 = m ((c : Thread nD τ).loc main_arg6) :=
  W4_kept m c main_arg6 (by decide) (by decide) (by decide) (by decide)
theorem W4_arg7 (c : Dev nD) : W4 m c main_arg7 = m ((c : Thread nD τ).loc main_arg7) :=
  W4_kept m c main_arg7 (by decide) (by decide) (by decide) (by decide)

/-- The program terminates with its arguments as it found them and every counter at zero. -/
theorem run_args (ρ : Dev nD → PrngReg) :
    θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run defs _ _).mono (fun r h => ⟨fun c => ⟨(h.1 c main_arg0 rfl).trans (W4_arg0 m c), (h.1 c main_arg1 rfl).trans (W4_arg1 m c), (h.1 c main_arg2 rfl).trans (W4_arg2 m c), (h.1 c main_arg3 rfl).trans (W4_arg3 m c), (h.1 c main_arg4 rfl).trans (W4_arg4 m c), (h.1 c main_arg5 rfl).trans (W4_arg5 m c), (h.1 c main_arg6 rfl).trans (W4_arg6 m c), (h.1 c main_arg7 rfl).trans (W4_arg7 m c)⟩, h.2⟩) (run_all m ρ)

end Cert.KernelIdeal
-- ==== Proof.Math.Pays.lean ====
module

public import proofs.«01_k».proof.Proof.KernelIdeal.Forms
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pointwise.Reduce
public import Idealize.ShloMosaic.Lib.Pipeline.Value

@[expose] public section

set_option maxRecDepth 65536

noncomputable section

namespace Cert.KM

open Idealize.ShloMosaic hiding ix1 ix2 ix3 ix4 ix5
open Idealize.ShloMosaic.TcCoe Idealize.ShloMosaic.ValueIdx
open Cert.KernelIdeal Cert.KernelIdeal.Gen
open scoped BigOperators

/-! # What the kernel's computed values are over the extended reals, element by element -/

/-! ## Layout -/

/-- A column stretched over the columns of a matrix. -/
theorem bc_col {α : Type} {a b : ℕ} (v : (⟨2, ![a, 1]⟩ : Shape).Idx → α) (h : (⟨2, ![a, 1]⟩ : Shape).Broadcasts ⟨2, ![a, b]⟩) (i : Fin a) (j : Fin b) :
    broadcastTo ⟨2, ![a, b]⟩ v h (ix2 i j) = v (ix2 i 0) := by
  refine broadcastTo_apply v h _ _ fun x => ?_
  have := i.isLt
  match x with
  | ⟨0, _⟩ => show i.val = if a = 1 then 0 else i.val; split_ifs <;> omega
  | ⟨1, _⟩ => rfl

/-- The float zero is the real zero. -/
theorem zero32 : Ideal.ofBits .f32 0x00000000#32 = 0 := by simp [Ideal.ofBits, Ideal.ieee]

/-- `n` runs of `m` summands are the `m * n` summands. -/
theorem runs {M : Type*} [AddCommMonoid M] (m n : ℕ) (f : ℕ → M) :
    ∑ s ∈ Finset.range n, ∑ k ∈ Finset.range m, f (m * s + k) = ∑ k ∈ Finset.range (m * n), f k := by
  induction n with
  | zero => simp
  | succ n ih => rw [Finset.sum_range_succ, ih, Nat.mul_succ, Finset.sum_range_add]

/-! ## The dequantised gradient and the product's left operand -/

theorem pay3_apply (s : S256x1.Idx → EReal) (q : S256x128.Idx → EReal) (a : Fin 256) (l : Fin 128) :
    k0_pay3 (F := Ideal) s q (ix2 a l) = q (ix2 a l) * s (ix2 a 0) := by
  unfold k0_pay3
  simp only [shapeCast_self]
  rw [mulf_apply, bc_col]
  rfl

theorem pay4_apply (s : S256x1.Idx → EReal) (q : S256x128.Idx → EReal) (ws : S1x128.Idx → EReal) (a : Fin 256) (l : Fin 128) :
    k0_pay4 (F := Ideal) s q ws (ix2 a l) = (q (ix2 a l) * s (ix2 a 0)) * ws (ix2 0 l) := by
  unfold k0_pay4
  simp only [shapeCast_self]
  rw [mulf_apply, pay3_apply, broadcastTo_1b_ab_apply]
  rfl

/-- The chunk of 128 columns a column is in. -/
abbrev ch56 (f : Fin 7168) : Fin 56 := ⟨f.val / 128, by have := f.isLt; omega⟩

theorem DQ_apply (q : S256x7168.Idx → EReal) (s : S256x56.Idx → EReal) (a : Fin 256) (f : Fin 7168) :
    DQ (F := Ideal) q s (ix2 a f) = q (ix2 a f) * s (ix2 a (ch56 f)) := by
  have hf := f.isLt
  unfold DQ inh
  refine (pay3_apply _ _ _ _).trans ?_
  refine congrArg₂ (fun u v => q u * s v) ?_ ?_
  · exact emb_hd (ix2 a f)
  · funext x; apply Fin.ext
    match x with
    | ⟨0, _⟩ => show 0 + 1 * a.val = a.val; omega
    | ⟨1, _⟩ => show f.val / 128 + 1 * 0 = f.val / 128; omega

theorem LHS_apply (q : S256x7168.Idx → EReal) (s : S256x56.Idx → EReal) (ws : S1x7168.Idx → EReal) (a : Fin 256) (f : Fin 7168) :
    LHS (F := Ideal) q s ws (ix2 a f) = (q (ix2 a f) * s (ix2 a (ch56 f))) * ws (ix2 0 f) := by
  have hf := f.isLt
  unfold LHS inh
  refine (pay4_apply _ _ _ _ _).trans ?_
  refine congrArg₂ (· * ·) (congrArg₂ (fun u v => q u * s v) ?_ ?_) (congrArg ws ?_)
  · exact emb_hd (ix2 a f)
  · funext x; apply Fin.ext
    match x with
    | ⟨0, _⟩ => show 0 + 1 * a.val = a.val; omega
    | ⟨1, _⟩ => show f.val / 128 + 1 * 0 = f.val / 128; omega
  · funext x; apply Fin.ext
    match x with
    | ⟨0, _⟩ => rfl
    | ⟨1, _⟩ => show 128 * (f.val / 128) + 1 * (f.val % 128) = f.val; omega

/-! ## The products -/

theorem accJ_apply (lhs : S256x7168.Idx → EReal) (w : S1280x7168.Idx → EReal) (a : Fin 256) (e : Fin 1280) :
    accJ (F := Ideal) lhs w (ix2 a e) = ∑ f : Fin 7168, lhs (ix2 a f) * w (ix2 e f) := by
  unfold accJ k0_pay1 k0_pay306
  simp only [shapeCast_self]
  refine (Ideal.matmul_transposedRhs_apply (M := 256) (K := 7168) (N := 1280) (φ₁ := .bf16) (φ₂ := .fp8e4m3) none lhs w _ a e).trans ?_
  rw [constant_apply, zero32, zero_add]

theorem k1_pay2_apply (acc : S1024x1792.Idx → EReal) (x : S1024x2048.Idx → EReal) (y : S2048x1792.Idx → EReal)
    (r : Fin 1024) (q : Fin 1792) :
    k1_pay2 (F := Ideal) acc x y (ix2 r q) = acc (ix2 r q) + ∑ k : Fin 2048, x (ix2 r k) * y (ix2 k q) := by
  unfold k1_pay2
  simp only [shapeCast_self]
  rw [addf_apply]
  refine congrArg (acc (ix2 r q) + ·) ?_
  refine (Ideal.matmul_plain_apply (M := 1024) (K := 2048) (N := 1792) (φ₁ := .bf16) (φ₂ := .bf16) none x y _ r q).trans ?_
  rw [constant_apply, zero32, zero_add]

theorem k1_pay1_apply (i : S1024x1792.Idx) : k1_pay1 (F := Ideal) i = 0 := zero32

/-! ## The rebuilt input, transposed -/

theorem pay305_apply (xs rs : S256x1.Idx → EReal) (x : S256x1280.Idx → EReal) (g : S1x1280.Idx → EReal) (e : Fin 1280) (a : Fin 256) :
    k0_pay305 (F := Ideal) xs rs x g (ix2 e a) = (x (ix2 a e) * (xs (ix2 a 0) * rs (ix2 a 0))) * g (ix2 0 e) := by
  unfold k0_pay305
  simp only [shapeCast_self]
  refine (transpose_ix2_apply _ _ _ _).trans ?_
  rw [truncf_apply, mulf_apply, mulf_apply, bc_col, broadcastTo_1b_ab_apply, mulf_apply, extf_apply]

theorem XT_apply (x : S256x5120.Idx → EReal) (xs rs : S256x1.Idx → EReal) (g : S1x5120.Idx → EReal) (j : Fin 4) (e : Fin 1280) (a : Fin 256)
    (d : Fin 5120) (hd : d.val = 1280 * j.val + e.val) :
    XT (F := Ideal) x xs rs g j (ix2 e a) = (x (ix2 a d) * (xs (ix2 a 0) * rs (ix2 a 0))) * g (ix2 0 d) := by
  unfold XT
  refine (pay305_apply _ _ _ _ _ _).trans ?_
  refine congrArg₂ (fun u v => (x u * (xs (ix2 a 0) * rs (ix2 a 0))) * g v) ?_ ?_
  · funext y; apply Fin.ext
    match y with
    | ⟨0, _⟩ => show 0 + 1 * a.val = a.val; omega
    | ⟨1, _⟩ => show 1280 * j.val + 1 * e.val = d.val; omega
  · funext y; apply Fin.ext
    match y with
    | ⟨0, _⟩ => rfl
    | ⟨1, _⟩ => show 1280 * j.val + 1 * e.val = d.val; omega

/-! ## The sums over a row and down a column -/

section
variable (x : S256x5120.Idx → EReal) (xs rs : S256x1.Idx → EReal) (g : S1x5120.Idx → EReal) (acc : S256x5120.Idx → EReal)

/-- Row `64 k + r`. -/
abbrev row (k : Fin 4) (r : Fin 64) : Fin 256 := ⟨64 * k.val + r.val, by have := k.isLt; have := r.isLt; omega⟩
/-- Column `128 n + l`. -/
abbrev colm (n : Fin 40) (l : Fin 128) : Fin 5120 := ⟨128 * n.val + l.val, by have := n.isLt; have := l.isLt; omega⟩

theorem cB_at (k : Fin 4) (n : Fin 40) (r : Fin 64) (l : Fin 128) : (cB k n).emb (ix2 r l) = ix2 (row k r) (colm n l) := by
  funext y; apply Fin.ext
  match y with
  | ⟨0, _⟩ => show 64 * k.val + 1 * r.val = 64 * k.val + r.val; omega
  | ⟨1, _⟩ => show 128 * n.val + 1 * l.val = 128 * n.val + l.val; omega
theorem rB_at (k : Fin 4) (r : Fin 64) : (rB k).emb (ix2 r 0) = ix2 (row k r) 0 := by
  funext y; apply Fin.ext
  match y with
  | ⟨0, _⟩ => show 64 * k.val + 1 * r.val = 64 * k.val + r.val; omega
  | ⟨1, _⟩ => rfl
theorem gB_at (n : Fin 40) (l : Fin 128) : (gB n).emb (ix2 0 l) = ix2 0 (colm n l) := by
  funext y; apply Fin.ext
  match y with
  | ⟨0, _⟩ => rfl
  | ⟨1, _⟩ => show 128 * n.val + 1 * l.val = 128 * n.val + l.val; omega

theorem ldc (v : S256x5120.Idx → EReal) (k : Fin 4) (n : Fin 40) (r : Fin 64) (l : Fin 128) :
    View.ld (Val := Elt Ideal) (e' := .f32) v (cB k n) (ix2 r l) = v (ix2 (row k r) (colm n l)) := congrArg v (cB_at k n r l)

/-- The normalised input at row `r`, column `d`. -/
def nrm (r : Fin 256) (d : Fin 5120) : EReal := x (ix2 r d) * (xs (ix2 r 0) * rs (ix2 r 0))

theorem rr_apply (k : Fin 4) (r : Fin 64) : rr (F := Ideal) xs rs k (ix2 r 0) = xs (ix2 (row k r) 0) * rs (ix2 (row k r) 0) := by
  unfold rr k0_pay133 k0_pay132
  simp only [shapeCast_self]
  rw [mulf_apply]
  exact congrArg₂ (fun u v => xs u * rs v) (rB_at k r) (rB_at k r)

theorem rst_apply (k : Fin 4) (r : Fin 64) : rst (F := Ideal) rs k (ix2 r 0) = rs (ix2 (row k r) 0) := by
  unfold rst k0_pay132
  simp only [shapeCast_self]
  exact congrArg rs (rB_at k r)

theorem pay159_apply (v : S64x1.Idx → EReal) (xk : S64x128.Idx → EReal) (ak : S64x128.Idx → EReal) (r : Fin 64) (l : Fin 128) :
    k0_pay159 (F := Ideal) v xk ak (ix2 r l) = ak (ix2 r l) * (xk (ix2 r l) * v (ix2 r 0)) := by
  unfold k0_pay159
  simp only [shapeCast_self]
  rw [mulf_apply, mulf_apply, bc_col, extf_apply]

theorem chunk_apply (k : Fin 4) (n : Fin 40) (r : Fin 64) (l : Fin 128) :
    k0_pay159 (F := Ideal) (rr xs rs k) (View.ld x (cB k n)) (View.ld acc (cB k n)) (ix2 r l)
      = acc (ix2 (row k r) (colm n l)) * nrm x xs rs (row k r) (colm n l) := by
  refine (pay159_apply _ _ _ _ _).trans ?_
  rw [rr_apply]
  exact congrArg₂ (fun u v => acc u * (x v * _)) (cB_at k n r l) (cB_at k n r l)

/-- The summand of row `r`'s mean at column `d` (0 past the last column). -/
def mterm (r : Fin 256) (d : ℕ) : EReal :=
  if h : d < 5120 then (acc (ix2 r ⟨d, h⟩) * nrm x xs rs r ⟨d, h⟩) * g (ix2 0 ⟨d, h⟩) else 0

theorem mSum_apply (k : Fin 4) (n : ℕ) (hn : n ≤ 40) (r : Fin 64) (l : Fin 128) :
    mSum (F := Ideal) x xs rs g acc k n (ix2 r l) = ∑ i ∈ Finset.range n, mterm x xs rs g acc (row k r) (128 * i + l.val) := by
  induction n with
  | zero => exact zero32
  | succ n ih =>
    have hl := l.isLt
    rw [mSum, dif_pos (show n < 40 by omega), Finset.sum_range_succ, ← ih (by omega)]
    unfold mStep
    simp only [shapeCast_self]
    rw [addf_apply, mulf_apply, broadcastTo_1b_ab_apply]
    refine congrArg (mSum (F := Ideal) x xs rs g acc k n (ix2 r l) + ·) ?_
    unfold mterm
    rw [dif_pos (show 128 * n + l.val < 5120 by omega)]
    refine congrArg₂ (· * ·) (chunk_apply x xs rs acc k ⟨n, by omega⟩ r l) ?_
    exact congrArg g (gB_at ⟨n, by omega⟩ l)

end

end Cert.KM

end
-- ==== Proof.Math.Sums.lean ====
module

public import proofs.«01_k».proof.Proof.Math.Pays

@[expose] public section

set_option maxRecDepth 65536

noncomputable section

namespace Cert.KM

open Idealize.ShloMosaic hiding ix1 ix2 ix3 ix4 ix5
open Idealize.ShloMosaic.TcCoe Idealize.ShloMosaic.ValueIdx
open Cert.KernelIdeal Cert.KernelIdeal.Gen
open scoped BigOperators

/-! # The kernel's row means, input gradient block and gamma accumulator, element by element -/

section
variable (x : S256x5120.Idx → EReal) (xs rs : S256x1.Idx → EReal) (g : S1x5120.Idx → EReal) (acc : S256x5120.Idx → EReal)

/-- Forty chunks of 128 columns are the 5120 columns. -/
theorem cols {M : Type*} [AddCommMonoid M] (f : ℕ → M) :
    ∑ l : Fin 128, ∑ i ∈ Finset.range 40, f (128 * i + l.val) = ∑ d : Fin 5120, f d.val := by
  rw [Finset.sum_comm, ← Finset.sum_range f, ← runs 128 40 f]
  exact Finset.sum_congr rfl fun i _ => (Finset.sum_range fun l => f (128 * i + l)).symm

/-- The named literal is 1/5120. -/
theorem inv_d : Named.named (F := Ideal) κ "inv_d" (φ := .f32) 0x394CCCCD#32 = ((1 / 5120 : ℝ) : EReal) :=
  IdealRules.named_const.ideal_named_scalar _ _ _ _ rfl

/-- The mean that row `r` subtracts. -/
def rmean (r : Fin 256) : EReal :=
  (∑ d : Fin 5120, (acc (ix2 r d) * nrm x xs rs r d) * g (ix2 0 d)) * ((1 / 5120 : ℝ) : EReal)

theorem mean_apply (k : Fin 4) (r : Fin 64) : mean (F := Ideal) x xs rs g acc k (ix2 r 0) = rmean x xs rs g acc (row k r) := by
  unfold mean k0_pay248 rmean
  rw [mulf_apply]
  refine congrArg₂ (· * ·) ?_ inv_d
  refine (shapeCast_a_a1_apply _ _ _ _).trans ?_
  refine (Ideal.reduceAdd_r2_a1 (n0 := 64) (n1 := 128) _ _ _).trans ?_
  refine (Finset.sum_congr rfl fun l _ => mSum_apply x xs rs g acc k 40 (le_refl _) r l).trans ?_
  rw [cols]
  refine Finset.sum_congr rfl fun d _ => ?_
  unfold mterm
  rw [dif_pos d.isLt]

theorem DX_apply (a : Fin 256) (d : Fin 5120) :
    DX (F := Ideal) x xs rs g acc (ix2 a d)
      = rs (ix2 a 0) * (acc (ix2 a d) * g (ix2 0 d) - nrm x xs rs a d * rmean x xs rs g acc a) := by
  have ha := a.isLt
  have hd := d.isLt
  obtain ⟨k, r, rfl⟩ : ∃ k r, a = row k r := ⟨⟨a.val / 64, by omega⟩, ⟨a.val % 64, by omega⟩, by apply Fin.ext; show a.val = 64 * (a.val / 64) + a.val % 64; omega⟩
  obtain ⟨n, l, rfl⟩ : ∃ n l, d = colm n l := ⟨⟨d.val / 128, by omega⟩, ⟨d.val % 128, by omega⟩, by apply Fin.ext; show d.val = 128 * (d.val / 128) + d.val % 128; omega⟩
  rw [← cB_at k n r l, DX_emb, cB_at]
  unfold dxC k0_pay260
  simp only [shapeCast_self]
  rw [truncf_apply, mulf_apply, subf_apply, mulf_apply, mulf_apply, mulf_apply, bc_col, bc_col, bc_col, broadcastTo_1b_ab_apply, extf_apply, mean_apply, rr_apply, rst_apply]
  refine congrArg (rs (ix2 (row k r) 0) * ·) ?_
  exact congrArg₂ (fun u v => u - v * _) (congrArg₂ (fun u v => acc u * g v) (cB_at k n r l) (gB_at n l)) (congrArg (fun u => x u * _) (cB_at k n r l))

/-! ## The gamma accumulator -/

/-- One row's summand of the gamma gradient (0 past the last row). -/
def gterm (d : Fin 5120) (a : ℕ) : EReal := if h : a < 256 then acc (ix2 ⟨a, h⟩ d) * nrm x xs rs ⟨a, h⟩ d else 0

theorem dB_at (n : Fin 40) (b : Fin 8) (l : Fin 128) : (dB n).emb (ix2 b l) = ix2 b (colm n l) := by
  funext y; apply Fin.ext
  match y with
  | ⟨0, _⟩ => show 0 + 1 * b.val = b.val; omega
  | ⟨1, _⟩ => show 128 * n.val + 1 * l.val = 128 * n.val + l.val; omega

theorem dgTrip_apply (k : Fin 4) (d : S8x5120.Idx → EReal) (b : Fin 8) (q : Fin 5120) :
    dgTrip (F := Ideal) x xs rs acc k d (ix2 b q)
      = d (ix2 b q) + ∑ i ∈ Finset.range 8, gterm x xs rs acc q (64 * k.val + (8 * i + b.val)) := by
  have hq := q.isLt
  have hb := b.isLt
  have hk := k.isLt
  obtain ⟨n, l, rfl⟩ : ∃ n l, q = colm n l := ⟨⟨q.val / 128, by omega⟩, ⟨q.val % 128, by omega⟩, by apply Fin.ext; show q.val = 128 * (q.val / 128) + q.val % 128; omega⟩
  rw [← dB_at n b l, dgTrip_emb, dB_at]
  unfold dgC k0_pay160
  rw [shapeCast_self, addf_apply]
  refine congrArg₂ (· + ·) (congrArg d (dB_at n b l)) ?_
  rw [Finset.sum_range]
  refine (Ideal.reduceAdd_r3_a0 (n0 := 8) (n1 := 8) (n2 := 128) _ _ _).trans ?_
  refine Finset.sum_congr rfl fun i _ => ?_
  have hi := i.isLt
  refine (shapeCast_apply _ _ _ (ix2 (⟨8 * i.val + b.val, by omega⟩ : Fin 64) l) ?_).trans ?_
  · rw [Shape.rowMajor_val_two, Shape.rowMajor_val_three]
    show (8 * i.val + b.val) * 128 + l.val = (i.val * 8 + b.val) * 128 + l.val
    omega
  · rw [chunk_apply]
    unfold gterm
    rw [dif_pos (show 64 * k.val + (8 * i.val + b.val) < 256 by omega)]

theorem dgRows_apply (d : S8x5120.Idx → EReal) (n : ℕ) (hn : n ≤ 4) (b : Fin 8) (q : Fin 5120) :
    dgRows (F := Ideal) x xs rs acc d n (ix2 b q)
      = d (ix2 b q) + ∑ k ∈ Finset.range n, ∑ i ∈ Finset.range 8, gterm x xs rs acc q (64 * k + (8 * i + b.val)) := by
  induction n with
  | zero => simp [dgRows]
  | succ n ih =>
    rw [dgRows, dif_pos (show n < 4 by omega), dgTrip_apply, ih (by omega), Finset.sum_range_succ (n := n)]
    exact add_assoc (G := EReal) _ _ _

/-- The eight partial sums add up to the sum over the 256 rows. -/
theorem rows {M : Type*} [AddCommMonoid M] (f : ℕ → M) :
    ∑ b : Fin 8, ∑ k ∈ Finset.range 4, ∑ i ∈ Finset.range 8, f (64 * k + (8 * i + b.val)) = ∑ a ∈ Finset.range 256, f a := by
  rw [Finset.sum_comm, ← runs 64 4 f]
  refine Finset.sum_congr rfl fun k _ => ?_
  rw [Finset.sum_comm, ← runs 8 8 (fun a => f (64 * k + a))]
  exact Finset.sum_congr rfl fun i _ => (Finset.sum_range fun b => f (64 * k + (8 * i + b))).symm

theorem k0_pay303_apply (i : S8x5120.Idx) : k0_pay303 (F := Ideal) i = 0 := by
  unfold k0_pay303
  rw [shapeCast_self]
  exact zero32

theorem k0_pay2_apply (d : S8x5120.Idx → EReal) (q : Fin 5120) : k0_pay2 (F := Ideal) d (ix2 0 q) = ∑ b : Fin 8, d (ix2 b q) := by
  unfold k0_pay2
  refine (shapeCast_a_1a_apply _ _ _ _).trans ?_
  exact Ideal.reduceAdd_r2_a0 (n0 := 8) (n1 := 5120) _ _ _

end

end Cert.KM

end
-- ==== Proof.Math.Blocks.lean ====
module

public import proofs.«01_k».proof.Proof.Math.Sums
public import proofs.«01_k».proof.Proof.KernelIdeal.Region0
public import proofs.«01_k».proof.Proof.KernelIdeal.Region1
public import Idealize.ShloMosaic.Lib.Pipeline.ValueKit

@[expose] public section

set_option maxRecDepth 65536

noncomputable section

namespace Cert.KM

open Idealize.ShloMosaic hiding ix1 ix2 ix3 ix4 ix5
open Idealize.ShloMosaic.TcCoe Idealize.ShloMosaic.ValueIdx
open Cert.KernelIdeal Cert.KernelIdeal.Gen
open scoped BigOperators

/-! # The blocks the kernel's grid points read, and the whole arrays its two regions leave -/

/-- Which blocks the first region's points read and write: the row block is `t / 4`, the column block `t % 4`. -/
theorem idx0 : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = 0 ∧ win0_2.index t (1 : Fin 2) = 0)
    ∧ (win0_3.index t (0 : Fin 2) = t.val % 4 ∧ win0_3.index t (1 : Fin 2) = 0)
    ∧ (win0_4.index t (0 : Fin 2) = t.val / 4 ∧ win0_4.index t (1 : Fin 2) = 0)
    ∧ (win0_5.index t (0 : Fin 2) = t.val / 4 ∧ win0_5.index t (1 : Fin 2) = 0)
    ∧ (win0_6.index t (0 : Fin 2) = t.val / 4 ∧ win0_6.index t (1 : Fin 2) = 0)
    ∧ (win0_7.index t (0 : Fin 2) = 0 ∧ win0_7.index t (1 : Fin 2) = 0)
    ∧ (win0_8.index t (0 : Fin 2) = t.val / 4 ∧ win0_8.index t (1 : Fin 2) = 0)
    ∧ (win0_9.index t (0 : Fin 2) = t.val % 4 ∧ win0_9.index t (1 : Fin 2) = t.val / 4)
    ∧ (win0_10.index t (0 : Fin 2) = t.val / 4 ∧ win0_10.index t (1 : Fin 2) = 0)
    ∧ (win0_11.index t (0 : Fin 2) = 0 ∧ win0_11.index t (1 : Fin 2) = 0) :=
  (by decide +kernel : ∀ t : Fin grid0.N, _)

/-- Which blocks the second region's points read and write. -/
theorem idx1 : ∀ t : Fin cfg1.N,
    (win1_0.index t (0 : Fin 2) = t.val / 24 ∧ win1_0.index t (1 : Fin 2) = t.val % 6)
    ∧ (win1_1.index t (0 : Fin 2) = t.val % 6 ∧ win1_1.index t (1 : Fin 2) = t.val / 6 % 4)
    ∧ (win1_2.index t (0 : Fin 2) = t.val / 24 ∧ win1_2.index t (1 : Fin 2) = t.val / 6 % 4) :=
  (by decide +kernel : ∀ t : Fin grid1.N, _)

section
variable (V : Dev nD → Valuation τ sig (Elt Ideal)) (c : Dev nD)

/-- The gradient codes as the first region finds them. -/
abbrev aq : S12288x7168.Idx → EReal := V c main_v1
/-- The gradient scales. -/
abbrev as_ : S12288x56.Idx → EReal := V c main_v2
/-- The weight scales. -/
abbrev aws : S1x7168.Idx → EReal := V c main_v6
/-- The weight codes. -/
abbrev aw : S5120x7168.Idx → EReal := V c main_arg4
/-- The input codes. -/
abbrev ax : S12288x5120.Idx → EReal := V c main_v0
/-- The input scales. -/
abbrev axs : S12288x1.Idx → EReal := V c main_v3
/-- The reciprocal standard deviations. -/
abbrev ars : S12288x1.Idx → EReal := V c main_v4
/-- The gammas. -/
abbrev ag : S1x5120.Idx → EReal := V c main_v5

theorem b_q_apply (t : Fin cfg0.N) (a : Fin 256) (f : Fin 7168) (T : Fin 12288) (hT : T.val = 256 * (t.val / 4) + a.val) :
    b_q V c t (ix2 a f) = aq V c (ix2 T f) := by
  obtain ⟨e0, e1⟩ := (idx0 t).1
  refine congrArg (aq V c) (funext fun x => Fin.ext ?_)
  match x with
  | ⟨0, _⟩ => show win0_0.index t (0 : Fin 2) * 256 + 1 * a.val = T.val; rw [e0]; omega
  | ⟨1, _⟩ => show win0_0.index t (1 : Fin 2) * 7168 + 1 * f.val = f.val; rw [e1]; omega
theorem b_s_apply (t : Fin cfg0.N) (a : Fin 256) (h : Fin 56) (T : Fin 12288) (hT : T.val = 256 * (t.val / 4) + a.val) :
    b_s V c t (ix2 a h) = as_ V c (ix2 T h) := by
  obtain ⟨e0, e1⟩ := (idx0 t).2.1
  refine congrArg (as_ V c) (funext fun x => Fin.ext ?_)
  match x with
  | ⟨0, _⟩ => show win0_1.index t (0 : Fin 2) * 256 + 1 * a.val = T.val; rw [e0]; omega
  | ⟨1, _⟩ => show win0_1.index t (1 : Fin 2) * 56 + 1 * h.val = h.val; rw [e1]; omega
theorem b_ws_apply (t : Fin cfg0.N) (f : Fin 7168) : b_ws V c t (ix2 0 f) = aws V c (ix2 0 f) := by
  obtain ⟨e0, e1⟩ := (idx0 t).2.2.1
  refine congrArg (aws V c) (funext fun x => Fin.ext ?_)
  match x with
  | ⟨0, _⟩ => show win0_2.index t (0 : Fin 2) * 1 + 1 * 0 = 0; rw [e0]
  | ⟨1, _⟩ => show win0_2.index t (1 : Fin 2) * 7168 + 1 * f.val = f.val; rw [e1]; omega
theorem b_w_apply (t : Fin cfg0.N) (e : Fin 1280) (f : Fin 7168) (D : Fin 5120) (hD : D.val = 1280 * (t.val % 4) + e.val) :
    b_w V c t (ix2 e f) = aw V c (ix2 D f) := by
  obtain ⟨e0, e1⟩ := (idx0 t).2.2.2.1
  refine congrArg (aw V c) (funext fun x => Fin.ext ?_)
  match x with
  | ⟨0, _⟩ => show win0_3.index t (0 : Fin 2) * 1280 + 1 * e.val = D.val; rw [e0]; omega
  | ⟨1, _⟩ => show win0_3.index t (1 : Fin 2) * 7168 + 1 * f.val = f.val; rw [e1]; omega
theorem b_x_apply (t : Fin cfg0.N) (a : Fin 256) (d : Fin 5120) (T : Fin 12288) (hT : T.val = 256 * (t.val / 4) + a.val) :
    b_x V c t (ix2 a d) = ax V c (ix2 T d) := by
  obtain ⟨e0, e1⟩ := (idx0 t).2.2.2.2.1
  refine congrArg (ax V c) (funext fun x => Fin.ext ?_)
  match x with
  | ⟨0, _⟩ => show win0_4.index t (0 : Fin 2) * 256 + 1 * a.val = T.val; rw [e0]; omega
  | ⟨1, _⟩ => show win0_4.index t (1 : Fin 2) * 5120 + 1 * d.val = d.val; rw [e1]; omega
theorem b_xs_apply (t : Fin cfg0.N) (a : Fin 256) (T : Fin 12288) (hT : T.val = 256 * (t.val / 4) + a.val) :
    b_xs V c t (ix2 a 0) = axs V c (ix2 T 0) := by
  obtain ⟨e0, e1⟩ := (idx0 t).2.2.2.2.2.1
  refine congrArg (axs V c) (funext fun x => Fin.ext ?_)
  match x with
  | ⟨0, _⟩ => show win0_5.index t (0 : Fin 2) * 256 + 1 * a.val = T.val; rw [e0]; omega
  | ⟨1, _⟩ => show win0_5.index t (1 : Fin 2) * 1 + 1 * 0 = 0; rw [e1]
theorem b_rs_apply (t : Fin cfg0.N) (a : Fin 256) (T : Fin 12288) (hT : T.val = 256 * (t.val / 4) + a.val) :
    b_rs V c t (ix2 a 0) = ars V c (ix2 T 0) := by
  obtain ⟨e0, e1⟩ := (idx0 t).2.2.2.2.2.2.1
  refine congrArg (ars V c) (funext fun x => Fin.ext ?_)
  match x with
  | ⟨0, _⟩ => show win0_6.index t (0 : Fin 2) * 256 + 1 * a.val = T.val; rw [e0]; omega
  | ⟨1, _⟩ => show win0_6.index t (1 : Fin 2) * 1 + 1 * 0 = 0; rw [e1]
theorem b_g_apply (t : Fin cfg0.N) (d : Fin 5120) : b_g V c t (ix2 0 d) = ag V c (ix2 0 d) := by
  obtain ⟨e0, e1⟩ := (idx0 t).2.2.2.2.2.2.2.1
  refine congrArg (ag V c) (funext fun x => Fin.ext ?_)
  match x with
  | ⟨0, _⟩ => show win0_7.index t (0 : Fin 2) * 1 + 1 * 0 = 0; rw [e0]
  | ⟨1, _⟩ => show win0_7.index t (1 : Fin 2) * 5120 + 1 * d.val = d.val; rw [e1]; omega

/-! ## The whole-array quantities -/

/-- The dequantised gradient. -/
def dqF (T : Fin 12288) (f : Fin 7168) : EReal := aq V c (ix2 T f) * as_ V c (ix2 T (ch56 f))
/-- The product with the transposed weights. -/
def P (T : Fin 12288) (d : Fin 5120) : EReal := ∑ f : Fin 7168, (dqF V c T f * aws V c (ix2 0 f)) * aw V c (ix2 d f)
/-- The normalised input. -/
def nF (T : Fin 12288) (d : Fin 5120) : EReal := ax V c (ix2 T d) * (axs V c (ix2 T 0) * ars V c (ix2 T 0))
/-- The mean row `T` subtracts. -/
def meanF (T : Fin 12288) : EReal := (∑ d : Fin 5120, (P V c T d * nF V c T d) * ag V c (ix2 0 d)) * ((1 / 5120 : ℝ) : EReal)
/-- The input gradient. -/
def dxF (T : Fin 12288) (d : Fin 5120) : EReal :=
  ars V c (ix2 T 0) * (P V c T d * ag V c (ix2 0 d) - nF V c T d * meanF V c T)
/-- The rebuilt input. -/
def xF (T : Fin 12288) (d : Fin 5120) : EReal := nF V c T d * ag V c (ix2 0 d)
/-- One row's summand of the gamma gradient (0 past the last row). -/
def gF (d : Fin 5120) (n : ℕ) : EReal := if h : n < 12288 then P V c ⟨n, h⟩ d * nF V c ⟨n, h⟩ d else 0

theorem DQv_apply (i : ℕ) (hi : i < 48) (a : Fin 256) (f : Fin 7168) (T : Fin 12288) (hT : T.val = 256 * i + a.val) :
    (DQv V c i : S256x7168.Idx → EReal) (ix2 a f) = dqF V c T f := by
  have hg : (gp (4 * i)).val / 4 = i := by show 4 * i % 192 / 4 = i; omega
  unfold DQv dqF
  refine (DQ_apply _ _ a f).trans ?_
  rw [b_q_apply V c _ a f T (by rw [hg]; exact hT), b_s_apply V c _ a _ T (by rw [hg]; exact hT)]

theorem ACCv_apply (i : ℕ) (hi : i < 48) (a : Fin 256) (d : Fin 5120) (T : Fin 12288) (hT : T.val = 256 * i + a.val) :
    (ACCv V c i : S256x5120.Idx → EReal) (ix2 a d) = P V c T d := by
  have hd := d.isLt
  have hg : (gp (4 * i)).val / 4 = i := by show 4 * i % 192 / 4 = i; omega
  unfold ACCv P
  refine (accJ_apply _ _ _ _).trans ?_
  refine Finset.sum_congr rfl fun f _ => ?_
  refine congrArg₂ (· * ·) ?_ ?_
  · unfold LHSv dqF
    refine (LHS_apply _ _ _ a f).trans ?_
    rw [b_q_apply V c _ a f T (by rw [hg]; exact hT), b_s_apply V c _ a _ T (by rw [hg]; exact hT), b_ws_apply]
  · refine b_w_apply V c _ _ f d ?_
    show d.val = 1280 * ((4 * i + d.val / 1280) % 192 % 4) + d.val % 1280
    omega

theorem nrm_apply (t : Fin cfg0.N) (a : Fin 256) (d : Fin 5120) (T : Fin 12288) (hT : T.val = 256 * (t.val / 4) + a.val) :
    nrm (b_x V c t) (b_xs V c t) (b_rs V c t) a d = nF V c T d := by
  unfold nrm nF
  rw [b_x_apply V c t a d T hT, b_xs_apply V c t a T hT, b_rs_apply V c t a T hT]

theorem lt48 (t : Fin cfg0.N) : t.val / 4 < 48 := by
  have ht : t.val < 192 := Nat.lt_of_lt_of_eq t.isLt N_0
  omega

theorem dx_apply (t : Fin cfg0.N) (a : Fin 256) (d : Fin 5120) (T : Fin 12288) (hT : T.val = 256 * (t.val / 4) + a.val) :
    DX (F := Ideal) (b_x V c t) (b_xs V c t) (b_rs V c t) (b_g V c t) (ACCv V c (t.val / 4)) (ix2 a d) = dxF V c T d := by
  refine (DX_apply _ _ _ _ _ a d).trans ?_
  unfold dxF rmean meanF
  rw [b_rs_apply V c t a T hT, ACCv_apply V c _ (lt48 t) a d T hT, nrm_apply V c t a d T hT, b_g_apply]
  refine congrArg (fun z => ars V c (ix2 T 0) * (P V c T d * ag V c (ix2 0 d) - nF V c T d * (z * _))) ?_
  refine Finset.sum_congr rfl fun e _ => ?_
  rw [ACCv_apply V c _ (lt48 t) a e T hT, nrm_apply V c t a e T hT, b_g_apply]

theorem xt_apply (t : Fin cfg0.N) (e : Fin 1280) (a : Fin 256) (T : Fin 12288) (hT : T.val = 256 * (t.val / 4) + a.val)
    (d : Fin 5120) (hd : d.val = 1280 * (t.val % 4) + e.val) :
    XT (F := Ideal) (b_x V c t) (b_xs V c t) (b_rs V c t) (b_g V c t) (grid0.coords t 1) (ix2 e a) = xF V c T d := by
  refine (XT_apply _ _ _ _ _ e a d (by rw [hco1]; exact hd)).trans ?_
  unfold xF nF
  rw [b_x_apply V c t a d T hT, b_xs_apply V c t a T hT, b_rs_apply V c t a T hT, b_g_apply]

theorem DGv_apply (n : ℕ) (hn : n ≤ 48) (b : Fin 8) (d : Fin 5120) :
    (DGv V c n : S8x5120.Idx → EReal) (ix2 b d)
      = ∑ i ∈ Finset.range n, ∑ k ∈ Finset.range 4, ∑ j ∈ Finset.range 8, gF V c d (256 * i + (64 * k + (8 * j + b.val))) := by
  induction n with
  | zero => exact k0_pay303_apply _
  | succ n ih =>
    have hg : (gp (4 * n + 3)).val / 4 = n := by show (4 * n + 3) % 192 / 4 = n; omega
    have hb := b.isLt
    rw [Finset.sum_range_succ (n := n), ← ih (by omega)]
    show dgRows (F := Ideal) _ _ _ _ _ 4 (ix2 b d) = _
    refine (dgRows_apply _ _ _ _ _ 4 (le_refl _) b d).trans ?_
    refine congrArg ((DGv V c n : S8x5120.Idx → EReal) (ix2 b d) + ·) ?_
    refine Finset.sum_congr rfl fun k hk => Finset.sum_congr rfl fun j hj => ?_
    have hk := Finset.mem_range.1 hk
    have hj := Finset.mem_range.1 hj
    unfold gterm gF
    rw [dif_pos (show 64 * k + (8 * j + b.val) < 256 by omega), dif_pos (show 256 * n + (64 * k + (8 * j + b.val)) < 12288 by omega)]
    refine congrArg₂ (· * ·) ?_ ?_
    · exact ACCv_apply V c n (by omega) _ d _ rfl
    · exact nrm_apply V c _ _ d _ (by rw [hg])

theorem dg_apply (d : Fin 5120) :
    k0_pay2 (F := Ideal) (DGv V c 48) (ix2 0 d) = ∑ T : Fin 12288, P V c T d * nF V c T d := by
  refine (k0_pay2_apply _ d).trans ?_
  rw [Finset.sum_congr rfl fun b _ => DGv_apply V c 48 (le_refl _) b d, Finset.sum_comm,
    Finset.sum_congr rfl fun i _ => rows fun a => gF V c d (256 * i + a), runs 256 48 (gF V c d), Finset.sum_range]
  refine Finset.sum_congr rfl fun T _ => ?_
  unfold gF
  exact dif_pos T.isLt

/-! ## The arrays the first region leaves -/

theorem arr8 : (dat0 V c).arrAt 8 cfg0.N = (fun j => dxF V c (j 0) (j 1) : S12288x5120.Idx → EReal) := by
  refine (dat0 V c).arrAt_eq_of_covers 8 _ (by decide +kernel) fun t _ y => ?_
  obtain ⟨a, d, rfl⟩ : ∃ (a : Fin 256) (d : Fin 5120), y = ix2 a d := ⟨_, _, ValueIdx.eq_ix2 y⟩
  have ha := a.isLt
  obtain ⟨e0, e1⟩ := (idx0 t).2.2.2.2.2.2.2.2.1
  show (dat0 V c).after 8 t (ix2 a d) = _
  rw [after0_8]
  have he : ((cfg0.win 8).blk t).view.emb (ix2 a d) = ix2 (⟨256 * (t.val / 4) + a.val, by have := lt48 t; omega⟩ : Fin 12288) d := by
    funext x; apply Fin.ext
    match x with
    | ⟨0, _⟩ => show win0_8.index t (0 : Fin 2) * 256 + 1 * a.val = 256 * (t.val / 4) + a.val; rw [e0]; omega
    | ⟨1, _⟩ => show win0_8.index t (1 : Fin 2) * 5120 + 1 * d.val = d.val; rw [e1]; omega
  rw [he]
  exact dx_apply V c t a d _ rfl

theorem arr9 : (dat0 V c).arrAt 9 cfg0.N = (fun j => xF V c (j 1) (j 0) : S5120x12288.Idx → EReal) := by
  refine (dat0 V c).arrAt_eq_of_covers 9 _ (by decide +kernel) fun t _ y => ?_
  obtain ⟨e, a, rfl⟩ : ∃ (e : Fin 1280) (a : Fin 256), y = ix2 e a := ⟨_, _, ValueIdx.eq_ix2 y⟩
  have ha := a.isLt
  have he := e.isLt
  obtain ⟨e0, e1⟩ := (idx0 t).2.2.2.2.2.2.2.2.2.1
  show (dat0 V c).after 9 t (ix2 e a) = _
  rw [after0_9]
  have he : ((cfg0.win 9).blk t).view.emb (ix2 e a)
      = ix2 (⟨1280 * (t.val % 4) + e.val, by omega⟩ : Fin 5120) (⟨256 * (t.val / 4) + a.val, by have := lt48 t; omega⟩ : Fin 12288) := by
    funext x; apply Fin.ext
    match x with
    | ⟨0, _⟩ => show win0_9.index t (0 : Fin 2) * 1280 + 1 * e.val = 1280 * (t.val % 4) + e.val; rw [e0]; omega
    | ⟨1, _⟩ => show win0_9.index t (1 : Fin 2) * 256 + 1 * a.val = 256 * (t.val / 4) + a.val; rw [e1]; omega
  rw [he]
  exact xt_apply V c t e a _ rfl _ rfl

theorem arr10 : (dat0 V c).arrAt 10 cfg0.N = (fun j => dqF V c (j 0) (j 1) : S12288x7168.Idx → EReal) := by
  refine (dat0 V c).arrAt_eq_of_covers 10 _ (by decide +kernel) fun t _ y => ?_
  obtain ⟨a, f, rfl⟩ : ∃ (a : Fin 256) (f : Fin 7168), y = ix2 a f := ⟨_, _, ValueIdx.eq_ix2 y⟩
  have ha := a.isLt
  obtain ⟨e0, e1⟩ := (idx0 t).2.2.2.2.2.2.2.2.2.2.1
  show (dat0 V c).after 10 t (ix2 a f) = _
  rw [after0_10]
  have he : ((cfg0.win 10).blk t).view.emb (ix2 a f) = ix2 (⟨256 * (t.val / 4) + a.val, by have := lt48 t; omega⟩ : Fin 12288) f := by
    funext x; apply Fin.ext
    match x with
    | ⟨0, _⟩ => show win0_10.index t (0 : Fin 2) * 256 + 1 * a.val = 256 * (t.val / 4) + a.val; rw [e0]; omega
    | ⟨1, _⟩ => show win0_10.index t (1 : Fin 2) * 7168 + 1 * f.val = f.val; rw [e1]; omega
  rw [he]
  exact DQv_apply V c _ (lt48 t) a f _ rfl

theorem arr11 : (dat0 V c).arrAt 11 cfg0.N = (fun j => ∑ T : Fin 12288, P V c T (j 1) * nF V c T (j 1) : S1x5120.Idx → EReal) := by
  refine (dat0 V c).arrAt_eq_of_covers 11 _ (by decide +kernel) fun t _ y => ?_
  obtain ⟨z, d, rfl⟩ : ∃ (z : Fin 1) (d : Fin 5120), y = ix2 z d := ⟨_, _, ValueIdx.eq_ix2 y⟩
  obtain rfl : z = 0 := Subsingleton.elim _ _
  obtain ⟨e0, e1⟩ := (idx0 t).2.2.2.2.2.2.2.2.2.2.2
  show (dat0 V c).after 11 t (ix2 0 d) = _
  rw [after0_11]
  have he : ((cfg0.win 11).blk t).view.emb (ix2 0 d) = ix2 (0 : Fin 1) d := by
    funext x; apply Fin.ext
    match x with
    | ⟨0, _⟩ => show win0_11.index t (0 : Fin 2) * 1 + 1 * 0 = 0; rw [e0]
    | ⟨1, _⟩ => show win0_11.index t (1 : Fin 2) * 5120 + 1 * d.val = d.val; rw [e1]; omega
  rw [he]
  exact dg_apply V c d

/-! ## The array the second region leaves -/

/-- The transposed input as the second region finds it. -/
abbrev axt : S5120x12288.Idx → EReal := V c main_v7_1
/-- The dequantised gradient as the second region finds it. -/
abbrev adq : S12288x7168.Idx → EReal := V c main_v7_2

/-- The product's term at contracted position `k` (0 past the contracted extent). -/
def term (A : Fin 5120) (B : Fin 7168) (k : ℕ) : EReal :=
  if h : k < 12288 then axt V c (ix2 A ⟨k, h⟩) * adq V c (ix2 ⟨k, h⟩ B) else 0

theorem point1 (n : ℕ) (hn : n < 120) (a : Fin 1024) (b : Fin 1792) (A : Fin 5120) (hA : A.val = 1024 * (n / 24) + a.val)
    (B : Fin 7168) (hB : B.val = 1792 * (n / 6 % 4) + b.val) :
    ∑ k : Fin 2048, (b_xt V c (gp1 n) : S1024x2048.Idx → EReal) (ix2 a k) * (b_dq V c (gp1 n) : S2048x1792.Idx → EReal) (ix2 k b)
      = ∑ k ∈ Finset.range 2048, term V c A B (2048 * (n % 6) + k) := by
  rw [Finset.sum_range]
  refine Finset.sum_congr rfl fun k _ => ?_
  have hk := k.isLt
  have hv : (gp1 n).val = n := Nat.mod_eq_of_lt hn
  unfold term
  rw [dif_pos (show 2048 * (n % 6) + k.val < 12288 by omega)]
  obtain ⟨⟨e0, e1⟩, ⟨e2, e3⟩, -⟩ := idx1 (gp1 n)
  rw [hv] at e0 e1 e2 e3
  refine congrArg₂ (fun u v => axt V c u * adq V c v) (funext fun x => Fin.ext ?_) (funext fun x => Fin.ext ?_)
  · match x with
    | ⟨0, _⟩ => show win1_0.index (gp1 n) (0 : Fin 2) * 1024 + 1 * a.val = A.val; rw [e0]; omega
    | ⟨1, _⟩ => show win1_0.index (gp1 n) (1 : Fin 2) * 2048 + 1 * k.val = 2048 * (n % 6) + k.val; rw [e1]; omega
  · match x with
    | ⟨0, _⟩ => show win1_1.index (gp1 n) (0 : Fin 2) * 2048 + 1 * k.val = 2048 * (n % 6) + k.val; rw [e2]; omega
    | ⟨1, _⟩ => show win1_1.index (gp1 n) (1 : Fin 2) * 1792 + 1 * b.val = B.val; rw [e3]; omega

theorem DWv_apply (r : ℕ) (hr : r < 20) (s : ℕ) (hs : s < 6) (a : Fin 1024) (b : Fin 1792) (A : Fin 5120) (hA : A.val = 1024 * (r / 4) + a.val)
    (B : Fin 7168) (hB : B.val = 1792 * (r % 4) + b.val) :
    (DWv V c r s : S1024x1792.Idx → EReal) (ix2 a b) = ∑ i ∈ Finset.range (s + 1), ∑ k ∈ Finset.range 2048, term V c A B (2048 * i + k) := by
  induction s with
  | zero =>
    rw [DWv]
    refine (k1_pay2_apply _ _ _ a b).trans ?_
    rw [k1_pay1_apply, zero_add, point1 V c (6 * r) (by omega) a b A (by omega) B (by omega), Finset.sum_range_succ (n := 0), Finset.sum_range_zero (fun i => _), zero_add,
      show 6 * r % 6 = 0 by omega]
  | succ s ih =>
    rw [DWv]
    refine (k1_pay2_apply _ _ _ a b).trans ?_
    rw [ih (by omega), point1 V c (6 * r + (s + 1)) (by omega) a b A (by omega) B (by omega), Finset.sum_range_succ (n := s + 1),
      show (6 * r + (s + 1)) % 6 = s + 1 by omega]

theorem arr1_2 : (dat1 V c).arrAt 2 cfg1.N = (fun j => ∑ k : Fin 12288, axt V c (ix2 (j 0) k) * adq V c (ix2 k (j 1)) : S5120x7168.Idx → EReal) := by
  refine (dat1 V c).arrAt_eq_of_covers 2 _ (by decide +kernel) fun t hf y => ?_
  obtain ⟨a, b, rfl⟩ : ∃ (a : Fin 1024) (b : Fin 1792), y = ix2 a b := ⟨_, _, ValueIdx.eq_ix2 y⟩
  have ha := a.isLt
  have hb := b.isLt
  have ht : t.val < 120 := Nat.lt_of_lt_of_eq t.isLt N_1
  have h5 : t.val % 6 = 5 := by have := (flush1_2 _).mp hf; omega
  obtain ⟨-, -, e0, e1⟩ := idx1 t
  show (dat1 V c).after 2 t (ix2 a b) = _
  rw [after1_2]
  have he : ((cfg1.win 2).blk t).view.emb (ix2 a b)
      = ix2 (⟨1024 * (t.val / 24) + a.val, by omega⟩ : Fin 5120) (⟨1792 * (t.val / 6 % 4) + b.val, by omega⟩ : Fin 7168) := by
    funext x; apply Fin.ext
    match x with
    | ⟨0, _⟩ => show win1_2.index t (0 : Fin 2) * 1024 + 1 * a.val = 1024 * (t.val / 24) + a.val; rw [e0]; omega
    | ⟨1, _⟩ => show win1_2.index t (1 : Fin 2) * 1792 + 1 * b.val = 1792 * (t.val / 6 % 4) + b.val; rw [e1]; omega
  rw [he]
  refine (DWv_apply V c (t.val / 6) (by omega) (t.val % 6) (by omega) a b ⟨1024 * (t.val / 24) + a.val, by omega⟩ (by dsimp only; omega) ⟨1792 * (t.val / 6 % 4) + b.val, by omega⟩ rfl).trans ?_
  rw [h5, runs 2048 6, Finset.sum_range]
  refine Finset.sum_congr rfl fun k _ => ?_
  unfold term
  exact dif_pos k.isLt

end

end Cert.KM

end
-- ==== Proof.Math.Ref.lean ====
module

public import proofs.«01_k».proof.Proof.Gen.ReferenceIdeal.Value
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pointwise.Reduce
public import Idealize.ShloMosaic.Lib.Pipeline.Value

@[expose] public section

set_option maxRecDepth 65536

noncomputable section

namespace Cert.RM

open Idealize.ShloMosaic hiding ix1 ix2 ix3 ix4 ix5
open Idealize.ShloMosaic.TcCoe Idealize.ShloMosaic.ValueIdx
open Cert.ReferenceIdeal Cert.ReferenceIdeal.Gen
open scoped BigOperators

/-! # What the reference's results are over the extended reals, element by element -/

theorem zero32 : Ideal.ofBits .f32 0x00000000#32 = 0 := by simp [Ideal.ofBits, Ideal.ieee]
theorem d5120 : Ideal.ofBits .f32 0x45A00000#32 = ((5120 : ℝ) : EReal) := by
  simp [Ideal.ofBits, Ideal.ieee, -EReal.coe_mul]; norm_num

section
variable (x : S6x2048x5120.Idx → EReal) (xs r : S6x2048.Idx → EReal) (g : S5120.Idx → EReal)
  (w : S5120x7168.Idx → EReal) (ws : S7168.Idx → EReal) (q : S6x2048x7168.Idx → EReal) (s : S6x2048x56.Idx → EReal)

/-- A column of per-token scales, stretched over the features. -/
theorem tok_apply (v : S6x2048.Idx → EReal) (h : S6x2048.ShapeCasts S6x2048x1) (h' : S6x2048x1.Broadcasts S6x2048x5120)
    (b : Fin 6) (t : Fin 2048) (d : Fin 5120) :
    broadcastTo S6x2048x5120 (shapeCast S6x2048x1 v h) h' (ix3 b t d) = v (ix2 b t) := by
  refine (broadcastTo_apply _ h' _ (ix3 b t 0) fun a => ?_).trans ?_
  · match a with
    | ⟨0, _⟩ => rfl
    | ⟨1, _⟩ => rfl
    | ⟨2, _⟩ => rfl
  · refine shapeCast_apply v h _ _ ?_
    rw [Shape.rowMajor_val_two, Shape.rowMajor_val_three]
    show b.val * 2048 + t.val = (b.val * 2048 + t.val) * 1 + 0
    omega

/-- The features' gains, stretched over the tokens. -/
theorem feat_apply (h : S5120.ShapeCasts S1x1x5120) (h' : S1x1x5120.Broadcasts S6x2048x5120)
    (b : Fin 6) (t : Fin 2048) (d : Fin 5120) :
    broadcastTo S6x2048x5120 (shapeCast S1x1x5120 g h) h' (ix3 b t d) = g (ix1 d) := by
  refine (broadcastTo_apply _ h' _ (ix3 0 0 d) fun a => ?_).trans ?_
  · match a with
    | ⟨0, _⟩ => rfl
    | ⟨1, _⟩ => rfl
    | ⟨2, _⟩ => rfl
  · refine shapeCast_apply g h _ _ ?_
    rw [Shape.rowMajor_val_one, Shape.rowMajor_val_three]
    show d.val = (0 * 1 + 0) * 5120 + d.val
    omega

/-- The normalised input. -/
theorem pay2_apply (b : Fin 6) (t : Fin 2048) (d : Fin 5120) :
    k0_pay2 (F := Ideal) r x xs (ix3 b t d) = (x (ix3 b t d) * xs (ix2 b t)) * r (ix2 b t) := by
  unfold k0_pay2
  rw [mulf_apply, mulf_apply, tok_apply, tok_apply, extf_apply]

/-- The chunk of 128 columns a column is in. -/
abbrev ch56 (f : Fin 7168) : Fin 56 := ⟨f.val / 128, by have := f.isLt; omega⟩

/-- The dequantised gradient. -/
theorem pay3_apply (b : Fin 6) (t : Fin 2048) (f : Fin 7168) :
    k0_pay3 (F := Ideal) q s (ix3 b t f) = q (ix3 b t f) * s (ix3 b t (ch56 f)) := by
  have hf := f.isLt
  unfold k0_pay3
  refine (shapeCast_apply _ _ _ (ix4 b t (ch56 f) (⟨f.val % 128, by omega⟩ : Fin 128)) ?_).trans ?_
  · rw [Shape.rowMajor_val_three, Shape.rowMajor_val_four]
    show ((b.val * 2048 + t.val) * 56 + f.val / 128) * 128 + f.val % 128 = (b.val * 2048 + t.val) * 7168 + f.val
    omega
  · rw [mulf_apply]
    refine congrArg₂ (· * ·) ?_ ?_
    · refine (shapeCast_apply _ _ _ (ix3 b t f) ?_).trans rfl
      rw [Shape.rowMajor_val_three, Shape.rowMajor_val_four]
      show (b.val * 2048 + t.val) * 7168 + f.val = ((b.val * 2048 + t.val) * 56 + f.val / 128) * 128 + f.val % 128
      omega
    · refine (broadcastTo_apply _ _ _ (ix4 b t (ch56 f) 0) fun a => ?_).trans ?_
      · match a with
        | ⟨0, _⟩ => rfl
        | ⟨1, _⟩ => rfl
        | ⟨2, _⟩ => rfl
        | ⟨3, _⟩ => rfl
      · refine (shapeCast_apply _ _ _ (ix3 b t (ch56 f)) ?_).trans rfl
        rw [Shape.rowMajor_val_three, Shape.rowMajor_val_four]
        show (b.val * 2048 + t.val) * 56 + f.val / 128 = ((b.val * 2048 + t.val) * 56 + f.val / 128) * 1 + 0
        omega

/-- The product with the transposed weights. -/
theorem pay5_apply (b : Fin 6) (t : Fin 2048) (d : Fin 5120) :
    k0_pay5 (F := Ideal) q s w ws (ix3 b t d)
      = ∑ f : Fin 7168, (q (ix3 b t f) * s (ix3 b t (ch56 f))) * (w (ix2 d f) * ws (ix1 f)) := by
  unfold k0_pay5
  refine (Ideal.matmul_apply _ none _ _ _ _).trans ?_
  rw [constant_apply, zero32, zero_add]
  let D := dot_S6x2048x7168_S5120x7168_S6x2048x5120_2_1_01_0_n_n
  have hr : D.contr.rank = 1 := rfl
  have c0 : D.contr.size ⟨0, by rw [hr]; omega⟩ = 7168 := rfl
  rw [← Equiv.sum_comp (contrEquiv1 D 7168 hr c0).symm]
  refine Finset.sum_congr rfl fun f _ => ?_
  have h0 := contrEquiv1_symm_val D 7168 hr c0 f
  have el : D.lhsIdx (ix3 b t d) ((contrEquiv1 D 7168 hr c0).symm f) = ix3 b t f := by
    funext a; apply Fin.ext
    match a with
    | ⟨0, _⟩ => rfl
    | ⟨1, _⟩ => rfl
    | ⟨2, _⟩ => exact h0
  have er : D.rhsIdx (ix3 b t d) ((contrEquiv1 D 7168 hr c0).symm f) = ix2 d f := by
    funext a; apply Fin.ext
    match a with
    | ⟨0, _⟩ => rfl
    | ⟨1, _⟩ => exact h0
  rw [el, er, pay3_apply, mulf_apply, broadcastTo_1b_ab_apply]
  refine congrArg (_ * ·) (congrArg (w (ix2 d f) * ·) ?_)
  exact shapeCast_a_1a_apply _ _ _ _

/-- The weights' gradient. -/
theorem pay4_apply (d : Fin 5120) (f : Fin 7168) :
    k0_pay4 (F := Ideal) r g x xs q s (ix2 d f)
      = ∑ b : Fin 6, ∑ t : Fin 2048, (((x (ix3 b t d) * xs (ix2 b t)) * r (ix2 b t)) * g (ix1 d)) * (q (ix3 b t f) * s (ix3 b t (ch56 f))) := by
  unfold k0_pay4
  refine (Ideal.matmul_apply _ none _ _ _ _).trans ?_
  rw [constant_apply, zero32, zero_add]
  let D := dot_S6x2048x5120_S6x2048x7168_S5120x7168_01_01_2_2_n_n
  have hr : D.contr.rank = 2 := rfl
  have c0 : D.contr.size ⟨0, by rw [hr]; omega⟩ = 6 := rfl
  have c1 : D.contr.size ⟨1, by rw [hr]; omega⟩ = 2048 := rfl
  rw [← Equiv.sum_comp (contrEquiv2 D 6 2048 hr c0 c1).symm, Fintype.sum_prod_type]
  refine Finset.sum_congr rfl fun b _ => Finset.sum_congr rfl fun t _ => ?_
  have h0 := contrEquiv2_symm_val0 D 6 2048 hr c0 c1 (b, t)
  have h1 := contrEquiv2_symm_val1 D 6 2048 hr c0 c1 (b, t)
  have el : D.lhsIdx (ix2 d f) ((contrEquiv2 D 6 2048 hr c0 c1).symm (b, t)) = ix3 b t d := by
    funext a; apply Fin.ext
    match a with
    | ⟨0, _⟩ => exact h0
    | ⟨1, _⟩ => exact h1
    | ⟨2, _⟩ => rfl
  have er : D.rhsIdx (ix2 d f) ((contrEquiv2 D 6 2048 hr c0 c1).symm (b, t)) = ix3 b t f := by
    funext a; apply Fin.ext
    match a with
    | ⟨0, _⟩ => exact h0
    | ⟨1, _⟩ => exact h1
    | ⟨2, _⟩ => rfl
  rw [el, er, pay3_apply, truncf_apply, mulf_apply, pay2_apply, feat_apply]

/-- The gains' gradient. -/
theorem pay6_apply (d : Fin 5120) :
    k0_pay6 (F := Ideal) r x xs q s w ws (ix1 d)
      = ∑ b : Fin 6, ∑ t : Fin 2048, k0_pay5 (F := Ideal) q s w ws (ix3 b t d) * ((x (ix3 b t d) * xs (ix2 b t)) * r (ix2 b t)) := by
  unfold k0_pay6
  show Ideal.reduceAdd reduces_S6x2048x5120_S5120 (mulf (k0_pay5 (F := Ideal) q s w ws) (k0_pay2 (F := Ideal) r x xs)) (ix1 d) = _
  unfold Ideal.reduceAdd
  refine (Finset.sum_filter_eq_sum_of_fiber _ (fun k : Fin 6 × Fin 2048 => ix3 k.1 k.2 d)
    (fun _ _ e => Prod.ext (congrFun e 0) (congrFun e 1)) (fun i => ?_) _).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, Nat.one_pos⟩)).symm
    · rintro ⟨k, rfl⟩
      funext a; apply Fin.ext
      match a with
      | ⟨0, _⟩ => rfl
  · rw [Fintype.sum_prod_type]
    refine Finset.sum_congr rfl fun b _ => Finset.sum_congr rfl fun t _ => ?_
    rw [mulf_apply, pay2_apply]

/-- The input's gradient. -/
theorem G8_apply (b : Fin 6) (t : Fin 2048) (d : Fin 5120) :
    Value.G8 (F := Ideal) x xs r g w ws q s (ix3 b t d)
      = r (ix2 b t) * (k0_pay5 (F := Ideal) q s w ws (ix3 b t d) * g (ix1 d)
          - ((x (ix3 b t d) * xs (ix2 b t)) * r (ix2 b t))
            * ((∑ e : Fin 5120, (k0_pay5 (F := Ideal) q s w ws (ix3 b t e) * g (ix1 e)) * ((x (ix3 b t e) * xs (ix2 b t)) * r (ix2 b t))) * ((1 / 5120 : ℝ) : EReal))) := by
  have h7 : ∀ e : Fin 5120, k0_pay7 (F := Ideal) g q s w ws (ix3 b t e) = k0_pay5 (F := Ideal) q s w ws (ix3 b t e) * g (ix1 e) := fun e => by
    unfold k0_pay7
    rw [mulf_apply, feat_apply]
  unfold Value.G8 k0_pay1
  rw [truncf_apply, mulf_apply, subf_apply, mulf_apply, h7, pay2_apply]
  refine congrArg₂ (· * ·) (by unfold k0_pay8; exact tok_apply r _ _ b t d) (congrArg₂ (· - ·) rfl (congrArg₂ (· * ·) rfl ?_))
  refine (broadcastTo_apply _ _ _ (ix3 b t 0) fun a => ?_).trans ?_
  · match a with
    | ⟨0, _⟩ => rfl
    | ⟨1, _⟩ => rfl
    | ⟨2, _⟩ => rfl
  · rw [divf_apply]
    refine Eq.trans ?_ (Ideal.div_coe (y := 5120) (by norm_num) _)
    refine congrArg₂ Ideal.div ?_ d5120
    refine (shapeCast_apply _ _ _ (ix2 b t) ?_).trans ?_
    · rw [Shape.rowMajor_val_two, Shape.rowMajor_val_three]
      show b.val * 2048 + t.val = (b.val * 2048 + t.val) * 1 + 0
      omega
    · refine (Ideal.reduceAdd_r3_a2 (n0 := 6) (n1 := 2048) (n2 := 5120) _ _ _).trans ?_
      refine Finset.sum_congr rfl fun e _ => ?_
      show k0_pay9 (F := Ideal) r g x xs q s w ws (ix3 b t e) = _
      unfold k0_pay9
      rw [mulf_apply, h7, pay2_apply]

end

end Cert.RM

end
-- ==== Proof.Math.Final.lean ====
module

public import proofs.«01_k».proof.Proof.Math.Blocks
public import proofs.«01_k».proof.Proof.Math.Ref
public import proofs.«01_k».proof.Proof.KernelIdeal.Args

@[expose] public section

set_option maxRecDepth 65536

noncomputable section

namespace Cert.KM

open Idealize.ShloMosaic hiding ix1 ix2 ix3 ix4 ix5
open Idealize.ShloMosaic.TcCoe Idealize.ShloMosaic.ValueIdx
open Cert.KernelIdeal Cert.KernelIdeal.Gen
open scoped BigOperators

/-! # The kernel's three results are the reference's -/

variable (m : (ℓ : Loc nD τ sig) → Buf (Elt Ideal) ℓ) (c : Dev nD)

/-- The input codes, as launched. -/
abbrev X : S6x2048x5120.Idx → EReal := m ((c : Thread nD τ).loc main_arg0)
/-- The input scales. -/
abbrev XS : S6x2048.Idx → EReal := m ((c : Thread nD τ).loc main_arg1)
/-- The reciprocal standard deviations. -/
abbrev RS : S6x2048.Idx → EReal := m ((c : Thread nD τ).loc main_arg2)
/-- The gammas. -/
abbrev GA : S5120.Idx → EReal := m ((c : Thread nD τ).loc main_arg3)
/-- The weight codes. -/
abbrev WC : S5120x7168.Idx → EReal := m ((c : Thread nD τ).loc main_arg4)
/-- The weight scales. -/
abbrev WS : S7168.Idx → EReal := m ((c : Thread nD τ).loc main_arg5)
/-- The gradient codes. -/
abbrev QC : S6x2048x7168.Idx → EReal := m ((c : Thread nD τ).loc main_arg6)
/-- The gradient scales. -/
abbrev QS : S6x2048x56.Idx → EReal := m ((c : Thread nD τ).loc main_arg7)

/-- Token `s` of sequence `b`, counted over all sequences. -/
abbrev tok (b : Fin 6) (s : Fin 2048) : Fin 12288 := ⟨2048 * b.val + s.val, by have := b.isLt; have := s.isLt; omega⟩

/-! ## The arrays the first region finds -/

theorem v0_apply (b : Fin 6) (s : Fin 2048) (d : Fin 5120) : ax (V1 m) c (ix2 (tok b s) d) = X m c (ix3 b s d) := by
  have h : ax (V1 m) c = shapeCast S12288x5120 (X m c) shapeCasts_S6x2048x5120_S12288x5120 := by
    show StableHlo.after hostOps0 (V0 m c) (Proc.devRef .tc main_v0) = _
    after_results
    rfl
  rw [h]
  refine shapeCast_apply _ _ _ _ ?_
  rw [Shape.rowMajor_val_two, Shape.rowMajor_val_three]
  show (b.val * 2048 + s.val) * 5120 + d.val = (2048 * b.val + s.val) * 5120 + d.val
  omega
theorem v1_apply (b : Fin 6) (s : Fin 2048) (f : Fin 7168) : aq (V1 m) c (ix2 (tok b s) f) = QC m c (ix3 b s f) := by
  have h : aq (V1 m) c = shapeCast S12288x7168 (QC m c) shapeCasts_S6x2048x7168_S12288x7168 := by
    show StableHlo.after hostOps0 (V0 m c) (Proc.devRef .tc main_v1) = _
    after_results
    rfl
  rw [h]
  refine shapeCast_apply _ _ _ _ ?_
  rw [Shape.rowMajor_val_two, Shape.rowMajor_val_three]
  show (b.val * 2048 + s.val) * 7168 + f.val = (2048 * b.val + s.val) * 7168 + f.val
  omega
theorem v2_apply (b : Fin 6) (s : Fin 2048) (k : Fin 56) : as_ (V1 m) c (ix2 (tok b s) k) = QS m c (ix3 b s k) := by
  have h : as_ (V1 m) c = shapeCast S12288x56 (QS m c) shapeCasts_S6x2048x56_S12288x56 := by
    show StableHlo.after hostOps0 (V0 m c) (Proc.devRef .tc main_v2) = _
    after_results
    rfl
  rw [h]
  refine shapeCast_apply _ _ _ _ ?_
  rw [Shape.rowMajor_val_two, Shape.rowMajor_val_three]
  show (b.val * 2048 + s.val) * 56 + k.val = (2048 * b.val + s.val) * 56 + k.val
  omega
theorem v3_apply (b : Fin 6) (s : Fin 2048) : axs (V1 m) c (ix2 (tok b s) 0) = XS m c (ix2 b s) := by
  have h : axs (V1 m) c = shapeCast S12288x1 (XS m c) shapeCasts_S6x2048_S12288x1 := by
    show StableHlo.after hostOps0 (V0 m c) (Proc.devRef .tc main_v3) = _
    after_results
    rfl
  rw [h]
  refine shapeCast_apply _ _ _ _ ?_
  rw [Shape.rowMajor_val_two, Shape.rowMajor_val_two]
  show b.val * 2048 + s.val = (2048 * b.val + s.val) * 1 + 0
  omega
theorem v4_apply (b : Fin 6) (s : Fin 2048) : ars (V1 m) c (ix2 (tok b s) 0) = RS m c (ix2 b s) := by
  have h : ars (V1 m) c = shapeCast S12288x1 (RS m c) shapeCasts_S6x2048_S12288x1 := by
    show StableHlo.after hostOps0 (V0 m c) (Proc.devRef .tc main_v4) = _
    after_results
    rfl
  rw [h]
  refine shapeCast_apply _ _ _ _ ?_
  rw [Shape.rowMajor_val_two, Shape.rowMajor_val_two]
  show b.val * 2048 + s.val = (2048 * b.val + s.val) * 1 + 0
  omega
theorem v5_apply (d : Fin 5120) : ag (V1 m) c (ix2 0 d) = GA m c (ix1 d) := by
  have h : ag (V1 m) c = shapeCast S1x5120 (GA m c) shapeCasts_S5120_S1x5120 := by
    show StableHlo.after hostOps0 (V0 m c) (Proc.devRef .tc main_v5) = _
    after_results
    rfl
  rw [h]
  exact shapeCast_a_1a_apply _ _ _ _
theorem v6_apply (f : Fin 7168) : aws (V1 m) c (ix2 0 f) = WS m c (ix1 f) := by
  have h : aws (V1 m) c = shapeCast S1x7168 (WS m c) shapeCasts_S7168_S1x7168 := by
    show StableHlo.after hostOps0 (V0 m c) (Proc.devRef .tc main_v6) = _
    after_results
    rfl
  rw [h]
  exact shapeCast_a_1a_apply _ _ _ _
theorem w_eq : aw (V1 m) c = WC m c := V1_of m c main_arg4 (by decide)

/-! ## The quantities of the two programs -/

theorem dqF_eq (b : Fin 6) (s : Fin 2048) (f : Fin 7168) :
    dqF (V1 m) c (tok b s) f = QC m c (ix3 b s f) * QS m c (ix3 b s (ch56 f)) := by
  unfold dqF
  rw [v1_apply, v2_apply]

/-- The reference's product. -/
abbrev P' (b : Fin 6) (s : Fin 2048) (d : Fin 5120) : EReal :=
  ReferenceIdeal.Gen.k0_pay5 (F := Ideal) (QC m c) (QS m c) (WC m c) (WS m c) (ix3 b s d)
/-- The reference's normalised input. -/
abbrev n' (b : Fin 6) (s : Fin 2048) (d : Fin 5120) : EReal := (X m c (ix3 b s d) * XS m c (ix2 b s)) * RS m c (ix2 b s)

theorem P_eq (b : Fin 6) (s : Fin 2048) (d : Fin 5120) : P (V1 m) c (tok b s) d = P' m c b s d := by
  refine Eq.trans ?_ (RM.pay5_apply (WC m c) (WS m c) (QC m c) (QS m c) b s d).symm
  unfold P
  refine Finset.sum_congr rfl fun f _ => ?_
  rw [dqF_eq, v6_apply, w_eq, mul_assoc, mul_comm (WS m c (ix1 f))]

theorem nF_eq (b : Fin 6) (s : Fin 2048) (d : Fin 5120) : nF (V1 m) c (tok b s) d = n' m c b s d := by
  unfold nF n'
  rw [v0_apply, v3_apply, v4_apply, mul_assoc]

theorem dxF_eq (b : Fin 6) (s : Fin 2048) (d : Fin 5120) :
    dxF (V1 m) c (tok b s) d
      = ReferenceIdeal.Value.G8 (F := Ideal) (X m c) (XS m c) (RS m c) (GA m c) (WC m c) (WS m c) (QC m c) (QS m c) (ix3 b s d) := by
  refine Eq.trans ?_ (RM.G8_apply (X m c) (XS m c) (RS m c) (GA m c) (WC m c) (WS m c) (QC m c) (QS m c) b s d).symm
  unfold dxF meanF
  rw [v4_apply, P_eq, nF_eq, v5_apply]
  refine congrArg (fun z => RS m c (ix2 b s) * (P' m c b s d * GA m c (ix1 d) - n' m c b s d * (z * _))) ?_
  refine Finset.sum_congr rfl fun e _ => ?_
  rw [P_eq, nF_eq, v5_apply]
  exact mul_right_comm (P' m c b s e) (n' m c b s e) (GA m c (ix1 e))

/-- A sum over all tokens is the sum over the sequences and their tokens. -/
theorem toks {M : Type*} [AddCommMonoid M] (f : Fin 12288 → M) : ∑ T : Fin 12288, f T = ∑ b : Fin 6, ∑ s : Fin 2048, f (tok b s) := by
  rw [← Equiv.sum_comp (finProdFinEquiv (m := 6) (n := 2048)) f, Fintype.sum_prod_type]
  refine Finset.sum_congr rfl fun b _ => Finset.sum_congr rfl fun s _ => congrArg f (Fin.ext ?_)
  show s.val + 2048 * b.val = 2048 * b.val + s.val
  omega

/-! ## The three results -/

theorem W2_0 : W2 m c main_v7_0 = (fun j => dxF (V1 m) c (j 0) (j 1) : S12288x5120.Idx → EReal) :=
  (Pipeline.afterRegion_arr (D0 m c) (V1 m c) winFacts0.arr_inj 8).trans (arr8 (V1 m) c)
theorem W2_1 : W2 m c main_v7_1 = (fun j => xF (V1 m) c (j 1) (j 0) : S5120x12288.Idx → EReal) :=
  (Pipeline.afterRegion_arr (D0 m c) (V1 m c) winFacts0.arr_inj 9).trans (arr9 (V1 m) c)
theorem W2_2 : W2 m c main_v7_2 = (fun j => dqF (V1 m) c (j 0) (j 1) : S12288x7168.Idx → EReal) :=
  (Pipeline.afterRegion_arr (D0 m c) (V1 m c) winFacts0.arr_inj 10).trans (arr10 (V1 m) c)
theorem W2_3 : W2 m c main_v7_3 = (fun j => ∑ T : Fin 12288, P (V1 m) c T (j 1) * nF (V1 m) c T (j 1) : S1x5120.Idx → EReal) :=
  (Pipeline.afterRegion_arr (D0 m c) (V1 m c) winFacts0.arr_inj 11).trans (arr11 (V1 m) c)
theorem W3_0 : W3 m c main_v7_0 = W2 m c main_v7_0 :=
  Pipeline.afterRegion_of_not_arr (D1 m c) (W2 m c) (by decide)
theorem W3_3 : W3 m c main_v7_3 = W2 m c main_v7_3 :=
  Pipeline.afterRegion_of_not_arr (D1 m c) (W2 m c) (by decide)
theorem W3_8 : W3 m c main_v8 = (fun j => ∑ k : Fin 12288, axt (W2 m) c (ix2 (j 0) k) * adq (W2 m) c (ix2 k (j 1)) : S5120x7168.Idx → EReal) :=
  (Pipeline.afterRegion_arr (D1 m c) (W2 m c) winFacts1.arr_inj 2).trans (arr1_2 (W2 m) c)

/-- The input gradient. -/
theorem res_dx : W4 m c main_v9
    = ReferenceIdeal.Value.G8 (F := Ideal) (X m c) (XS m c) (RS m c) (GA m c) (WC m c) (WS m c) (QC m c) (QS m c) := by
  have h : W4 m c main_v9 = shapeCast S6x2048x5120 (W3 m c main_v7_0 : S12288x5120.Idx → EReal) shapeCasts_S12288x5120_S6x2048x5120 := by
    show StableHlo.after hostOps2 (W3 m c) (Proc.devRef .tc main_v9) = _
    after_results
    rfl
  rw [h, W3_0, W2_0]
  funext j
  obtain ⟨b, s, d, rfl⟩ : ∃ (b : Fin 6) (s : Fin 2048) (d : Fin 5120), j = ix3 b s d := ⟨_, _, _, ValueIdx.eq_ix3 j⟩
  refine (shapeCast_apply _ _ _ (ix2 (tok b s) d) ?_).trans (dxF_eq m c b s d)
  rw [Shape.rowMajor_val_two, Shape.rowMajor_val_three]
  show (2048 * b.val + s.val) * 5120 + d.val = (b.val * 2048 + s.val) * 5120 + d.val
  omega

/-- The weights' gradient. -/
theorem res_dw : W4 m c main_v8
    = ReferenceIdeal.Value.G9 (F := Ideal) (X m c) (XS m c) (RS m c) (GA m c) (WC m c) (WS m c) (QC m c) (QS m c) := by
  have h : W4 m c main_v8 = W3 m c main_v8 := StableHlo.after_of_writes_sub hostOps2 _ hostOps2_writes (by decide)
  rw [h, W3_8]
  funext j
  obtain ⟨d, f, rfl⟩ : ∃ (d : Fin 5120) (f : Fin 7168), j = ix2 d f := ⟨_, _, ValueIdx.eq_ix2 j⟩
  refine Eq.trans ?_ (RM.pay4_apply (X m c) (XS m c) (RS m c) (GA m c) (QC m c) (QS m c) d f).symm
  show ∑ k : Fin 12288, axt (W2 m) c (ix2 d k) * adq (W2 m) c (ix2 k f) = _
  unfold axt adq
  rw [W2_1, W2_2]
  show ∑ k : Fin 12288, xF (V1 m) c k d * dqF (V1 m) c k f = _
  rw [toks]
  refine Finset.sum_congr rfl fun b _ => Finset.sum_congr rfl fun s _ => ?_
  unfold xF
  rw [dqF_eq, nF_eq, v5_apply]

/-- The gammas' gradient. -/
theorem res_dg : W4 m c main_v10
    = ReferenceIdeal.Value.G10 (F := Ideal) (X m c) (XS m c) (RS m c) (GA m c) (WC m c) (WS m c) (QC m c) (QS m c) := by
  have h : W4 m c main_v10 = shapeCast S5120 (W3 m c main_v7_3 : S1x5120.Idx → EReal) shapeCasts_S1x5120_S5120 := by
    show StableHlo.after hostOps2 (W3 m c) (Proc.devRef .tc main_v10) = _
    after_results
    rfl
  rw [h, W3_3, W2_3]
  funext j
  obtain ⟨d, rfl⟩ : ∃ d : Fin 5120, j = ix1 d := ⟨_, ValueIdx.eq_ix1 j⟩
  refine Eq.trans ?_ (RM.pay6_apply (X m c) (XS m c) (RS m c) (WC m c) (WS m c) (QC m c) (QS m c) d).symm
  refine (shapeCast_1a_a_apply _ _ _).trans ?_
  show ∑ T : Fin 12288, P (V1 m) c T d * nF (V1 m) c T d = _
  rw [toks]
  refine Finset.sum_congr rfl fun b _ => Finset.sum_congr rfl fun s _ => ?_
  rw [P_eq, nF_eq]

end Cert.KM

end
-- ==== Proof.lean ====
module

public import proofs.«01_k».proof.Defs
public import proofs.«01_k».proof.Proof.Kernel.Args
public import proofs.«01_k».proof.Proof.KernelIdeal.Args
public import proofs.«01_k».proof.Proof.Gen.ReferenceIdeal.Frame
public import proofs.«01_k».proof.Proof.Gen.ReferenceIdeal.Value
public import proofs.«01_k».proof.Proof.Math.Final
public import Idealize.ShloMosaic.Adequacy
public import Idealize.ShloMosaic.Init

@[expose] public section

noncomputable section

namespace Cert.Proof

open Idealize.ShloMosaic Idealize.SL.Sem

theorem preserves_Kernel_KernelIdeal : preserves_Kernel_KernelIdeal :=
  IdealRules.named_const.statement Cert.KernelIdeal.κ "inv_d" .f32 0x394CCCCD#32 ((1 / 5120 : ℝ) : EReal) rfl

/-- Over the extended reals both programs run, and the kernel's three results are the reference's. -/
theorem algebraic_KernelIdeal_ReferenceIdeal : algebraic_KernelIdeal_ReferenceIdeal := by
  intro m ρ m' ρ' _ hagree
  refine ⟨fun c => Cert.KernelIdeal.W4 (F := Ideal) m c (Proc.devRef (τ := Cert.KernelIdeal.τ) .tc Cert.KernelIdeal.main_v9),
    fun c => Cert.KernelIdeal.W4 (F := Ideal) m c (Proc.devRef (τ := Cert.KernelIdeal.τ) .tc Cert.KernelIdeal.main_v8),
    fun c => Cert.KernelIdeal.W4 (F := Ideal) m c (Proc.devRef (τ := Cert.KernelIdeal.τ) .tc Cert.KernelIdeal.main_v10), ?_, ?_⟩
  · refine (θ_run Cert.KernelIdeal.defs _ _).mono (fun r h c => ?_) (Cert.KernelIdeal.run_all (F := Ideal) m ρ)
    exact ⟨h.1 c Cert.KernelIdeal.main_v9 rfl, h.1 c Cert.KernelIdeal.main_v8 rfl, h.1 c Cert.KernelIdeal.main_v10 rfl,
      (h.1 c Cert.KernelIdeal.main_arg0 rfl).trans (Cert.KernelIdeal.W4_arg0 m c),
      (h.1 c Cert.KernelIdeal.main_arg1 rfl).trans (Cert.KernelIdeal.W4_arg1 m c),
      (h.1 c Cert.KernelIdeal.main_arg2 rfl).trans (Cert.KernelIdeal.W4_arg2 m c),
      (h.1 c Cert.KernelIdeal.main_arg3 rfl).trans (Cert.KernelIdeal.W4_arg3 m c),
      (h.1 c Cert.KernelIdeal.main_arg4 rfl).trans (Cert.KernelIdeal.W4_arg4 m c),
      (h.1 c Cert.KernelIdeal.main_arg5 rfl).trans (Cert.KernelIdeal.W4_arg5 m c),
      (h.1 c Cert.KernelIdeal.main_arg6 rfl).trans (Cert.KernelIdeal.W4_arg6 m c),
      (h.1 c Cert.KernelIdeal.main_arg7 rfl).trans (Cert.KernelIdeal.W4_arg7 m c)⟩
  · refine (θ_run Cert.ReferenceIdeal.defs _ _).mono (fun r h c => ?_) (Cert.ReferenceIdeal.Value.run (F := Ideal) m' ρ')
    obtain ⟨h0, h1, h2, ha⟩ := h c
    obtain ⟨a0, a1, a2, a3, a4, a5, a6, a7⟩ := hagree c
    refine ⟨h0.trans ?_, h1.trans ?_, h2.trans ?_, ha⟩
    · rw [a0, a1, a2, a3, a4, a5, a6, a7]; exact (Cert.KM.res_dx m c).symm
    · rw [a0, a1, a2, a3, a4, a5, a6, a7]; exact (Cert.KM.res_dw m c).symm
    · rw [a0, a1, a2, a3, a4, a5, a6, a7]; exact (Cert.KM.res_dg m c).symm

theorem claim : Cert.Claim := ⟨Cert.Kernel.Gen.facts, Cert.KernelIdeal.Gen.facts, Cert.ReferenceIdeal.Gen.facts,
  fun m ρ _ => Cert.Kernel.run_args m ρ, fun m ρ _ => Cert.KernelIdeal.run_args m ρ,
  fun m ρ _ => Cert.ReferenceIdeal.Gen.frame m ρ, preserves_Kernel_KernelIdeal, algebraic_KernelIdeal_ReferenceIdeal⟩

end Cert.Proof

end
